-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v4_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v4_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_v34) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v43) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v72)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v72) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v156) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v2_0)) (v1 : (c : Dev Cert.Kernel6Ideal.nD) → Buf (Elt Ideal) ((c.tc : Thread Cert.Kernel6Ideal.nD Cert.Kernel6Ideal.τ).loc Cert.Kernel6Ideal.main_v2_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2_0) = v0 c
          ∧ r.2.mem ((c.tc : Thread Cert.Kernel6Ideal.nD Cert.Kernel6Ideal.τ).loc Cert.Kernel6Ideal.main_v2_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v46) = v0 c
          ∧ r.2.mem ((c.tc : Thread Cert.Reference6Ideal.nD Cert.Reference6Ideal.τ).loc Cert.Reference6Ideal.main_v48) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1_0)) (v1 : (c : Dev Cert.Kernel7Ideal.nD) → Buf (Elt Ideal) ((c.tc : Thread Cert.Kernel7Ideal.nD Cert.Kernel7Ideal.τ).loc Cert.Kernel7Ideal.main_v1_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1_0) = v0 c
          ∧ r.2.mem ((c.tc : Thread Cert.Kernel7Ideal.nD Cert.Kernel7Ideal.τ).loc Cert.Kernel7Ideal.main_v1_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v48) = v0 c
          ∧ r.2.mem ((c.tc : Thread Cert.Reference7Ideal.nD Cert.Reference7Ideal.τ).loc Cert.Reference7Ideal.main_v49) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v4_0)) (v1 : (c : Dev Cert.Kernel8Ideal.nD) → Buf (Elt Ideal) ((c.tc : Thread Cert.Kernel8Ideal.nD Cert.Kernel8Ideal.τ).loc Cert.Kernel8Ideal.main_v4_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4_0) = v0 c
          ∧ r.2.mem ((c.tc : Thread Cert.Kernel8Ideal.nD Cert.Kernel8Ideal.τ).loc Cert.Kernel8Ideal.main_v4_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v21) = v0 c
          ∧ r.2.mem ((c.tc : Thread Cert.Reference8Ideal.nD Cert.Reference8Ideal.τ).loc Cert.Reference8Ideal.main_v34) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)) →
    ∃ (v0 : (c : Dev Cert.Kernel9Ideal.nD) → Buf (Elt Ideal) ((c.tc : Thread Cert.Kernel9Ideal.nD Cert.Kernel9Ideal.τ).loc Cert.Kernel9Ideal.main_v18_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v18_1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v34) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite_inputs.lean ====
abbrev S16384x7168 : Shape := ⟨2, ![16384, 7168]⟩
abbrev S4x64 : Shape := ⟨2, ![4, 64]⟩
abbrev S128 : Shape := ⟨1, ![128]⟩
abbrev S16384x1536 : Shape := ⟨2, ![16384, 1536]⟩
abbrev S_ : Shape := ⟨0, ![]⟩

class Facts : Prop where
  slices_S16384x7168_S16384x1536_0_1536 : S16384x7168.Slices ![0, 1536] S16384x1536
  bcast_S_S16384x1536 : S_.BroadcastsInDim S16384x1536 (![] : Fin 0 → Fin S16384x1536.rank)
  bcast_S_S4x64 : S_.BroadcastsInDim S4x64 (![] : Fin 0 → Fin S4x64.rank)

variable [Facts]

def fn {F : FTy → Type} [FloatOps F] (main_arg0 : FVec F S16384x7168 .f32) (main_arg1 : FVec F S4x64 .f32) (main_arg2 : FVec F S128 .f32) : IVec S16384x1536 1 × IVec S4x64 1 :=
  let main_v0 : FVec F S16384x1536 .f32 := (extractStridedSlice S16384x1536 ![0, 1536] · slices_S16384x7168_S16384x1536_0_1536) main_arg0
  let main_v1 : FVec F S16384x1536 .f32 := Host.absf main_v0
  let main_cst : FVec F S_ .f32 := constant S_ .f32 0x7F800000#32
  let main_v2 : FVec F S16384x1536 .f32 := broadcastInDim S16384x1536 ![] bcast_S_S16384x1536 main_cst
  let main_v3 : IVec S16384x1536 1 := cmpf .olt main_v1 main_v2
  let main_v4 : FVec F S4x64 .f32 := Host.absf main_arg1
  let main_cst_0 : FVec F S_ .f32 := constant S_ .f32 0x7F800000#32
  let main_v5 : FVec F S4x64 .f32 := broadcastInDim S4x64 ![] bcast_S_S4x64 main_cst_0
  let main_v6 : IVec S4x64 1 := cmpf .olt main_v4 main_v5
  (main_v3, main_v6)
-- ==== Kernel.lean ====
abbrev S16384x7168 : Shape := ⟨2, ![16384, 7168]⟩
abbrev S4x64 : Shape := ⟨2, ![4, 64]⟩
abbrev S128 : Shape := ⟨1, ![128]⟩
abbrev S1x128 : Shape := ⟨2, ![1, 128]⟩
abbrev S16384x512 : Shape := ⟨2, ![16384, 512]⟩
abbrev S512x128 : Shape := ⟨2, ![512, 128]⟩
abbrev S2048x128 : Shape := ⟨2, ![2048, 128]⟩
abbrev S1x64 : Shape := ⟨2, ![1, 64]⟩
abbrev S1 : Shape := ⟨1, ![1]⟩
abbrev S1x1 : Shape := ⟨2, ![1, 1]⟩
abbrev S512x512 : Shape := ⟨2, ![512, 512]⟩
abbrev S512 : Shape := ⟨1, ![512]⟩
abbrev S512x1 : Shape := ⟨2, ![512, 1]⟩
abbrev S1024x128 : Shape := ⟨2, ![1024, 128]⟩
abbrev S512x1024 : Shape := ⟨2, ![512, 1024]⟩
abbrev S1536x128 : Shape := ⟨2, ![1536, 128]⟩
abbrev S512x1536 : Shape := ⟨2, ![512, 1536]⟩

abbrev nBuf : Space → Nat
  | .hbm => 5
  | .vmem => 12
  | .smem => 0
  | _ => 0

abbrev bufTy : (tb : Table) → Fin (tcTables nBuf tb) → BufTy
  | .hbm, ⟨0, _⟩ => ⟨S16384x7168, .f32⟩
  | .hbm, ⟨1, _⟩ => ⟨S4x64, .f32⟩
  | .hbm, ⟨2, _⟩ => ⟨S128, .f32⟩
  | .hbm, ⟨3, _⟩ => ⟨S1x128, .f32⟩
  | .hbm, ⟨4, _⟩ => ⟨S16384x512, .bf16⟩
  | .local _ .vmem, ⟨0, _⟩ => ⟨S512x128, .f32⟩
  | .local _ .vmem, ⟨1, _⟩ => ⟨S512x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S4x64, .f32⟩
  | .local _ .vmem, ⟨7, _⟩ => ⟨S1x128, .f32⟩
  | .local _ .vmem, ⟨8, _⟩ => ⟨S512x128, .bf16⟩
  | .local _ .vmem, ⟨9, _⟩ => ⟨S512x128, .bf16⟩
  | .local _ .vmem, ⟨10, _⟩ => ⟨S2048x128, .bf16⟩
  | .local _ .vmem, ⟨11, _⟩ => ⟨S2048x128, .bf16⟩
  | _, _ => ⟨S16384x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c0_i32_10 : BitVec 32 := 0#32
  let v35 : BitVec 1 := Scalar.cmpi .eq arg2 c0_i32_10
  let v36 : BitVec 32 := Scalar.extui v35
  let c0_i32_11 : BitVec 32 := 0#32
  let v37 : BitVec 1 := Scalar.cmpi .ne v36 c0_i32_11
  v37

def k0_cond3 (i : grid0.Coords) : BitVec 1 :=
  let arg2 : BitVec 32 := BitVec.ofNat 32 (i 2).val
  let c1_i32 : BitVec 32 := 1#32
  let v38 : BitVec 1 := Scalar.cmpi .eq arg2 c1_i32
  let v39 : BitVec 32 := Scalar.extui v38
  let c0_i32_12 : BitVec 32 := 0#32
  let v40 : BitVec 1 := Scalar.cmpi .ne v39 c0_i32_12
  v40

def k0_cond4 (i : grid0.Coords) : BitVec 1 :=
  let arg2 : BitVec 32 := BitVec.ofNat 32 (i 2).val
  let c2_i32 : BitVec 32 := 2#32
  let v41 : BitVec 1 := Scalar.cmpi .eq arg2 c2_i32
  let v42 : BitVec 32 := Scalar.extui v41
  let c0_i32_13 : BitVec 32 := 0#32
  let v43 : BitVec 1 := Scalar.cmpi .ne v42 c0_i32_13
  v43

def k0_cond5 (i : grid0.Coords) : BitVec 1 :=
  let arg2 : BitVec 32 := BitVec.ofNat 32 (i 2).val
  let c3_i32 : BitVec 32 := 3#32
  let v44 : BitVec 1 := Scalar.cmpi .eq arg2 c3_i32
  let v45 : BitVec 32 := Scalar.extui v44
  let c0_i32_14 : BitVec 32 := 0#32
  let v46 : BitVec 1 := Scalar.cmpi .ne v45 c0_i32_14
  v46

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c12_i32 : BitVec 32 := 12#32
  let v2 : BitVec 32 := Scalar.addi c12_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S16384x7168 : Shape := ⟨2, ![16384, 7168]⟩
abbrev S4x64 : Shape := ⟨2, ![4, 64]⟩
abbrev S128 : Shape := ⟨1, ![128]⟩
abbrev S8x2048x7168 : Shape := ⟨3, ![8, 2048, 7168]⟩
abbrev S8x2048x512 : Shape := ⟨3, ![8, 2048, 512]⟩
abbrev S8x2048x4x2x64 : Shape := ⟨5, ![8, 2048, 4, 2, 64]⟩
abbrev S8x2048x4x128 : Shape := ⟨4, ![8, 2048, 4, 128]⟩
abbrev S1x64 : Shape := ⟨2, ![1, 64]⟩
abbrev S64 : Shape := ⟨1, ![64]⟩
abbrev S_ : Shape := ⟨0, ![]⟩
abbrev S8x4x2x2048x2048 : Shape := ⟨5, ![8, 4, 2, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x4x2x2048 : Shape := ⟨4, ![8, 4, 2, 2048]⟩
abbrev S8x4x2x2048x1 : Shape := ⟨5, ![8, 4, 2, 2048, 1]⟩
abbrev S8x4x1x2048x2048 : Shape := ⟨5, ![8, 4, 1, 2048, 2048]⟩
abbrev S8x4x2048x2048 : Shape := ⟨4, ![8, 4, 2048, 2048]⟩
abbrev S8x4x128x2048 : Shape := ⟨4, ![8, 4, 128, 2048]⟩
abbrev S8x2048x4 : Shape := ⟨3, ![8, 2048, 4]⟩
abbrev S8x2048x4x1 : Shape := ⟨4, ![8, 2048, 4, 1]⟩
abbrev S1x1x1x128 : Shape := ⟨4, ![1, 1, 1, 128]⟩
abbrev S16384x512 : Shape := ⟨2, ![16384, 512]⟩

abbrev nBuf : Space → Nat
  | .hbm => 88
  | .vmem => 0
  | .smem => 0
  | _ => 0

abbrev bufTy : (tb : Table) → Fin (tcTables nBuf tb) → BufTy
  | .hbm, ⟨0, _⟩ => ⟨S16384x7168, .f32⟩
  | .hbm, ⟨1, _⟩ => ⟨S4x64, .f32⟩
  | .hbm, ⟨2, _⟩ => ⟨S128, .f32⟩
  | .hbm, ⟨3, _⟩ => ⟨S8x2048x7168, .f32⟩
  | .hbm, ⟨4, _⟩ => ⟨S8x2048x512, .f32⟩
  | .hbm, ⟨5, _⟩ => ⟨S8x2048x4x2x64, .f32⟩
  | .hbm, ⟨6, _⟩ => ⟨S8x2048x512, .f32⟩
  | .hbm, ⟨7, _⟩ => ⟨S8x2048x4x2x64, .f32⟩
  | .hbm, ⟨8, _⟩ => ⟨S8x2048x512, .f32⟩
  | .hbm, ⟨9, _⟩ => ⟨S8x2048x4x128, .f32⟩
  | .hbm, ⟨10, _⟩ => ⟨S1x64, .f32⟩
  | .hbm, ⟨11, _⟩ => ⟨S64, .f32⟩
  | .hbm, ⟨12, _⟩ => ⟨S1x64, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S1x64, .f32⟩
  | .hbm, ⟨19, _⟩ => ⟨S64, .f32⟩
  | .hbm, ⟨20, _⟩ => ⟨S1x64, .f32⟩
  | .hbm, ⟨21, _⟩ => ⟨S64, .f32⟩
  | .hbm, ⟨22, _⟩ => ⟨S64, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S8x4x2x2048x2048, .f32⟩
  | .hbm, ⟨30, _⟩ => ⟨S_, .f32⟩
  | .hbm, ⟨31, _⟩ => ⟨S8x4x2x2048x2048, .f32⟩
  | .hbm, ⟨32, _⟩ => ⟨S8x4x2x2048x2048, .f32⟩
  | .hbm, ⟨33, _⟩ => ⟨S2048, .i32⟩
  | .hbm, ⟨34, _⟩ => ⟨S1x2048, .i32⟩
  | .hbm, ⟨35, _⟩ => ⟨S2048x1, .i32⟩
  | .hbm, ⟨36, _⟩ => ⟨S2048x2048, .i32⟩
  | .hbm, ⟨37, _⟩ => ⟨S2048x2048, .i32⟩
  | .hbm, ⟨38, _⟩ => ⟨S2048x2048, .i1⟩
  | .hbm, ⟨39, _⟩ => ⟨S_, .f32⟩
  | .hbm, ⟨40, _⟩ => ⟨S_, .f32⟩
  | .hbm, ⟨41, _⟩ => ⟨S8x4x2x2048x2048, .i1⟩
  | .hbm, ⟨42, _⟩ => ⟨S8x4x2x2048x2048, .f32⟩
  | .hbm, ⟨43, _⟩ => ⟨S8x4x2x2048x2048, .f32⟩
  | .hbm, ⟨44, _⟩ => ⟨S_, .f32⟩
  | .hbm, ⟨45, _⟩ => ⟨S8x4x2x2048, .f32⟩
  | .hbm, ⟨46, _⟩ => ⟨S_, .f32⟩
  | .hbm, ⟨47, _⟩ => ⟨S8x4x2x2048, .f32⟩
  | .hbm, ⟨48, _⟩ => ⟨S8x4x2x2048, .f32⟩
  | .hbm, ⟨49, _⟩ => ⟨S8x4x2x2048x1, .f32⟩
  | .hbm, ⟨50, _⟩ => ⟨S8x4x2x2048x2048, .f32⟩
  | .hbm, ⟨51, _⟩ => ⟨S8x4x2x2048x2048, .f32⟩
  | .hbm, ⟨52, _⟩ => ⟨S8x4x2x2048x2048, .f32⟩
  | .hbm, ⟨53, _⟩ => ⟨S_, .f32⟩
  | .hbm, ⟨54, _⟩ => ⟨S8x4x2x2048, .f32⟩
  | .hbm, ⟨55, _⟩ => ⟨S8x4x2x2048x1, .f32⟩
  | .hbm, ⟨56, _⟩ => ⟨S8x4x2x2048x2048, .f32⟩
  | .hbm, ⟨57, _⟩ => ⟨S8x4x2x2048x2048, .f32⟩
  | .hbm, ⟨58, _⟩ => ⟨S8x4x1x2048x2048, .f32⟩
  | .hbm, ⟨59, _⟩ => ⟨S8x4x2048x2048, .f32⟩
  | .hbm, ⟨60, _⟩ => ⟨S8x4x1x2048x2048, .f32⟩
  | .hbm, ⟨61, _⟩ => ⟨S8x4x2048x2048, .f32⟩
  | .hbm, ⟨62, _⟩ => ⟨S8x4x2048x2048, .f32⟩
  | .hbm, ⟨63, _⟩ => ⟨S8x4x2048x2048, .f32⟩
  | .hbm, ⟨64, _⟩ => ⟨S8x4x2048x2048, .f32⟩
  | .hbm, ⟨65, _⟩ => ⟨S8x4x128x2048, .f32⟩
  | .hbm, ⟨66, _⟩ => ⟨S8x2048x4x128, .f32⟩
  | .hbm, ⟨67, _⟩ => ⟨S8x2048x4x128, .f32⟩
  | .hbm, ⟨68, _⟩ => ⟨S_, .f32⟩
  | .hbm, ⟨69, _⟩ => ⟨S8x2048x4, .f32⟩
  | .hbm, ⟨70, _⟩ => ⟨S8x2048x4x1, .f32⟩
  | .hbm, ⟨71, _⟩ => ⟨S_, .f32⟩
  | .hbm, ⟨72, _⟩ => ⟨S8x2048x4x1, .f32⟩
  | .hbm, ⟨73, _⟩ => ⟨S8x2048x4x1, .f32⟩
  | .hbm, ⟨74, _⟩ => ⟨S_, .f32⟩
  | .hbm, ⟨75, _⟩ => ⟨S8x2048x4x1, .f32⟩
  | .hbm, ⟨76, _⟩ => ⟨S8x2048x4x1, .f32⟩
  | .hbm, ⟨77, _⟩ => ⟨S8x2048x4x1, .f32⟩
  | .hbm, ⟨78, _⟩ => ⟨S8x2048x4x128, .f32⟩
  | .hbm, ⟨79, _⟩ => ⟨S8x2048x4x128, .f32⟩
  | .hbm, ⟨80, _⟩ => ⟨S1x1x1x128, .f32⟩
  | .hbm, ⟨81, _⟩ => ⟨S8x2048x4x128, .f32⟩
  | .hbm, ⟨82, _⟩ => ⟨S8x2048x4x128, .f32⟩
  | .hbm, ⟨83, _⟩ => ⟨S_, .f32⟩
  | .hbm, ⟨84, _⟩ => ⟨S8x2048x4x128, .f32⟩
  | .hbm, ⟨85, _⟩ => ⟨S8x2048x4x128, .f32⟩
  | .hbm, ⟨86, _⟩ => ⟨S16384x512, .f32⟩
  | .hbm, ⟨87, _⟩ => ⟨S16384x512, .bf16⟩
  | _, _ => ⟨S16384x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_0 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_1 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_3 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_7 : Ref sig .tc := ⟨.hbm, 68, rfl⟩
abbrev main_v54 : Ref sig .tc := ⟨.hbm, 69, rfl⟩
abbrev main_v55 : Ref sig .tc := ⟨.hbm, 70, rfl⟩
abbrev main_cst_8 : Ref sig .tc := ⟨.hbm, 71, rfl⟩
abbrev main_v56 : Ref sig .tc := ⟨.hbm, 72, rfl⟩
abbrev main_v57 : Ref sig .tc := ⟨.hbm, 73, rfl⟩
abbrev main_cst_9 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_10 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩

abbrev nD : Nat := 1
abbrev τ : Topo := Topo.v7x

variable {F : FTy → Type} [FloatOps F]
-- ==== Kernel2.lean ====
abbrev S16384x2048 : Shape := ⟨2, ![16384, 2048]⟩
abbrev S2048 : Shape := ⟨1, ![2048]⟩
abbrev S2048x11264 : Shape := ⟨2, ![2048, 11264]⟩
abbrev S5632x2048 : Shape := ⟨2, ![5632, 2048]⟩
abbrev S1x2048 : Shape := ⟨2, ![1, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S2048x256 : Shape := ⟨2, ![2048, 256]⟩
abbrev S512x256 : Shape := ⟨2, ![512, 256]⟩
abbrev S256x2048 : Shape := ⟨2, ![256, 2048]⟩

abbrev nBuf : Space → Nat
  | .hbm => 11
  | .vmem => 15
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x11264, .f32⟩
  | .hbm, ⟨3, _⟩ => ⟨S5632x2048, .f32⟩
  | .hbm, ⟨4, _⟩ => ⟨S2048, .f32⟩
  | .hbm, ⟨5, _⟩ => ⟨S2048x11264, .bf16⟩
  | .hbm, ⟨6, _⟩ => ⟨S5632x2048, .bf16⟩
  | .hbm, ⟨7, _⟩ => ⟨S1x2048, .f32⟩
  | .hbm, ⟨8, _⟩ => ⟨S1x2048, .f32⟩
  | .hbm, ⟨9, _⟩ => ⟨S16384x2048, .f32⟩
  | .hbm, ⟨10, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v51 : BitVec 1 := Scalar.cmpi .eq arg1 c10_i32
  let v52 : BitVec 32 := Scalar.extui v51
  let c0_i32_30 : BitVec 32 := 0#32
  let v53 : BitVec 1 := Scalar.cmpi .ne v52 c0_i32_30
  v53

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference2Ideal.lean ====
abbrev S16384x2048 : Shape := ⟨2, ![16384, 2048]⟩
abbrev S2048 : Shape := ⟨1, ![2048]⟩
abbrev S2048x11264 : Shape := ⟨2, ![2048, 11264]⟩
abbrev S5632x2048 : Shape := ⟨2, ![5632, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x11264 : Shape := ⟨2, ![16384, 11264]⟩
abbrev S16384x5632 : Shape := ⟨2, ![16384, 5632]⟩

abbrev nBuf : Space → Nat
  | .hbm => 55
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x11264, .f32⟩
  | .hbm, ⟨3, _⟩ => ⟨S5632x2048, .f32⟩
  | .hbm, ⟨4, _⟩ => ⟨S2048, .f32⟩
  | .hbm, ⟨5, _⟩ => ⟨S16384x2048, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S1x2048, .f32⟩
  | .hbm, ⟨19, _⟩ => ⟨S16384x2048, .f32⟩
  | .hbm, ⟨20, _⟩ => ⟨S16384x2048, .f32⟩
  | .hbm, ⟨21, _⟩ => ⟨S16384x11264, .f32⟩
  | .hbm, ⟨22, _⟩ => ⟨S16384x5632, .f32⟩
  | .hbm, ⟨23, _⟩ => ⟨S16384x5632, .f32⟩
  | .hbm, ⟨24, _⟩ => ⟨S16384x5632, .f32⟩
  | .hbm, ⟨25, _⟩ => ⟨S16384x5632, .f32⟩
  | .hbm, ⟨26, _⟩ => ⟨S_, .f32⟩
  | .hbm, ⟨27, _⟩ => ⟨S16384x5632, .f32⟩
  | .hbm, ⟨28, _⟩ => ⟨S16384x5632, .f32⟩
  | .hbm, ⟨29, _⟩ => ⟨S_, .f32⟩
  | .hbm, ⟨30, _⟩ => ⟨S16384x5632, .f32⟩
  | .hbm, ⟨31, _⟩ => ⟨S16384x5632, .f32⟩
  | .hbm, ⟨32, _⟩ => ⟨S16384x5632, .f32⟩
  | .hbm, ⟨33, _⟩ => ⟨S16384x5632, .f32⟩
  | .hbm, ⟨34, _⟩ => ⟨S16384x2048, .f32⟩
  | .hbm, ⟨35, _⟩ => ⟨S_, .f32⟩
  | .hbm, ⟨36, _⟩ => ⟨S16384x2048, .f32⟩
  | .hbm, ⟨37, _⟩ => ⟨S16384x2048, .f32⟩
  | .hbm, ⟨38, _⟩ => ⟨S16384x2048, .f32⟩
  | .hbm, ⟨39, _⟩ => ⟨S16384x2048, .f32⟩
  | .hbm, ⟨40, _⟩ => ⟨S_, .f32⟩
  | .hbm, ⟨41, _⟩ => ⟨S16384, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S16384x1, .f32⟩
  | .hbm, ⟨50, _⟩ => ⟨S16384x2048, .f32⟩
  | .hbm, ⟨51, _⟩ => ⟨S16384x2048, .f32⟩
  | .hbm, ⟨52, _⟩ => ⟨S1x2048, .f32⟩
  | .hbm, ⟨53, _⟩ => ⟨S16384x2048, .f32⟩
  | .hbm, ⟨54, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩

abbrev nD : Nat := 1
abbrev τ : Topo := Topo.v7x

variable {F : FTy → Type} [FloatOps F]
-- ==== Kernel3.lean ====
abbrev S16384x2048 : Shape := ⟨2, ![16384, 2048]⟩
abbrev S16384x512 : Shape := ⟨2, ![16384, 512]⟩
abbrev S2048x14864 : Shape := ⟨2, ![2048, 14864]⟩
abbrev S4x512x2048 : Shape := ⟨3, ![4, 512, 2048]⟩
abbrev S2048x8192 : Shape := ⟨2, ![2048, 8192]⟩
abbrev S2048x4x2048 : Shape := ⟨3, ![2048, 4, 2048]⟩
abbrev S4x2048x2048 : Shape := ⟨3, ![4, 2048, 2048]⟩
abbrev S512x2048 : Shape := ⟨2, ![512, 2048]⟩
abbrev S512x512 : Shape := ⟨2, ![512, 512]⟩
abbrev S4x2048x256 : Shape := ⟨3, ![4, 2048, 256]⟩
abbrev S4x512x256 : Shape := ⟨3, ![4, 512, 256]⟩
abbrev S512x256 : Shape := ⟨2, ![512, 256]⟩
abbrev S1x2048x256 : Shape := ⟨3, ![1, 2048, 256]⟩
abbrev S2048x256 : Shape := ⟨2, ![2048, 256]⟩
abbrev S1x512x256 : Shape := ⟨3, ![1, 512, 256]⟩

abbrev nBuf : Space → Nat
  | .hbm => 13
  | .vmem => 16
  | .smem => 0
  | _ => 0

abbrev bufTy : (tb : Table) → Fin (tcTables nBuf tb) → BufTy
  | .hbm, ⟨0, _⟩ => ⟨S16384x2048, .bf16⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S16384x512, .bf16⟩
  | .hbm, ⟨5, _⟩ => ⟨S2048x14864, .f32⟩
  | .hbm, ⟨6, _⟩ => ⟨S4x512x2048, .f32⟩
  | .hbm, ⟨7, _⟩ => ⟨S2048x8192, .f32⟩
  | .hbm, ⟨8, _⟩ => ⟨S2048x4x2048, .f32⟩
  | .hbm, ⟨9, _⟩ => ⟨S4x2048x2048, .f32⟩
  | .hbm, ⟨10, _⟩ => ⟨S4x2048x2048, .bf16⟩
  | .hbm, ⟨11, _⟩ => ⟨S4x512x2048, .bf16⟩
  | .hbm, ⟨12, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S4x2048x256, .bf16⟩
  | .local _ .vmem, ⟨11, _⟩ => ⟨S4x2048x256, .bf16⟩
  | .local _ .vmem, ⟨12, _⟩ => ⟨S4x512x256, .bf16⟩
  | .local _ .vmem, ⟨13, _⟩ => ⟨S4x512x256, .bf16⟩
  | .local _ .vmem, ⟨14, _⟩ => ⟨S512x256, .bf16⟩
  | .local _ .vmem, ⟨15, _⟩ => ⟨S512x256, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4x2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S4x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference3Ideal.lean ====
abbrev S16384x2048 : Shape := ⟨2, ![16384, 2048]⟩
abbrev S16384x512 : Shape := ⟨2, ![16384, 512]⟩
abbrev S2048x14864 : Shape := ⟨2, ![2048, 14864]⟩
abbrev S4x512x2048 : Shape := ⟨3, ![4, 512, 2048]⟩
abbrev S2048x8192 : Shape := ⟨2, ![2048, 8192]⟩
abbrev S16384x8192 : Shape := ⟨2, ![16384, 8192]⟩
abbrev S16384x4x2048 : Shape := ⟨3, ![16384, 4, 2048]⟩
abbrev S_ : Shape := ⟨0, ![]⟩
abbrev S16384x1x2048 : Shape := ⟨3, ![16384, 1, 2048]⟩
abbrev S1x512x2048 : Shape := ⟨3, ![1, 512, 2048]⟩
abbrev S512x2048 : Shape := ⟨2, ![512, 2048]⟩

abbrev nBuf : Space → Nat
  | .hbm => 54
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S16384x512, .bf16⟩
  | .hbm, ⟨5, _⟩ => ⟨S2048x14864, .f32⟩
  | .hbm, ⟨6, _⟩ => ⟨S4x512x2048, .f32⟩
  | .hbm, ⟨7, _⟩ => ⟨S16384x2048, .f32⟩
  | .hbm, ⟨8, _⟩ => ⟨S2048x8192, .f32⟩
  | .hbm, ⟨9, _⟩ => ⟨S16384x8192, .f32⟩
  | .hbm, ⟨10, _⟩ => ⟨S16384x4x2048, .f32⟩
  | .hbm, ⟨11, _⟩ => ⟨S16384x4x2048, .f32⟩
  | .hbm, ⟨12, _⟩ => ⟨S16384x4x2048, .f32⟩
  | .hbm, ⟨13, _⟩ => ⟨S_, .f32⟩
  | .hbm, ⟨14, _⟩ => ⟨S16384x4x2048, .f32⟩
  | .hbm, ⟨15, _⟩ => ⟨S16384x4x2048, .f32⟩
  | .hbm, ⟨16, _⟩ => ⟨S_, .f32⟩
  | .hbm, ⟨17, _⟩ => ⟨S16384x4x2048, .f32⟩
  | .hbm, ⟨18, _⟩ => ⟨S16384x4x2048, .f32⟩
  | .hbm, ⟨19, _⟩ => ⟨S_, .f32⟩
  | .hbm, ⟨20, _⟩ => ⟨S16384x2048, .f32⟩
  | .hbm, ⟨21, _⟩ => ⟨S16384x1x2048, .f32⟩
  | .hbm, ⟨22, _⟩ => ⟨S16384x2048, .f32⟩
  | .hbm, ⟨23, _⟩ => ⟨S16384x512, .f32⟩
  | .hbm, ⟨24, _⟩ => ⟨S1x512x2048, .f32⟩
  | .hbm, ⟨25, _⟩ => ⟨S512x2048, .f32⟩
  | .hbm, ⟨26, _⟩ => ⟨S16384x2048, .f32⟩
  | .hbm, ⟨27, _⟩ => ⟨S16384x2048, .f32⟩
  | .hbm, ⟨28, _⟩ => ⟨S16384x2048, .f32⟩
  | .hbm, ⟨29, _⟩ => ⟨S16384x1x2048, .f32⟩
  | .hbm, ⟨30, _⟩ => ⟨S16384x2048, .f32⟩
  | .hbm, ⟨31, _⟩ => ⟨S16384x512, .f32⟩
  | .hbm, ⟨32, _⟩ => ⟨S1x512x2048, .f32⟩
  | .hbm, ⟨33, _⟩ => ⟨S512x2048, .f32⟩
  | .hbm, ⟨34, _⟩ => ⟨S16384x2048, .f32⟩
  | .hbm, ⟨35, _⟩ => ⟨S16384x2048, .f32⟩
  | .hbm, ⟨36, _⟩ => ⟨S16384x2048, .f32⟩
  | .hbm, ⟨37, _⟩ => ⟨S16384x1x2048, .f32⟩
  | .hbm, ⟨38, _⟩ => ⟨S16384x2048, .f32⟩
  | .hbm, ⟨39, _⟩ => ⟨S16384x512, .f32⟩
  | .hbm, ⟨40, _⟩ => ⟨S1x512x2048, .f32⟩
  | .hbm, ⟨41, _⟩ => ⟨S512x2048, .f32⟩
  | .hbm, ⟨42, _⟩ => ⟨S16384x2048, .f32⟩
  | .hbm, ⟨43, _⟩ => ⟨S16384x2048, .f32⟩
  | .hbm, ⟨44, _⟩ => ⟨S16384x2048, .f32⟩
  | .hbm, ⟨45, _⟩ => ⟨S16384x1x2048, .f32⟩
  | .hbm, ⟨46, _⟩ => ⟨S16384x2048, .f32⟩
  | .hbm, ⟨47, _⟩ => ⟨S16384x512, .f32⟩
  | .hbm, ⟨48, _⟩ => ⟨S1x512x2048, .f32⟩
  | .hbm, ⟨49, _⟩ => ⟨S512x2048, .f32⟩
  | .hbm, ⟨50, _⟩ => ⟨S16384x2048, .f32⟩
  | .hbm, ⟨51, _⟩ => ⟨S16384x2048, .f32⟩
  | .hbm, ⟨52, _⟩ => ⟨S16384x2048, .f32⟩
  | .hbm, ⟨53, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩

abbrev nD : Nat := 1
abbrev τ : Topo := Topo.v7x

variable {F : FTy → Type} [FloatOps F]
-- ==== Kernel4.lean ====
abbrev S16384x2048 : Shape := ⟨2, ![16384, 2048]⟩
abbrev S2048x2048 : Shape := ⟨2, ![2048, 2048]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 5
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .hbm, ⟨3, _⟩ => ⟨S2048x2048, .bf16⟩
  | .hbm, ⟨4, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S16384x2048 : Shape := ⟨2, ![16384, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .hbm, ⟨3, _⟩ => ⟨S16384x2048, .f32⟩
  | .hbm, ⟨4, _⟩ => ⟨S16384x2048, .f32⟩
  | .hbm, ⟨5, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel5.lean ====
abbrev S32x2048 : Shape := ⟨2, ![32, 2048]⟩
abbrev S2048x14864 : Shape := ⟨2, ![2048, 14864]⟩
abbrev S2048x6144 : Shape := ⟨2, ![2048, 6144]⟩
abbrev S2048x512 : Shape := ⟨2, ![2048, 512]⟩
abbrev S2048x8 : Shape := ⟨2, ![2048, 8]⟩
abbrev S_ : Shape := ⟨0, ![]⟩
abbrev S2048x496 : Shape := ⟨2, ![2048, 496]⟩
abbrev S2048x7168 : Shape := ⟨2, ![2048, 7168]⟩
abbrev S32 : Shape := ⟨1, ![32]⟩
abbrev S16 : Shape := ⟨1, ![16]⟩
abbrev S32x1 : Shape := ⟨2, ![32, 1]⟩
abbrev S1x16 : Shape := ⟨2, ![1, 16]⟩
abbrev S32x16 : Shape := ⟨2, ![32, 16]⟩
abbrev S32x96 : Shape := ⟨2, ![32, 96]⟩
abbrev S32x128 : Shape := ⟨2, ![32, 128]⟩
abbrev S1x32x1x128 : Shape := ⟨4, ![1, 32, 1, 128]⟩
abbrev S8 : Shape := ⟨1, ![8]⟩
abbrev S1x8 : Shape := ⟨2, ![1, 8]⟩
abbrev S32x8 : Shape := ⟨2, ![32, 8]⟩
abbrev S32x48 : Shape := ⟨2, ![32, 48]⟩
abbrev S32x64 : Shape := ⟨2, ![32, 64]⟩
abbrev S1x32x1x64 : Shape := ⟨4, ![1, 32, 1, 64]⟩
abbrev S1x32x2x64 : Shape := ⟨4, ![1, 32, 2, 64]⟩
abbrev S32x7168 : Shape := ⟨2, ![32, 7168]⟩
abbrev S32x512 : Shape := ⟨2, ![32, 512]⟩
abbrev S2048x256 : Shape := ⟨2, ![2048, 256]⟩
abbrev S32x256 : Shape := ⟨2, ![32, 256]⟩

abbrev nBuf : Space → Nat
  | .hbm => 91
  | .vmem => 11
  | .smem => 0
  | _ => 0

abbrev bufTy : (tb : Table) → Fin (tcTables nBuf tb) → BufTy
  | .hbm, ⟨0, _⟩ => ⟨S32x2048, .bf16⟩
  | .hbm, ⟨1, _⟩ => ⟨S2048x14864, .f32⟩
  | .hbm, ⟨2, _⟩ => ⟨S2048x6144, .f32⟩
  | .hbm, ⟨3, _⟩ => ⟨S2048x512, .f32⟩
  | .hbm, ⟨4, _⟩ => ⟨S2048x8, .f32⟩
  | .hbm, ⟨5, _⟩ => ⟨S2048x8, .f32⟩
  | .hbm, ⟨6, _⟩ => ⟨S_, .f32⟩
  | .hbm, ⟨7, _⟩ => ⟨S2048x496, .f32⟩
  | .hbm, ⟨8, _⟩ => ⟨S2048x7168, .f32⟩
  | .hbm, ⟨9, _⟩ => ⟨S2048x7168, .bf16⟩
  | .hbm, ⟨10, _⟩ => ⟨S_, .i32⟩
  | .hbm, ⟨11, _⟩ => ⟨S32, .i32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S32, .f32⟩
  | .hbm, ⟨23, _⟩ => ⟨S32x1, .f32⟩
  | .hbm, ⟨24, _⟩ => ⟨S1x16, .f32⟩
  | .hbm, ⟨25, _⟩ => ⟨S32x16, .f32⟩
  | .hbm, ⟨26, _⟩ => ⟨S32x16, .f32⟩
  | .hbm, ⟨27, _⟩ => ⟨S32x16, .f32⟩
  | .hbm, ⟨28, _⟩ => ⟨S32x16, .f32⟩
  | .hbm, ⟨29, _⟩ => ⟨S32x16, .f32⟩
  | .hbm, ⟨30, _⟩ => ⟨S_, .f32⟩
  | .hbm, ⟨31, _⟩ => ⟨S32x16, .f32⟩
  | .hbm, ⟨32, _⟩ => ⟨S_, .f32⟩
  | .hbm, ⟨33, _⟩ => ⟨S32x96, .f32⟩
  | .hbm, ⟨34, _⟩ => ⟨S32x128, .f32⟩
  | .hbm, ⟨35, _⟩ => ⟨S_, .f32⟩
  | .hbm, ⟨36, _⟩ => ⟨S32x96, .f32⟩
  | .hbm, ⟨37, _⟩ => ⟨S32x128, .f32⟩
  | .hbm, ⟨38, _⟩ => ⟨S32x16, .f32⟩
  | .hbm, ⟨39, _⟩ => ⟨S_, .f32⟩
  | .hbm, ⟨40, _⟩ => ⟨S32x96, .f32⟩
  | .hbm, ⟨41, _⟩ => ⟨S32x128, .f32⟩
  | .hbm, ⟨42, _⟩ => ⟨S1x32x1x128, .f32⟩
  | .hbm, ⟨43, _⟩ => ⟨S1x32x1x128, .f32⟩
  | .hbm, ⟨44, _⟩ => ⟨S32x128, .f32⟩
  | .hbm, ⟨45, _⟩ => ⟨S1x32x1x128, .f32⟩
  | .hbm, ⟨46, _⟩ => ⟨S1x32x1x128, .f32⟩
  | .hbm, ⟨47, _⟩ => ⟨S32x128, .f32⟩
  | .hbm, ⟨48, _⟩ => ⟨S1x32x1x128, .f32⟩
  | .hbm, ⟨49, _⟩ => ⟨S1x32x1x128, .f32⟩
  | .hbm, ⟨50, _⟩ => ⟨S32x128, .f32⟩
  | .hbm, ⟨51, _⟩ => ⟨S8, .f32⟩
  | .hbm, ⟨52, _⟩ => ⟨S_, .f32⟩
  | .hbm, ⟨53, _⟩ => ⟨S8, .f32⟩
  | .hbm, ⟨54, _⟩ => ⟨S8, .f32⟩
  | .hbm, ⟨55, _⟩ => ⟨S_, .f32⟩
  | .hbm, ⟨56, _⟩ => ⟨S8, .f32⟩
  | .hbm, ⟨57, _⟩ => ⟨S8, .f32⟩
  | .hbm, ⟨58, _⟩ => ⟨S_, .f32⟩
  | .hbm, ⟨59, _⟩ => ⟨S8, .f32⟩
  | .hbm, ⟨60, _⟩ => ⟨S8, .f32⟩
  | .hbm, ⟨61, _⟩ => ⟨S32, .f32⟩
  | .hbm, ⟨62, _⟩ => ⟨S32x1, .f32⟩
  | .hbm, ⟨63, _⟩ => ⟨S1x8, .f32⟩
  | .hbm, ⟨64, _⟩ => ⟨S32x8, .f32⟩
  | .hbm, ⟨65, _⟩ => ⟨S32x8, .f32⟩
  | .hbm, ⟨66, _⟩ => ⟨S32x8, .f32⟩
  | .hbm, ⟨67, _⟩ => ⟨S32x8, .f32⟩
  | .hbm, ⟨68, _⟩ => ⟨S32x8, .f32⟩
  | .hbm, ⟨69, _⟩ => ⟨S_, .f32⟩
  | .hbm, ⟨70, _⟩ => ⟨S32x8, .f32⟩
  | .hbm, ⟨71, _⟩ => ⟨S_, .f32⟩
  | .hbm, ⟨72, _⟩ => ⟨S32x48, .f32⟩
  | .hbm, ⟨73, _⟩ => ⟨S32x64, .f32⟩
  | .hbm, ⟨74, _⟩ => ⟨S_, .f32⟩
  | .hbm, ⟨75, _⟩ => ⟨S32x48, .f32⟩
  | .hbm, ⟨76, _⟩ => ⟨S32x64, .f32⟩
  | .hbm, ⟨77, _⟩ => ⟨S32x8, .f32⟩
  | .hbm, ⟨78, _⟩ => ⟨S_, .f32⟩
  | .hbm, ⟨79, _⟩ => ⟨S32x48, .f32⟩
  | .hbm, ⟨80, _⟩ => ⟨S32x64, .f32⟩
  | .hbm, ⟨81, _⟩ => ⟨S1x32x1x64, .f32⟩
  | .hbm, ⟨82, _⟩ => ⟨S1x32x2x64, .f32⟩
  | .hbm, ⟨83, _⟩ => ⟨S32x128, .f32⟩
  | .hbm, ⟨84, _⟩ => ⟨S1x32x1x64, .f32⟩
  | .hbm, ⟨85, _⟩ => ⟨S1x32x2x64, .f32⟩
  | .hbm, ⟨86, _⟩ => ⟨S32x128, .f32⟩
  | .hbm, ⟨87, _⟩ => ⟨S1x32x1x64, .f32⟩
  | .hbm, ⟨88, _⟩ => ⟨S1x32x2x64, .f32⟩
  | .hbm, ⟨89, _⟩ => ⟨S32x128, .f32⟩
  | .hbm, ⟨90, _⟩ => ⟨S32x7168, .f32⟩
  | .local _ .vmem, ⟨0, _⟩ => ⟨S32x2048, .bf16⟩
  | .local _ .vmem, ⟨1, _⟩ => ⟨S2048x512, .bf16⟩
  | .local _ .vmem, ⟨2, _⟩ => ⟨S2048x512, .bf16⟩
  | .local _ .vmem, ⟨3, _⟩ => ⟨S32x128, .f32⟩
  | .local _ .vmem, ⟨4, _⟩ => ⟨S32x128, .f32⟩
  | .local _ .vmem, ⟨5, _⟩ => ⟨S32x128, .f32⟩
  | .local _ .vmem, ⟨6, _⟩ => ⟨S32x128, .f32⟩
  | .local _ .vmem, ⟨7, _⟩ => ⟨S32x128, .f32⟩
  | .local _ .vmem, ⟨8, _⟩ => ⟨S32x128, .f32⟩
  | .local _ .vmem, ⟨9, _⟩ => ⟨S32x512, .f32⟩
  | .local _ .vmem, ⟨10, _⟩ => ⟨S32x512, .f32⟩
  | _, _ => ⟨S32x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_7 : Ref sig .tc := ⟨.hbm, 52, rfl⟩
abbrev main_v41 : Ref sig .tc := ⟨.hbm, 53, rfl⟩
abbrev main_v42 : Ref sig .tc := ⟨.hbm, 54, rfl⟩
abbrev main_cst_8 : Ref sig .tc := ⟨.hbm, 55, rfl⟩
abbrev main_v43 : Ref sig .tc := ⟨.hbm, 56, rfl⟩
abbrev main_v44 : Ref sig .tc := ⟨.hbm, 57, rfl⟩
abbrev main_cst_9 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_10 : Ref sig .tc := ⟨.hbm, 69, rfl⟩
abbrev main_v55 : Ref sig .tc := ⟨.hbm, 70, rfl⟩
abbrev main_cst_11 : Ref sig .tc := ⟨.hbm, 71, rfl⟩
abbrev main_v56 : Ref sig .tc := ⟨.hbm, 72, rfl⟩
abbrev main_v57 : Ref sig .tc := ⟨.hbm, 73, rfl⟩
abbrev main_cst_12 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_13 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨2, ![1, 14], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c2_i32 : BitVec 32 := 2#32
  let v6 : BitVec 1 := Scalar.cmpi .eq arg1 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_3 : BitVec 32 := 0#32
  let v11 : BitVec 1 := Scalar.cmpi .ne v10 c0_i32_3
  v11

def k0_cond5 (i : grid0.Coords) : BitVec 1 :=
  let arg1 : BitVec 32 := BitVec.ofNat 32 (i 1).val
  let c4_i32 : BitVec 32 := 4#32
  let v12 : BitVec 1 := Scalar.cmpi .eq arg1 c4_i32
  let v13 : BitVec 32 := Scalar.extui v12
  let c0_i32_4 : BitVec 32 := 0#32
  let v14 : BitVec 1 := Scalar.cmpi .ne v13 c0_i32_4
  v14

def k0_cond6 (i : grid0.Coords) : BitVec 1 :=
  let arg1 : BitVec 32 := BitVec.ofNat 32 (i 1).val
  let c5_i32 : BitVec 32 := 5#32
  let v15 : BitVec 1 := Scalar.cmpi .eq arg1 c5_i32
  let v16 : BitVec 32 := Scalar.extui v15
  let c0_i32_5 : BitVec 32 := 0#32
  let v17 : BitVec 1 := Scalar.cmpi .ne v16 c0_i32_5
  v17

def k0_cond7 (i : grid0.Coords) : BitVec 1 :=
  let arg1 : BitVec 32 := BitVec.ofNat 32 (i 1).val
  let c6_i32 : BitVec 32 := 6#32
  let v18 : BitVec 1 := Scalar.cmpi .sge arg1 c6_i32
  let v19 : BitVec 32 := Scalar.extui v18
  let c0_i32_6 : BitVec 32 := 0#32
  let v20 : BitVec 1 := Scalar.cmpi .ne v19 c0_i32_6
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S32x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S32x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S32x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference5Ideal.lean ====
abbrev S32x2048 : Shape := ⟨2, ![32, 2048]⟩
abbrev S2048x14864 : Shape := ⟨2, ![2048, 14864]⟩
abbrev S32x14864 : Shape := ⟨2, ![32, 14864]⟩
abbrev S32x1x14864 : Shape := ⟨3, ![32, 1, 14864]⟩
abbrev S1 : Shape := ⟨1, ![1]⟩
abbrev S_ : Shape := ⟨0, ![]⟩
abbrev S32x1x512 : Shape := ⟨3, ![32, 1, 512]⟩
abbrev S32x1x4x128 : Shape := ⟨4, ![32, 1, 4, 128]⟩
abbrev S16 : Shape := ⟨1, ![16]⟩
abbrev S1x1 : Shape := ⟨2, ![1, 1]⟩
abbrev S1x16 : Shape := ⟨2, ![1, 16]⟩
abbrev S1x1x1x16 : Shape := ⟨4, ![1, 1, 1, 16]⟩
abbrev S32x1x4x16 : Shape := ⟨4, ![32, 1, 4, 16]⟩
abbrev S32x1x4x96 : Shape := ⟨4, ![32, 1, 4, 96]⟩
abbrev S32x1x4x2x64 : Shape := ⟨5, ![32, 1, 4, 2, 64]⟩
abbrev S8 : Shape := ⟨1, ![8]⟩
abbrev S1x8 : Shape := ⟨2, ![1, 8]⟩
abbrev S1x1x1x1x8 : Shape := ⟨5, ![1, 1, 1, 1, 8]⟩
abbrev S32x1x4x2x8 : Shape := ⟨5, ![32, 1, 4, 2, 8]⟩
abbrev S32x1x4x2x48 : Shape := ⟨5, ![32, 1, 4, 2, 48]⟩
abbrev S32x1x2560 : Shape := ⟨3, ![32, 1, 2560]⟩
abbrev S32x1x4 : Shape := ⟨3, ![32, 1, 4]⟩
abbrev S32x1x8 : Shape := ⟨3, ![32, 1, 8]⟩
abbrev S32x1x496 : Shape := ⟨3, ![32, 1, 496]⟩
abbrev S32x512 : Shape := ⟨2, ![32, 512]⟩
abbrev S32x2560 : Shape := ⟨2, ![32, 2560]⟩
abbrev S32x4 : Shape := ⟨2, ![32, 4]⟩
abbrev S32x8 : Shape := ⟨2, ![32, 8]⟩
abbrev S32x496 : Shape := ⟨2, ![32, 496]⟩
abbrev S32x7168 : Shape := ⟨2, ![32, 7168]⟩

abbrev nBuf : Space → Nat
  | .hbm => 173
  | .vmem => 0
  | .smem => 0
  | _ => 0

abbrev hbmTy0_0 (i : Nat) : BufTy := match i % 128 with
  | 0 => ⟨S32x2048, .bf16⟩
  | 1 => ⟨S2048x14864, .f32⟩
  | 2 => ⟨S32x2048, .f32⟩
  | 3 => ⟨S32x14864, .f32⟩
  | 4 => ⟨S32x1x14864, .f32⟩
  | 5 => ⟨S1, .i32⟩
  | 6 => ⟨S_, .i32⟩
  | 7 => ⟨S1, .i32⟩
  | 8 => ⟨S1, .i32⟩
  | 9 => ⟨S32x1x512, .f32⟩
  | 10 => ⟨S32x1x4x128, .f32⟩
  | 11 => ⟨S16, .f32⟩
  | 12 => ⟨S_, .f32⟩
  | 13 => ⟨S16, .f32⟩
  | 14 => ⟨S16, .f32⟩
  | 15 => ⟨S_, .f32⟩
  | 16 => ⟨S16, .f32⟩
  | 17 => ⟨S16, .f32⟩
  | 18 => ⟨S_, .f32⟩
  | 19 => ⟨S16, .f32⟩
  | 20 => ⟨S16, .f32⟩
  | 21 => ⟨S1, .f32⟩
  | 22 => ⟨S1x1, .f32⟩
  | 23 => ⟨S1x16, .f32⟩
  | 24 => ⟨S1x16, .f32⟩
  | 25 => ⟨S1x16, .f32⟩
  | 26 => ⟨S1x16, .f32⟩
  | 27 => ⟨S1x1x1x16, .f32⟩
  | 28 => ⟨S1x16, .f32⟩
  | 29 => ⟨S1x1x1x16, .f32⟩
  | 30 => ⟨S32x1x4x16, .f32⟩
  | 31 => ⟨S32x1x4x16, .f32⟩
  | 32 => ⟨S32x1x4x16, .f32⟩
  | 33 => ⟨S32x1x4x16, .f32⟩
  | 34 => ⟨S32x1x4x16, .f32⟩
  | 35 => ⟨S32x1x4x16, .f32⟩
  | 36 => ⟨S32x1x4x16, .f32⟩
  | 37 => ⟨S32x1x4x16, .f32⟩
  | 38 => ⟨S32x1x4x16, .f32⟩
  | 39 => ⟨S32x1x4x16, .f32⟩
  | 40 => ⟨S32x1x4x16, .f32⟩
  | 41 => ⟨S32x1x4x16, .f32⟩
  | 42 => ⟨S32x1x4x96, .f32⟩
  | 43 => ⟨S32x1x4x128, .f32⟩
  | 44 => ⟨S32x1x512, .f32⟩
  | 45 => ⟨S32x1x4x128, .f32⟩
  | 46 => ⟨S16, .f32⟩
  | 47 => ⟨S_, .f32⟩
  | 48 => ⟨S16, .f32⟩
  | 49 => ⟨S16, .f32⟩
  | 50 => ⟨S_, .f32⟩
  | 51 => ⟨S16, .f32⟩
  | 52 => ⟨S16, .f32⟩
  | 53 => ⟨S_, .f32⟩
  | 54 => ⟨S16, .f32⟩
  | 55 => ⟨S16, .f32⟩
  | 56 => ⟨S1, .f32⟩
  | 57 => ⟨S1x1, .f32⟩
  | 58 => ⟨S1x16, .f32⟩
  | 59 => ⟨S1x16, .f32⟩
  | 60 => ⟨S1x16, .f32⟩
  | 61 => ⟨S1x16, .f32⟩
  | 62 => ⟨S1x1x1x16, .f32⟩
  | 63 => ⟨S1x16, .f32⟩
  | 64 => ⟨S1x1x1x16, .f32⟩
  | 65 => ⟨S32x1x4x16, .f32⟩
  | 66 => ⟨S32x1x4x16, .f32⟩
  | 67 => ⟨S32x1x4x16, .f32⟩
  | 68 => ⟨S32x1x4x16, .f32⟩
  | 69 => ⟨S32x1x4x16, .f32⟩
  | 70 => ⟨S32x1x4x16, .f32⟩
  | 71 => ⟨S32x1x4x16, .f32⟩
  | 72 => ⟨S32x1x4x16, .f32⟩
  | 73 => ⟨S32x1x4x16, .f32⟩
  | 74 => ⟨S32x1x4x16, .f32⟩
  | 75 => ⟨S32x1x4x16, .f32⟩
  | 76 => ⟨S32x1x4x16, .f32⟩
  | 77 => ⟨S32x1x4x96, .f32⟩
  | 78 => ⟨S32x1x4x128, .f32⟩
  | 79 => ⟨S32x1x512, .f32⟩
  | 80 => ⟨S32x1x512, .f32⟩
  | 81 => ⟨S32x1x4x2x64, .f32⟩
  | 82 => ⟨S8, .f32⟩
  | 83 => ⟨S_, .f32⟩
  | 84 => ⟨S8, .f32⟩
  | 85 => ⟨S8, .f32⟩
  | 86 => ⟨S_, .f32⟩
  | 87 => ⟨S8, .f32⟩
  | 88 => ⟨S8, .f32⟩
  | 89 => ⟨S_, .f32⟩
  | 90 => ⟨S8, .f32⟩
  | 91 => ⟨S8, .f32⟩
  | 92 => ⟨S1, .f32⟩
  | 93 => ⟨S1x1, .f32⟩
  | 94 => ⟨S1x8, .f32⟩
  | 95 => ⟨S1x8, .f32⟩
  | 96 => ⟨S1x8, .f32⟩
  | 97 => ⟨S1x8, .f32⟩
  | 98 => ⟨S1x1x1x1x8, .f32⟩
  | 99 => ⟨S1x8, .f32⟩
  | 100 => ⟨S1x1x1x1x8, .f32⟩
  | 101 => ⟨S32x1x4x2x8, .f32⟩
  | 102 => ⟨S32x1x4x2x8, .f32⟩
  | 103 => ⟨S32x1x4x2x8, .f32⟩
  | 104 => ⟨S32x1x4x2x8, .f32⟩
  | 105 => ⟨S32x1x4x2x8, .f32⟩
  | 106 => ⟨S32x1x4x2x8, .f32⟩
  | 107 => ⟨S32x1x4x2x8, .f32⟩
  | 108 => ⟨S32x1x4x2x8, .f32⟩
  | 109 => ⟨S32x1x4x2x8, .f32⟩
  | 110 => ⟨S32x1x4x2x8, .f32⟩
  | 111 => ⟨S32x1x4x2x8, .f32⟩
  | 112 => ⟨S32x1x4x2x8, .f32⟩
  | 113 => ⟨S32x1x4x2x48, .f32⟩
  | 114 => ⟨S32x1x4x2x64, .f32⟩
  | 115 => ⟨S32x1x512, .f32⟩
  | 116 => ⟨S32x1x4x2x64, .f32⟩
  | 117 => ⟨S8, .f32⟩
  | 118 => ⟨S_, .f32⟩
  | 119 => ⟨S8, .f32⟩
  | 120 => ⟨S8, .f32⟩
  | 121 => ⟨S_, .f32⟩
  | 122 => ⟨S8, .f32⟩
  | 123 => ⟨S8, .f32⟩
  | 124 => ⟨S_, .f32⟩
  | 125 => ⟨S8, .f32⟩
  | 126 => ⟨S8, .f32⟩
  | 127 => ⟨S1, .f32⟩
  | _ => ⟨S32x2048, .bf16⟩

abbrev hbmTy0_1 (i : Nat) : BufTy := match i % 128 with
  | 0 => ⟨S1x1, .f32⟩
  | 1 => ⟨S1x8, .f32⟩
  | 2 => ⟨S1x8, .f32⟩
  | 3 => ⟨S1x8, .f32⟩
  | 4 => ⟨S1x8, .f32⟩
  | 5 => ⟨S1x1x1x1x8, .f32⟩
  | 6 => ⟨S1x8, .f32⟩
  | 7 => ⟨S1x1x1x1x8, .f32⟩
  | 8 => ⟨S32x1x4x2x8, .f32⟩
  | 9 => ⟨S32x1x4x2x8, .f32⟩
  | 10 => ⟨S32x1x4x2x8, .f32⟩
  | 11 => ⟨S32x1x4x2x8, .f32⟩
  | 12 => ⟨S32x1x4x2x8, .f32⟩
  | 13 => ⟨S32x1x4x2x8, .f32⟩
  | 14 => ⟨S32x1x4x2x8, .f32⟩
  | 15 => ⟨S32x1x4x2x8, .f32⟩
  | 16 => ⟨S32x1x4x2x8, .f32⟩
  | 17 => ⟨S32x1x4x2x8, .f32⟩
  | 18 => ⟨S32x1x4x2x8, .f32⟩
  | 19 => ⟨S32x1x4x2x8, .f32⟩
  | 20 => ⟨S32x1x4x2x48, .f32⟩
  | 21 => ⟨S32x1x4x2x64, .f32⟩
  | 22 => ⟨S32x1x512, .f32⟩
  | 23 => ⟨S32x1x2560, .f32⟩
  | 24 => ⟨S32x1x512, .f32⟩
  | 25 => ⟨S32x1x4, .f32⟩
  | 26 => ⟨S32x1x4, .f32⟩
  | 27 => ⟨S32x1x512, .f32⟩
  | 28 => ⟨S32x1x8, .f32⟩
  | 29 => ⟨S_, .f32⟩
  | 30 => ⟨S32x1x496, .f32⟩
  | 31 => ⟨S32x512, .f32⟩
  | 32 => ⟨S32x512, .f32⟩
  | 33 => ⟨S32x512, .f32⟩
  | 34 => ⟨S32x512, .f32⟩
  | 35 => ⟨S32x512, .f32⟩
  | 36 => ⟨S32x512, .f32⟩
  | 37 => ⟨S32x2560, .f32⟩
  | 38 => ⟨S32x512, .f32⟩
  | 39 => ⟨S32x512, .f32⟩
  | 40 => ⟨S32x4, .f32⟩
  | 41 => ⟨S32x4, .f32⟩
  | 42 => ⟨S32x8, .f32⟩
  | 43 => ⟨S32x496, .f32⟩
  | 44 => ⟨S32x7168, .f32⟩
  | _ => ⟨S32x2048, .bf16⟩

abbrev hbmTy (i : Nat) : BufTy := match i / 128 with
  | 0 => hbmTy0_0 i
  | 1 => hbmTy0_1 i
  | _ => ⟨S32x2048, .bf16⟩

abbrev bufTy : (tb : Table) → Fin (tcTables nBuf tb) → BufTy
  | .hbm, ⟨i, _⟩ => hbmTy i
  | _, _ => ⟨S32x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_cst_2 : Ref sig .tc := ⟨.hbm, 47, rfl⟩
abbrev main_v41 : Ref sig .tc := ⟨.hbm, 48, rfl⟩
abbrev main_v42 : Ref sig .tc := ⟨.hbm, 49, rfl⟩
abbrev main_cst_3 : Ref sig .tc := ⟨.hbm, 50, rfl⟩
abbrev main_v43 : Ref sig .tc := ⟨.hbm, 51, rfl⟩
abbrev main_v44 : Ref sig .tc := ⟨.hbm, 52, rfl⟩
abbrev main_cst_4 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_cst_5 : Ref sig .tc := ⟨.hbm, 83, rfl⟩
abbrev main_v74 : Ref sig .tc := ⟨.hbm, 84, rfl⟩
abbrev main_v75 : Ref sig .tc := ⟨.hbm, 85, rfl⟩
abbrev main_cst_6 : Ref sig .tc := ⟨.hbm, 86, rfl⟩
abbrev main_v76 : Ref sig .tc := ⟨.hbm, 87, rfl⟩
abbrev main_v77 : Ref sig .tc := ⟨.hbm, 88, rfl⟩
abbrev main_cst_7 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_cst_8 : Ref sig .tc := ⟨.hbm, 118, rfl⟩
abbrev main_v106 : Ref sig .tc := ⟨.hbm, 119, rfl⟩
abbrev main_v107 : Ref sig .tc := ⟨.hbm, 120, rfl⟩
abbrev main_cst_9 : Ref sig .tc := ⟨.hbm, 121, rfl⟩
abbrev main_v108 : Ref sig .tc := ⟨.hbm, 122, rfl⟩
abbrev main_v109 : Ref sig .tc := ⟨.hbm, 123, rfl⟩
abbrev main_cst_10 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_v133 : Ref sig .tc := ⟨.hbm, 148, rfl⟩
abbrev main_v134 : Ref sig .tc := ⟨.hbm, 149, rfl⟩
abbrev main_v135 : Ref sig .tc := ⟨.hbm, 150, rfl⟩
abbrev main_v136 : Ref sig .tc := ⟨.hbm, 151, rfl⟩
abbrev main_v137 : Ref sig .tc := ⟨.hbm, 152, rfl⟩
abbrev main_v138 : Ref sig .tc := ⟨.hbm, 153, rfl⟩
abbrev main_v139 : Ref sig .tc := ⟨.hbm, 154, rfl⟩
abbrev main_v140 : Ref sig .tc := ⟨.hbm, 155, rfl⟩
abbrev main_v141 : Ref sig .tc := ⟨.hbm, 156, rfl⟩
abbrev main_cst_11 : Ref sig .tc := ⟨.hbm, 157, rfl⟩
abbrev main_v142 : Ref sig .tc := ⟨.hbm, 158, rfl⟩
abbrev main_v143 : Ref sig .tc := ⟨.hbm, 159, rfl⟩
abbrev main_v144 : Ref sig .tc := ⟨.hbm, 160, rfl⟩
abbrev main_v145 : Ref sig .tc := ⟨.hbm, 161, rfl⟩
abbrev main_v146 : Ref sig .tc := ⟨.hbm, 162, rfl⟩
abbrev main_v147 : Ref sig .tc := ⟨.hbm, 163, rfl⟩
abbrev main_v148 : Ref sig .tc := ⟨.hbm, 164, rfl⟩
abbrev main_v149 : Ref sig .tc := ⟨.hbm, 165, rfl⟩
abbrev main_v150 : Ref sig .tc := ⟨.hbm, 166, rfl⟩
abbrev main_v151 : Ref sig .tc := ⟨.hbm, 167, rfl⟩
abbrev main_v152 : Ref sig .tc := ⟨.hbm, 168, rfl⟩
abbrev main_v153 : Ref sig .tc := ⟨.hbm, 169, rfl⟩
abbrev main_v154 : Ref sig .tc := ⟨.hbm, 170, rfl⟩
abbrev main_v155 : Ref sig .tc := ⟨.hbm, 171, rfl⟩
abbrev main_v156 : Ref sig .tc := ⟨.hbm, 172, rfl⟩

abbrev nD : Nat := 1
abbrev τ : Topo := Topo.v7x

variable {F : FTy → Type} [FloatOps F]
-- ==== Kernel6.lean ====
abbrev S32x2560 : Shape := ⟨2, ![32, 2560]⟩
abbrev S32x3x2560 : Shape := ⟨3, ![32, 3, 2560]⟩
abbrev S4x2560 : Shape := ⟨2, ![4, 2560]⟩
abbrev S2560 : Shape := ⟨1, ![2560]⟩
abbrev S3x32x2560 : Shape := ⟨3, ![3, 32, 2560]⟩
abbrev S1x2560 : Shape := ⟨2, ![1, 2560]⟩
abbrev S1x32x2560 : Shape := ⟨3, ![1, 32, 2560]⟩
abbrev S32x1024 : Shape := ⟨2, ![32, 1024]⟩
abbrev S32x128 : Shape := ⟨2, ![32, 128]⟩
abbrev S32 : Shape := ⟨1, ![32]⟩
abbrev S32x1 : Shape := ⟨2, ![32, 1]⟩
abbrev S32x1536 : Shape := ⟨2, ![32, 1536]⟩

abbrev nBuf : Space → Nat
  | .hbm => 8
  | .vmem => 6
  | .smem => 0
  | _ => 0

abbrev bufTy : (tb : Table) → Fin (tcTables nBuf tb) → BufTy
  | .hbm, ⟨0, _⟩ => ⟨S32x2560, .f32⟩
  | .hbm, ⟨1, _⟩ => ⟨S32x3x2560, .f32⟩
  | .hbm, ⟨2, _⟩ => ⟨S4x2560, .f32⟩
  | .hbm, ⟨3, _⟩ => ⟨S2560, .f32⟩
  | .hbm, ⟨4, _⟩ => ⟨S3x32x2560, .f32⟩
  | .hbm, ⟨5, _⟩ => ⟨S1x2560, .f32⟩
  | .hbm, ⟨6, _⟩ => ⟨S32x2560, .f32⟩
  | .hbm, ⟨7, _⟩ => ⟨S3x32x2560, .f32⟩
  | .local _ .vmem, ⟨0, _⟩ => ⟨S32x2560, .f32⟩
  | .local _ .vmem, ⟨1, _⟩ => ⟨S3x32x2560, .f32⟩
  | .local _ .vmem, ⟨2, _⟩ => ⟨S4x2560, .f32⟩
  | .local _ .vmem, ⟨3, _⟩ => ⟨S1x2560, .f32⟩
  | .local _ .vmem, ⟨4, _⟩ => ⟨S32x2560, .f32⟩
  | .local _ .vmem, ⟨5, _⟩ => ⟨S3x32x2560, .f32⟩
  | _, _ => ⟨S32x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S32x2560 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x32x2560 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x2560 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x32x2560 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Reference6Ideal.lean ====
abbrev S32x2560 : Shape := ⟨2, ![32, 2560]⟩
abbrev S32x3x2560 : Shape := ⟨3, ![32, 3, 2560]⟩
abbrev S4x2560 : Shape := ⟨2, ![4, 2560]⟩
abbrev S2560 : Shape := ⟨1, ![2560]⟩
abbrev S32x1x2560 : Shape := ⟨3, ![32, 1, 2560]⟩
abbrev S32x4x2560 : Shape := ⟨3, ![32, 4, 2560]⟩
abbrev S1x2560 : Shape := ⟨2, ![1, 2560]⟩
abbrev S1x1x2560 : Shape := ⟨3, ![1, 1, 2560]⟩
abbrev S_ : Shape := ⟨0, ![]⟩
abbrev S32x1x1024 : Shape := ⟨3, ![32, 1, 1024]⟩
abbrev S32x1x8x128 : Shape := ⟨4, ![32, 1, 8, 128]⟩
abbrev S32x1x8 : Shape := ⟨3, ![32, 1, 8]⟩
abbrev S32x1x8x1 : Shape := ⟨4, ![32, 1, 8, 1]⟩
abbrev S32x1x1536 : Shape := ⟨3, ![32, 1, 1536]⟩
abbrev S3x32x2560 : Shape := ⟨3, ![3, 32, 2560]⟩

abbrev nBuf : Space → Nat
  | .hbm => 63
  | .vmem => 0
  | .smem => 0
  | _ => 0

abbrev bufTy : (tb : Table) → Fin (tcTables nBuf tb) → BufTy
  | .hbm, ⟨0, _⟩ => ⟨S32x2560, .f32⟩
  | .hbm, ⟨1, _⟩ => ⟨S32x3x2560, .f32⟩
  | .hbm, ⟨2, _⟩ => ⟨S4x2560, .f32⟩
  | .hbm, ⟨3, _⟩ => ⟨S2560, .f32⟩
  | .hbm, ⟨4, _⟩ => ⟨S32x1x2560, .f32⟩
  | .hbm, ⟨5, _⟩ => ⟨S32x4x2560, .f32⟩
  | .hbm, ⟨6, _⟩ => ⟨S1x2560, .f32⟩
  | .hbm, ⟨7, _⟩ => ⟨S2560, .f32⟩
  | .hbm, ⟨8, _⟩ => ⟨S32x1x2560, .f32⟩
  | .hbm, ⟨9, _⟩ => ⟨S1x1x2560, .f32⟩
  | .hbm, ⟨10, _⟩ => ⟨S32x1x2560, .f32⟩
  | .hbm, ⟨11, _⟩ => ⟨S32x1x2560, .f32⟩
  | .hbm, ⟨12, _⟩ => ⟨S1x1x2560, .f32⟩
  | .hbm, ⟨13, _⟩ => ⟨S32x1x2560, .f32⟩
  | .hbm, ⟨14, _⟩ => ⟨S32x1x2560, .f32⟩
  | .hbm, ⟨15, _⟩ => ⟨S1x2560, .f32⟩
  | .hbm, ⟨16, _⟩ => ⟨S2560, .f32⟩
  | .hbm, ⟨17, _⟩ => ⟨S32x1x2560, .f32⟩
  | .hbm, ⟨18, _⟩ => ⟨S1x1x2560, .f32⟩
  | .hbm, ⟨19, _⟩ => ⟨S32x1x2560, .f32⟩
  | .hbm, ⟨20, _⟩ => ⟨S32x1x2560, .f32⟩
  | .hbm, ⟨21, _⟩ => ⟨S32x1x2560, .f32⟩
  | .hbm, ⟨22, _⟩ => ⟨S1x2560, .f32⟩
  | .hbm, ⟨23, _⟩ => ⟨S2560, .f32⟩
  | .hbm, ⟨24, _⟩ => ⟨S32x1x2560, .f32⟩
  | .hbm, ⟨25, _⟩ => ⟨S1x1x2560, .f32⟩
  | .hbm, ⟨26, _⟩ => ⟨S32x1x2560, .f32⟩
  | .hbm, ⟨27, _⟩ => ⟨S32x1x2560, .f32⟩
  | .hbm, ⟨28, _⟩ => ⟨S32x1x2560, .f32⟩
  | .hbm, ⟨29, _⟩ => ⟨S1x2560, .f32⟩
  | .hbm, ⟨30, _⟩ => ⟨S2560, .f32⟩
  | .hbm, ⟨31, _⟩ => ⟨S32x1x2560, .f32⟩
  | .hbm, ⟨32, _⟩ => ⟨S1x1x2560, .f32⟩
  | .hbm, ⟨33, _⟩ => ⟨S32x1x2560, .f32⟩
  | .hbm, ⟨34, _⟩ => ⟨S32x1x2560, .f32⟩
  | .hbm, ⟨35, _⟩ => ⟨S32x1x2560, .f32⟩
  | .hbm, ⟨36, _⟩ => ⟨S32x1x2560, .f32⟩
  | .hbm, ⟨37, _⟩ => ⟨S32x1x2560, .f32⟩
  | .hbm, ⟨38, _⟩ => ⟨S_, .f32⟩
  | .hbm, ⟨39, _⟩ => ⟨S32x1x2560, .f32⟩
  | .hbm, ⟨40, _⟩ => ⟨S32x1x2560, .f32⟩
  | .hbm, ⟨41, _⟩ => ⟨S_, .f32⟩
  | .hbm, ⟨42, _⟩ => ⟨S32x1x2560, .f32⟩
  | .hbm, ⟨43, _⟩ => ⟨S32x1x2560, .f32⟩
  | .hbm, ⟨44, _⟩ => ⟨S32x1x2560, .f32⟩
  | .hbm, ⟨45, _⟩ => ⟨S32x1x1024, .f32⟩
  | .hbm, ⟨46, _⟩ => ⟨S32x1x8x128, .f32⟩
  | .hbm, ⟨47, _⟩ => ⟨S32x1x8x128, .f32⟩
  | .hbm, ⟨48, _⟩ => ⟨S_, .f32⟩
  | .hbm, ⟨49, _⟩ => ⟨S32x1x8, .f32⟩
  | .hbm, ⟨50, _⟩ => ⟨S32x1x8x1, .f32⟩
  | .hbm, ⟨51, _⟩ => ⟨S_, .f32⟩
  | .hbm, ⟨52, _⟩ => ⟨S32x1x8x1, .f32⟩
  | .hbm, ⟨53, _⟩ => ⟨S32x1x8x1, .f32⟩
  | .hbm, ⟨54, _⟩ => ⟨S32x1x8x1, .f32⟩
  | .hbm, ⟨55, _⟩ => ⟨S32x1x8x128, .f32⟩
  | .hbm, ⟨56, _⟩ => ⟨S32x1x8x128, .f32⟩
  | .hbm, ⟨57, _⟩ => ⟨S32x1x1024, .f32⟩
  | .hbm, ⟨58, _⟩ => ⟨S32x1x1536, .f32⟩
  | .hbm, ⟨59, _⟩ => ⟨S32x1x2560, .f32⟩
  | .hbm, ⟨60, _⟩ => ⟨S32x2560, .f32⟩
  | .hbm, ⟨61, _⟩ => ⟨S32x3x2560, .f32⟩
  | .hbm, ⟨62, _⟩ => ⟨S3x32x2560, .f32⟩
  | _, _ => ⟨S32x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst : Ref sig .tc := ⟨.hbm, 48, rfl⟩
abbrev main_v36 : Ref sig .tc := ⟨.hbm, 49, rfl⟩
abbrev main_v37 : Ref sig .tc := ⟨.hbm, 50, rfl⟩
abbrev main_cst_0 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩

abbrev nD : Nat := 1
abbrev τ : Topo := Topo.v7x

variable {F : FTy → Type} [FloatOps F]
-- ==== Kernel7.lean ====
abbrev S16384x7168 : Shape := ⟨2, ![16384, 7168]⟩
abbrev S4x2560 : Shape := ⟨2, ![4, 2560]⟩
abbrev S2560 : Shape := ⟨1, ![2560]⟩
abbrev S1x2560 : Shape := ⟨2, ![1, 2560]⟩
abbrev S16384x2560 : Shape := ⟨2, ![16384, 2560]⟩
abbrev S8x3x2560 : Shape := ⟨3, ![8, 3, 2560]⟩
abbrev S2048x512 : Shape := ⟨2, ![2048, 512]⟩
abbrev S4x512 : Shape := ⟨2, ![4, 512]⟩
abbrev S1x512 : Shape := ⟨2, ![1, 512]⟩
abbrev S1x3x512 : Shape := ⟨3, ![1, 3, 512]⟩
abbrev S3x512 : Shape := ⟨2, ![3, 512]⟩
abbrev S2048x128 : Shape := ⟨2, ![2048, 128]⟩
abbrev S2048 : Shape := ⟨1, ![2048]⟩
abbrev S2048x1 : Shape := ⟨2, ![2048, 1]⟩

abbrev nBuf : Space → Nat
  | .hbm => 6
  | .vmem => 10
  | .smem => 0
  | _ => 0

abbrev bufTy : (tb : Table) → Fin (tcTables nBuf tb) → BufTy
  | .hbm, ⟨0, _⟩ => ⟨S16384x7168, .f32⟩
  | .hbm, ⟨1, _⟩ => ⟨S4x2560, .f32⟩
  | .hbm, ⟨2, _⟩ => ⟨S2560, .f32⟩
  | .hbm, ⟨3, _⟩ => ⟨S1x2560, .f32⟩
  | .hbm, ⟨4, _⟩ => ⟨S16384x2560, .f32⟩
  | .hbm, ⟨5, _⟩ => ⟨S8x3x2560, .f32⟩
  | .local _ .vmem, ⟨0, _⟩ => ⟨S2048x512, .f32⟩
  | .local _ .vmem, ⟨1, _⟩ => ⟨S2048x512, .f32⟩
  | .local _ .vmem, ⟨2, _⟩ => ⟨S4x512, .f32⟩
  | .local _ .vmem, ⟨3, _⟩ => ⟨S4x512, .f32⟩
  | .local _ .vmem, ⟨4, _⟩ => ⟨S1x512, .f32⟩
  | .local _ .vmem, ⟨5, _⟩ => ⟨S1x512, .f32⟩
  | .local _ .vmem, ⟨6, _⟩ => ⟨S2048x512, .f32⟩
  | .local _ .vmem, ⟨7, _⟩ => ⟨S2048x512, .f32⟩
  | .local _ .vmem, ⟨8, _⟩ => ⟨S1x3x512, .f32⟩
  | .local _ .vmem, ⟨9, _⟩ => ⟨S1x3x512, .f32⟩
  | _, _ => ⟨S16384x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 5], ![false, false]⟩

def k0_cond1 (i : grid0.Coords) : BitVec 1 :=
  let arg1 : BitVec 32 := BitVec.ofNat 32 (i 1).val
  let c2_i32_16 : BitVec 32 := 2#32
  let v49 : BitVec 1 := Scalar.cmpi .slt arg1 c2_i32_16
  let v50 : BitVec 32 := Scalar.extui v49
  let c0_i32 : BitVec 32 := 0#32
  let v51 : BitVec 1 := Scalar.cmpi .ne v50 c0_i32
  v51

def k0_cond2 (i : grid0.Coords) : BitVec 1 :=
  let arg1 : BitVec 32 := BitVec.ofNat 32 (i 1).val
  let c2_i32_17 : BitVec 32 := 2#32
  let v52 : BitVec 1 := Scalar.cmpi .sge arg1 c2_i32_17
  let v53 : BitVec 32 := Scalar.extui v52
  let c0_i32_18 : BitVec 32 := 0#32
  let v54 : BitVec 1 := Scalar.cmpi .ne v53 c0_i32_18
  v54

def cc0_transform_0 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference7Ideal.lean ====
abbrev S16384x7168 : Shape := ⟨2, ![16384, 7168]⟩
abbrev S4x2560 : Shape := ⟨2, ![4, 2560]⟩
abbrev S2560 : Shape := ⟨1, ![2560]⟩
abbrev S8x2048x7168 : Shape := ⟨3, ![8, 2048, 7168]⟩
abbrev S8x2048x2560 : Shape := ⟨3, ![8, 2048, 2560]⟩
abbrev S_ : Shape := ⟨0, ![]⟩
abbrev S8x3x2560 : Shape := ⟨3, ![8, 3, 2560]⟩
abbrev S8x2051x2560 : Shape := ⟨3, ![8, 2051, 2560]⟩
abbrev S1x2560 : Shape := ⟨2, ![1, 2560]⟩
abbrev S1x1x2560 : Shape := ⟨3, ![1, 1, 2560]⟩
abbrev S8x2048x1024 : Shape := ⟨3, ![8, 2048, 1024]⟩
abbrev S8x2048x8x128 : Shape := ⟨4, ![8, 2048, 8, 128]⟩
abbrev S8x2048x8 : Shape := ⟨3, ![8, 2048, 8]⟩
abbrev S8x2048x8x1 : Shape := ⟨4, ![8, 2048, 8, 1]⟩
abbrev S8x2048x1536 : Shape := ⟨3, ![8, 2048, 1536]⟩
abbrev S16384x2560 : Shape := ⟨2, ![16384, 2560]⟩

abbrev nBuf : Space → Nat
  | .hbm => 64
  | .vmem => 0
  | .smem => 0
  | _ => 0

abbrev bufTy : (tb : Table) → Fin (tcTables nBuf tb) → BufTy
  | .hbm, ⟨0, _⟩ => ⟨S16384x7168, .f32⟩
  | .hbm, ⟨1, _⟩ => ⟨S4x2560, .f32⟩
  | .hbm, ⟨2, _⟩ => ⟨S2560, .f32⟩
  | .hbm, ⟨3, _⟩ => ⟨S8x2048x7168, .f32⟩
  | .hbm, ⟨4, _⟩ => ⟨S8x2048x2560, .f32⟩
  | .hbm, ⟨5, _⟩ => ⟨S_, .f32⟩
  | .hbm, ⟨6, _⟩ => ⟨S8x3x2560, .f32⟩
  | .hbm, ⟨7, _⟩ => ⟨S8x2051x2560, .f32⟩
  | .hbm, ⟨8, _⟩ => ⟨S1x2560, .f32⟩
  | .hbm, ⟨9, _⟩ => ⟨S2560, .f32⟩
  | .hbm, ⟨10, _⟩ => ⟨S8x2048x2560, .f32⟩
  | .hbm, ⟨11, _⟩ => ⟨S1x1x2560, .f32⟩
  | .hbm, ⟨12, _⟩ => ⟨S8x2048x2560, .f32⟩
  | .hbm, ⟨13, _⟩ => ⟨S8x2048x2560, .f32⟩
  | .hbm, ⟨14, _⟩ => ⟨S1x1x2560, .f32⟩
  | .hbm, ⟨15, _⟩ => ⟨S8x2048x2560, .f32⟩
  | .hbm, ⟨16, _⟩ => ⟨S8x2048x2560, .f32⟩
  | .hbm, ⟨17, _⟩ => ⟨S1x2560, .f32⟩
  | .hbm, ⟨18, _⟩ => ⟨S2560, .f32⟩
  | .hbm, ⟨19, _⟩ => ⟨S8x2048x2560, .f32⟩
  | .hbm, ⟨20, _⟩ => ⟨S1x1x2560, .f32⟩
  | .hbm, ⟨21, _⟩ => ⟨S8x2048x2560, .f32⟩
  | .hbm, ⟨22, _⟩ => ⟨S8x2048x2560, .f32⟩
  | .hbm, ⟨23, _⟩ => ⟨S8x2048x2560, .f32⟩
  | .hbm, ⟨24, _⟩ => ⟨S1x2560, .f32⟩
  | .hbm, ⟨25, _⟩ => ⟨S2560, .f32⟩
  | .hbm, ⟨26, _⟩ => ⟨S8x2048x2560, .f32⟩
  | .hbm, ⟨27, _⟩ => ⟨S1x1x2560, .f32⟩
  | .hbm, ⟨28, _⟩ => ⟨S8x2048x2560, .f32⟩
  | .hbm, ⟨29, _⟩ => ⟨S8x2048x2560, .f32⟩
  | .hbm, ⟨30, _⟩ => ⟨S8x2048x2560, .f32⟩
  | .hbm, ⟨31, _⟩ => ⟨S1x2560, .f32⟩
  | .hbm, ⟨32, _⟩ => ⟨S2560, .f32⟩
  | .hbm, ⟨33, _⟩ => ⟨S8x2048x2560, .f32⟩
  | .hbm, ⟨34, _⟩ => ⟨S1x1x2560, .f32⟩
  | .hbm, ⟨35, _⟩ => ⟨S8x2048x2560, .f32⟩
  | .hbm, ⟨36, _⟩ => ⟨S8x2048x2560, .f32⟩
  | .hbm, ⟨37, _⟩ => ⟨S8x2048x2560, .f32⟩
  | .hbm, ⟨38, _⟩ => ⟨S8x2048x2560, .f32⟩
  | .hbm, ⟨39, _⟩ => ⟨S8x2048x2560, .f32⟩
  | .hbm, ⟨40, _⟩ => ⟨S_, .f32⟩
  | .hbm, ⟨41, _⟩ => ⟨S8x2048x2560, .f32⟩
  | .hbm, ⟨42, _⟩ => ⟨S8x2048x2560, .f32⟩
  | .hbm, ⟨43, _⟩ => ⟨S_, .f32⟩
  | .hbm, ⟨44, _⟩ => ⟨S8x2048x2560, .f32⟩
  | .hbm, ⟨45, _⟩ => ⟨S8x2048x2560, .f32⟩
  | .hbm, ⟨46, _⟩ => ⟨S8x2048x2560, .f32⟩
  | .hbm, ⟨47, _⟩ => ⟨S8x2048x1024, .f32⟩
  | .hbm, ⟨48, _⟩ => ⟨S8x2048x8x128, .f32⟩
  | .hbm, ⟨49, _⟩ => ⟨S8x2048x8x128, .f32⟩
  | .hbm, ⟨50, _⟩ => ⟨S_, .f32⟩
  | .hbm, ⟨51, _⟩ => ⟨S8x2048x8, .f32⟩
  | .hbm, ⟨52, _⟩ => ⟨S8x2048x8x1, .f32⟩
  | .hbm, ⟨53, _⟩ => ⟨S_, .f32⟩
  | .hbm, ⟨54, _⟩ => ⟨S8x2048x8x1, .f32⟩
  | .hbm, ⟨55, _⟩ => ⟨S8x2048x8x1, .f32⟩
  | .hbm, ⟨56, _⟩ => ⟨S8x2048x8x1, .f32⟩
  | .hbm, ⟨57, _⟩ => ⟨S8x2048x8x128, .f32⟩
  | .hbm, ⟨58, _⟩ => ⟨S8x2048x8x128, .f32⟩
  | .hbm, ⟨59, _⟩ => ⟨S8x2048x1024, .f32⟩
  | .hbm, ⟨60, _⟩ => ⟨S8x2048x1536, .f32⟩
  | .hbm, ⟨61, _⟩ => ⟨S8x2048x2560, .f32⟩
  | .hbm, ⟨62, _⟩ => ⟨S16384x2560, .f32⟩
  | .hbm, ⟨63, _⟩ => ⟨S8x3x2560, .f32⟩
  | _, _ => ⟨S16384x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_0 : Ref sig .tc := ⟨.hbm, 50, rfl⟩
abbrev main_v38 : Ref sig .tc := ⟨.hbm, 51, rfl⟩
abbrev main_v39 : Ref sig .tc := ⟨.hbm, 52, rfl⟩
abbrev main_cst_1 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩

abbrev nD : Nat := 1
abbrev τ : Topo := Topo.v7x

variable {F : FTy → Type} [FloatOps F]
-- ==== Kernel8.lean ====
abbrev S32x2048 : Shape := ⟨2, ![32, 2048]⟩
abbrev S2048 : Shape := ⟨1, ![2048]⟩
abbrev S2048x11264 : Shape := ⟨2, ![2048, 11264]⟩
abbrev S5632x2048 : Shape := ⟨2, ![5632, 2048]⟩
abbrev S1x2048 : Shape := ⟨2, ![1, 2048]⟩
abbrev S2048x512 : Shape := ⟨2, ![2048, 512]⟩
abbrev S512x2048 : Shape := ⟨2, ![512, 2048]⟩
abbrev S32 : Shape := ⟨1, ![32]⟩
abbrev S32x1 : Shape := ⟨2, ![32, 1]⟩
abbrev S2048x256 : Shape := ⟨2, ![2048, 256]⟩
abbrev S32x256 : Shape := ⟨2, ![32, 256]⟩
abbrev S256x2048 : Shape := ⟨2, ![256, 2048]⟩

abbrev nBuf : Space → Nat
  | .hbm => 11
  | .vmem => 12
  | .smem => 0
  | _ => 0

abbrev bufTy : (tb : Table) → Fin (tcTables nBuf tb) → BufTy
  | .hbm, ⟨0, _⟩ => ⟨S32x2048, .f32⟩
  | .hbm, ⟨1, _⟩ => ⟨S2048, .f32⟩
  | .hbm, ⟨2, _⟩ => ⟨S2048x11264, .f32⟩
  | .hbm, ⟨3, _⟩ => ⟨S5632x2048, .f32⟩
  | .hbm, ⟨4, _⟩ => ⟨S2048, .f32⟩
  | .hbm, ⟨5, _⟩ => ⟨S2048x11264, .bf16⟩
  | .hbm, ⟨6, _⟩ => ⟨S5632x2048, .bf16⟩
  | .hbm, ⟨7, _⟩ => ⟨S1x2048, .f32⟩
  | .hbm, ⟨8, _⟩ => ⟨S1x2048, .f32⟩
  | .hbm, ⟨9, _⟩ => ⟨S32x2048, .f32⟩
  | .hbm, ⟨10, _⟩ => ⟨S32x2048, .f32⟩
  | .local _ .vmem, ⟨0, _⟩ => ⟨S32x2048, .f32⟩
  | .local _ .vmem, ⟨1, _⟩ => ⟨S1x2048, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | .local _ .vmem, ⟨9, _⟩ => ⟨S32x2048, .f32⟩
  | .local _ .vmem, ⟨10, _⟩ => ⟨S32x2048, .f32⟩
  | .local _ .vmem, ⟨11, _⟩ => ⟨S32x2048, .bf16⟩
  | _, _ => ⟨S32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨2, ![1, 11], ![false, false]⟩

def k0_cond2 (i : grid0.Coords) : BitVec 1 :=
  let arg1 : BitVec 32 := BitVec.ofNat 32 (i 1).val
  let c10_i32 : BitVec 32 := 10#32
  let v51 : BitVec 1 := Scalar.cmpi .eq arg1 c10_i32
  let v52 : BitVec 32 := Scalar.extui v51
  let c0_i32_30 : BitVec 32 := 0#32
  let v53 : BitVec 1 := Scalar.cmpi .ne v52 c0_i32_30
  v53

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S32x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S32x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]
-- ==== Reference8Ideal.lean ====
abbrev S32x2048 : Shape := ⟨2, ![32, 2048]⟩
abbrev S2048 : Shape := ⟨1, ![2048]⟩
abbrev S2048x11264 : Shape := ⟨2, ![2048, 11264]⟩
abbrev S5632x2048 : Shape := ⟨2, ![5632, 2048]⟩
abbrev S_ : Shape := ⟨0, ![]⟩
abbrev S32 : Shape := ⟨1, ![32]⟩
abbrev S32x1 : Shape := ⟨2, ![32, 1]⟩
abbrev S1x2048 : Shape := ⟨2, ![1, 2048]⟩
abbrev S32x11264 : Shape := ⟨2, ![32, 11264]⟩
abbrev S32x5632 : Shape := ⟨2, ![32, 5632]⟩

abbrev nBuf : Space → Nat
  | .hbm => 55
  | .vmem => 0
  | .smem => 0
  | _ => 0

abbrev bufTy : (tb : Table) → Fin (tcTables nBuf tb) → BufTy
  | .hbm, ⟨0, _⟩ => ⟨S32x2048, .f32⟩
  | .hbm, ⟨1, _⟩ => ⟨S2048, .f32⟩
  | .hbm, ⟨2, _⟩ => ⟨S2048x11264, .f32⟩
  | .hbm, ⟨3, _⟩ => ⟨S5632x2048, .f32⟩
  | .hbm, ⟨4, _⟩ => ⟨S2048, .f32⟩
  | .hbm, ⟨5, _⟩ => ⟨S32x2048, .f32⟩
  | .hbm, ⟨6, _⟩ => ⟨S_, .f32⟩
  | .hbm, ⟨7, _⟩ => ⟨S32, .f32⟩
  | .hbm, ⟨8, _⟩ => ⟨S32x1, .f32⟩
  | .hbm, ⟨9, _⟩ => ⟨S_, .f32⟩
  | .hbm, ⟨10, _⟩ => ⟨S32x1, .f32⟩
  | .hbm, ⟨11, _⟩ => ⟨S32x1, .f32⟩
  | .hbm, ⟨12, _⟩ => ⟨S_, .f32⟩
  | .hbm, ⟨13, _⟩ => ⟨S32x1, .f32⟩
  | .hbm, ⟨14, _⟩ => ⟨S32x1, .f32⟩
  | .hbm, ⟨15, _⟩ => ⟨S32x1, .f32⟩
  | .hbm, ⟨16, _⟩ => ⟨S32x2048, .f32⟩
  | .hbm, ⟨17, _⟩ => ⟨S32x2048, .f32⟩
  | .hbm, ⟨18, _⟩ => ⟨S1x2048, .f32⟩
  | .hbm, ⟨19, _⟩ => ⟨S32x2048, .f32⟩
  | .hbm, ⟨20, _⟩ => ⟨S32x2048, .f32⟩
  | .hbm, ⟨21, _⟩ => ⟨S32x11264, .f32⟩
  | .hbm, ⟨22, _⟩ => ⟨S32x5632, .f32⟩
  | .hbm, ⟨23, _⟩ => ⟨S32x5632, .f32⟩
  | .hbm, ⟨24, _⟩ => ⟨S32x5632, .f32⟩
  | .hbm, ⟨25, _⟩ => ⟨S32x5632, .f32⟩
  | .hbm, ⟨26, _⟩ => ⟨S_, .f32⟩
  | .hbm, ⟨27, _⟩ => ⟨S32x5632, .f32⟩
  | .hbm, ⟨28, _⟩ => ⟨S32x5632, .f32⟩
  | .hbm, ⟨29, _⟩ => ⟨S_, .f32⟩
  | .hbm, ⟨30, _⟩ => ⟨S32x5632, .f32⟩
  | .hbm, ⟨31, _⟩ => ⟨S32x5632, .f32⟩
  | .hbm, ⟨32, _⟩ => ⟨S32x5632, .f32⟩
  | .hbm, ⟨33, _⟩ => ⟨S32x5632, .f32⟩
  | .hbm, ⟨34, _⟩ => ⟨S32x2048, .f32⟩
  | .hbm, ⟨35, _⟩ => ⟨S_, .f32⟩
  | .hbm, ⟨36, _⟩ => ⟨S32x2048, .f32⟩
  | .hbm, ⟨37, _⟩ => ⟨S32x2048, .f32⟩
  | .hbm, ⟨38, _⟩ => ⟨S32x2048, .f32⟩
  | .hbm, ⟨39, _⟩ => ⟨S32x2048, .f32⟩
  | .hbm, ⟨40, _⟩ => ⟨S_, .f32⟩
  | .hbm, ⟨41, _⟩ => ⟨S32, .f32⟩
  | .hbm, ⟨42, _⟩ => ⟨S32x1, .f32⟩
  | .hbm, ⟨43, _⟩ => ⟨S_, .f32⟩
  | .hbm, ⟨44, _⟩ => ⟨S32x1, .f32⟩
  | .hbm, ⟨45, _⟩ => ⟨S32x1, .f32⟩
  | .hbm, ⟨46, _⟩ => ⟨S_, .f32⟩
  | .hbm, ⟨47, _⟩ => ⟨S32x1, .f32⟩
  | .hbm, ⟨48, _⟩ => ⟨S32x1, .f32⟩
  | .hbm, ⟨49, _⟩ => ⟨S32x1, .f32⟩
  | .hbm, ⟨50, _⟩ => ⟨S32x2048, .f32⟩
  | .hbm, ⟨51, _⟩ => ⟨S32x2048, .f32⟩
  | .hbm, ⟨52, _⟩ => ⟨S1x2048, .f32⟩
  | .hbm, ⟨53, _⟩ => ⟨S32x2048, .f32⟩
  | .hbm, ⟨54, _⟩ => ⟨S32x2048, .f32⟩
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩

abbrev nD : Nat := 1
abbrev τ : Topo := Topo.v7x

variable {F : FTy → Type} [FloatOps F]
-- ==== Kernel9.lean ====
abbrev S32x2560 : Shape := ⟨2, ![32, 2560]⟩
abbrev S32x7168 : Shape := ⟨2, ![32, 7168]⟩
abbrev S32x8x64x128 : Shape := ⟨4, ![32, 8, 64, 128]⟩
abbrev S8 : Shape := ⟨1, ![8]⟩
abbrev S512 : Shape := ⟨1, ![512]⟩
abbrev S32x1x2560 : Shape := ⟨3, ![32, 1, 2560]⟩
abbrev S_ : Shape := ⟨0, ![]⟩
abbrev S32x64x2560 : Shape := ⟨3, ![32, 64, 2560]⟩
abbrev S2048x2560 : Shape := ⟨2, ![2048, 2560]⟩
abbrev S32x1536 : Shape := ⟨2, ![32, 1536]⟩
abbrev S32x1x1536 : Shape := ⟨3, ![32, 1, 1536]⟩
abbrev S32x64x1536 : Shape := ⟨3, ![32, 64, 1536]⟩
abbrev S2048x1536 : Shape := ⟨2, ![2048, 1536]⟩
abbrev S112 : Shape := ⟨1, ![112]⟩
abbrev S128 : Shape := ⟨1, ![128]⟩
abbrev S1x128 : Shape := ⟨2, ![1, 128]⟩
abbrev S8x64 : Shape := ⟨2, ![8, 64]⟩
abbrev S1x512 : Shape := ⟨2, ![1, 512]⟩
abbrev S32x4x128x128 : Shape := ⟨4, ![32, 4, 128, 128]⟩
abbrev S2048x512 : Shape := ⟨2, ![2048, 512]⟩
abbrev S64x512 : Shape := ⟨2, ![64, 512]⟩
abbrev S64x128 : Shape := ⟨2, ![64, 128]⟩
abbrev S1x4x128x128 : Shape := ⟨4, ![1, 4, 128, 128]⟩
abbrev S4x128x128 : Shape := ⟨3, ![4, 128, 128]⟩
abbrev S64x64 : Shape := ⟨2, ![64, 64]⟩
abbrev S128x1 : Shape := ⟨2, ![128, 1]⟩
abbrev S64x1 : Shape := ⟨2, ![64, 1]⟩
abbrev S1x1x128x128 : Shape := ⟨4, ![1, 1, 128, 128]⟩
abbrev S128x128 : Shape := ⟨2, ![128, 128]⟩
abbrev S64 : Shape := ⟨1, ![64]⟩
abbrev S1x64 : Shape := ⟨2, ![1, 64]⟩
abbrev S1x1 : Shape := ⟨2, ![1, 1]⟩

abbrev nBuf : Space → Nat
  | .hbm => 33
  | .vmem => 18
  | .smem => 0
  | _ => 0

abbrev bufTy : (tb : Table) → Fin (tcTables nBuf tb) → BufTy
  | .hbm, ⟨0, _⟩ => ⟨S32x2560, .f32⟩
  | .hbm, ⟨1, _⟩ => ⟨S32x7168, .f32⟩
  | .hbm, ⟨2, _⟩ => ⟨S32x8x64x128, .f32⟩
  | .hbm, ⟨3, _⟩ => ⟨S8, .f32⟩
  | .hbm, ⟨4, _⟩ => ⟨S8, .f32⟩
  | .hbm, ⟨5, _⟩ => ⟨S8, .f32⟩
  | .hbm, ⟨6, _⟩ => ⟨S512, .f32⟩
  | .hbm, ⟨7, _⟩ => ⟨S32x1x2560, .f32⟩
  | .hbm, ⟨8, _⟩ => ⟨S_, .i32⟩
  | .hbm, ⟨9, _⟩ => ⟨S_, .f32⟩
  | .hbm, ⟨10, _⟩ => ⟨S32x64x2560, .f32⟩
  | .hbm, ⟨11, _⟩ => ⟨S2048x2560, .f32⟩
  | .hbm, ⟨12, _⟩ => ⟨S32x1536, .f32⟩
  | .hbm, ⟨13, _⟩ => ⟨S32x1x1536, .f32⟩
  | .hbm, ⟨14, _⟩ => ⟨S_, .i32⟩
  | .hbm, ⟨15, _⟩ => ⟨S_, .f32⟩
  | .hbm, ⟨16, _⟩ => ⟨S32x64x1536, .f32⟩
  | .hbm, ⟨17, _⟩ => ⟨S2048x1536, .f32⟩
  | .hbm, ⟨18, _⟩ => ⟨S_, .f32⟩
  | .hbm, ⟨19, _⟩ => ⟨S8, .f32⟩
  | .hbm, ⟨20, _⟩ => ⟨S_, .f32⟩
  | .hbm, ⟨21, _⟩ => ⟨S112, .f32⟩
  | .hbm, ⟨22, _⟩ => ⟨S128, .f32⟩
  | .hbm, ⟨23, _⟩ => ⟨S1x128, .f32⟩
  | .hbm, ⟨24, _⟩ => ⟨S128, .f32⟩
  | .hbm, ⟨25, _⟩ => ⟨S1x128, .f32⟩
  | .hbm, ⟨26, _⟩ => ⟨S8x64, .f32⟩
  | .hbm, ⟨27, _⟩ => ⟨S512, .f32⟩
  | .hbm, ⟨28, _⟩ => ⟨S1x512, .f32⟩
  | .hbm, ⟨29, _⟩ => ⟨S1x512, .f32⟩
  | .hbm, ⟨30, _⟩ => ⟨S32x4x128x128, .f32⟩
  | .hbm, ⟨31, _⟩ => ⟨S2048x512, .bf16⟩
  | .hbm, ⟨32, _⟩ => ⟨S32x4x128x128, .f32⟩
  | .local _ .vmem, ⟨0, _⟩ => ⟨S64x512, .f32⟩
  | .local _ .vmem, ⟨1, _⟩ => ⟨S64x512, .f32⟩
  | .local _ .vmem, ⟨2, _⟩ => ⟨S64x512, .f32⟩
  | .local _ .vmem, ⟨3, _⟩ => ⟨S64x512, .f32⟩
  | .local _ .vmem, ⟨4, _⟩ => ⟨S64x512, .f32⟩
  | .local _ .vmem, ⟨5, _⟩ => ⟨S64x512, .f32⟩
  | .local _ .vmem, ⟨6, _⟩ => ⟨S64x128, .f32⟩
  | .local _ .vmem, ⟨7, _⟩ => ⟨S64x128, .f32⟩
  | .local _ .vmem, ⟨8, _⟩ => ⟨S1x128, .f32⟩
  | .local _ .vmem, ⟨9, _⟩ => ⟨S1x128, .f32⟩
  | .local _ .vmem, ⟨10, _⟩ => ⟨S1x512, .f32⟩
  | .local _ .vmem, ⟨11, _⟩ => ⟨S1x512, .f32⟩
  | .local _ .vmem, ⟨12, _⟩ => ⟨S1x4x128x128, .f32⟩
  | .local _ .vmem, ⟨13, _⟩ => ⟨S1x4x128x128, .f32⟩
  | .local _ .vmem, ⟨14, _⟩ => ⟨S64x512, .bf16⟩
  | .local _ .vmem, ⟨15, _⟩ => ⟨S64x512, .bf16⟩
  | .local _ .vmem, ⟨16, _⟩ => ⟨S1x4x128x128, .f32⟩
  | .local _ .vmem, ⟨17, _⟩ => ⟨S1x4x128x128, .f32⟩
  | _, _ => ⟨S32x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_call1_v0 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18_0 : Ref sig .tc := ⟨.hbm, 31, rfl⟩
abbrev main_v18_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![32], ![false]⟩

def k0_mult1 : BitVec 32 :=
  let c0_i32 : BitVec 32 := 0#32
  let c64_i32_10 : BitVec 32 := 64#32
  let v19 : BitVec 32 := Scalar.muli c0_i32 c64_i32_10
  v19
def k0_off1 : Fin 2 → Nat :=
  let c0_i32 : BitVec 32 := 0#32
  let c64_i32_10 : BitVec 32 := 64#32
  let v19 : BitVec 32 := Scalar.muli c0_i32 c64_i32_10
  let v20 : BitVec 32 := v19
  let v21 : Index := Scalar.indexCast v20
  let c0_11 : Index := 0#32
  ![v21.toNat, 0]
def k0_off2 : Fin 2 → Nat :=
  let c0_i32 : BitVec 32 := 0#32
  let c64_i32_10 : BitVec 32 := 64#32
  let v19 : BitVec 32 := Scalar.muli c0_i32 c64_i32_10
  let v20 : BitVec 32 := v19
  let v49 : Index := Scalar.indexCast v20
  let c0_18 : Index := 0#32
  ![v49.toNat, 0]
def k0_off3 : Fin 2 → Nat :=
  let c0_i32 : BitVec 32 := 0#32
  let c64_i32_10 : BitVec 32 := 64#32
  let v19 : BitVec 32 := Scalar.muli c0_i32 c64_i32_10
  let v20 : BitVec 32 := v19
  let v53 : Index := Scalar.indexCast v20
  let c128 : Index := 128#32
  ![v53.toNat, 128]
def k0_off4 : Fin 2 → Nat :=
  let c0_i32 : BitVec 32 := 0#32
  let c64_i32_10 : BitVec 32 := 64#32
  let v19 : BitVec 32 := Scalar.muli c0_i32 c64_i32_10
  let v20 : BitVec 32 := v19
  let v57 : Index := Scalar.indexCast v20
  let c256 : Index := 256#32
  ![v57.toNat, 256]
def k0_off5 : Fin 2 → Nat :=
  let c0_i32 : BitVec 32 := 0#32
  let c64_i32_10 : BitVec 32 := 64#32
  let v19 : BitVec 32 := Scalar.muli c0_i32 c64_i32_10
  let v20 : BitVec 32 := v19
  let v61 : Index := Scalar.indexCast v20
  let c384 : Index := 384#32
  ![v61.toNat, 384]
def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x4x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x4x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference9Ideal.lean ====
abbrev S32x2560 : Shape := ⟨2, ![32, 2560]⟩
abbrev S32x7168 : Shape := ⟨2, ![32, 7168]⟩
abbrev S32x8x64x128 : Shape := ⟨4, ![32, 8, 64, 128]⟩
abbrev S8 : Shape := ⟨1, ![8]⟩
abbrev S512 : Shape := ⟨1, ![512]⟩
abbrev S32x512 : Shape := ⟨2, ![32, 512]⟩
abbrev S32x8x64 : Shape := ⟨3, ![32, 8, 64]⟩
abbrev S32x256 : Shape := ⟨2, ![32, 256]⟩
abbrev S32x2x128 : Shape := ⟨3, ![32, 2, 128]⟩
abbrev S32x2x4x128 : Shape := ⟨4, ![32, 2, 4, 128]⟩
abbrev S32x8x128 : Shape := ⟨3, ![32, 8, 128]⟩
abbrev S32x8 : Shape := ⟨2, ![32, 8]⟩
abbrev S1x8 : Shape := ⟨2, ![1, 8]⟩
abbrev S_ : Shape := ⟨0, ![]⟩
abbrev S32x8x1 : Shape := ⟨3, ![32, 8, 1]⟩
abbrev S32x8x1x1 : Shape := ⟨4, ![32, 8, 1, 1]⟩
abbrev S32x8x64x1 : Shape := ⟨4, ![32, 8, 64, 1]⟩
abbrev S32x8x1x128 : Shape := ⟨4, ![32, 8, 1, 128]⟩
abbrev S32x4x128x128 : Shape := ⟨4, ![32, 4, 128, 128]⟩

abbrev nBuf : Space → Nat
  | .hbm => 55
  | .vmem => 0
  | .smem => 0
  | _ => 0

abbrev bufTy : (tb : Table) → Fin (tcTables nBuf tb) → BufTy
  | .hbm, ⟨0, _⟩ => ⟨S32x2560, .f32⟩
  | .hbm, ⟨1, _⟩ => ⟨S32x7168, .f32⟩
  | .hbm, ⟨2, _⟩ => ⟨S32x8x64x128, .f32⟩
  | .hbm, ⟨3, _⟩ => ⟨S8, .f32⟩
  | .hbm, ⟨4, _⟩ => ⟨S8, .f32⟩
  | .hbm, ⟨5, _⟩ => ⟨S8, .f32⟩
  | .hbm, ⟨6, _⟩ => ⟨S512, .f32⟩
  | .hbm, ⟨7, _⟩ => ⟨S32x512, .f32⟩
  | .hbm, ⟨8, _⟩ => ⟨S32x8x64, .f32⟩
  | .hbm, ⟨9, _⟩ => ⟨S32x256, .f32⟩
  | .hbm, ⟨10, _⟩ => ⟨S32x2x128, .f32⟩
  | .hbm, ⟨11, _⟩ => ⟨S32x2x4x128, .f32⟩
  | .hbm, ⟨12, _⟩ => ⟨S32x8x128, .f32⟩
  | .hbm, ⟨13, _⟩ => ⟨S32x8, .f32⟩
  | .hbm, ⟨14, _⟩ => ⟨S1x8, .f32⟩
  | .hbm, ⟨15, _⟩ => ⟨S32x8, .f32⟩
  | .hbm, ⟨16, _⟩ => ⟨S32x8, .f32⟩
  | .hbm, ⟨17, _⟩ => ⟨S_, .f32⟩
  | .hbm, ⟨18, _⟩ => ⟨S32x8, .f32⟩
  | .hbm, ⟨19, _⟩ => ⟨S32x8, .f32⟩
  | .hbm, ⟨20, _⟩ => ⟨S32x8, .f32⟩
  | .hbm, ⟨21, _⟩ => ⟨S32x8, .f32⟩
  | .hbm, ⟨22, _⟩ => ⟨S32x8, .i1⟩
  | .hbm, ⟨23, _⟩ => ⟨S32x8, .f32⟩
  | .hbm, ⟨24, _⟩ => ⟨S32x8, .f32⟩
  | .hbm, ⟨25, _⟩ => ⟨S32x8, .f32⟩
  | .hbm, ⟨26, _⟩ => ⟨S32x8, .f32⟩
  | .hbm, ⟨27, _⟩ => ⟨S32x8, .f32⟩
  | .hbm, ⟨28, _⟩ => ⟨S32x8, .f32⟩
  | .hbm, ⟨29, _⟩ => ⟨S32x8, .f32⟩
  | .hbm, ⟨30, _⟩ => ⟨S32x8, .f32⟩
  | .hbm, ⟨31, _⟩ => ⟨S8, .f32⟩
  | .hbm, ⟨32, _⟩ => ⟨S8, .f32⟩
  | .hbm, ⟨33, _⟩ => ⟨S1x8, .f32⟩
  | .hbm, ⟨34, _⟩ => ⟨S32x8, .f32⟩
  | .hbm, ⟨35, _⟩ => ⟨S32x8, .f32⟩
  | .hbm, ⟨36, _⟩ => ⟨S32x8x1, .f32⟩
  | .hbm, ⟨37, _⟩ => ⟨S32x8x64, .f32⟩
  | .hbm, ⟨38, _⟩ => ⟨S32x8x64, .f32⟩
  | .hbm, ⟨39, _⟩ => ⟨S32x8, .f32⟩
  | .hbm, ⟨40, _⟩ => ⟨S32x8, .f32⟩
  | .hbm, ⟨41, _⟩ => ⟨S32x8x1, .f32⟩
  | .hbm, ⟨42, _⟩ => ⟨S32x8x64, .f32⟩
  | .hbm, ⟨43, _⟩ => ⟨S32x8x64, .f32⟩
  | .hbm, ⟨44, _⟩ => ⟨S32x8, .f32⟩
  | .hbm, ⟨45, _⟩ => ⟨S32x8x1x1, .f32⟩
  | .hbm, ⟨46, _⟩ => ⟨S32x8x64x128, .f32⟩
  | .hbm, ⟨47, _⟩ => ⟨S32x8x64x128, .f32⟩
  | .hbm, ⟨48, _⟩ => ⟨S32x8x64x1, .f32⟩
  | .hbm, ⟨49, _⟩ => ⟨S32x8x1x128, .f32⟩
  | .hbm, ⟨50, _⟩ => ⟨S32x8x64x128, .f32⟩
  | .hbm, ⟨51, _⟩ => ⟨S32x8x64x128, .f32⟩
  | .hbm, ⟨52, _⟩ => ⟨S32x8x64x128, .f32⟩
  | .hbm, ⟨53, _⟩ => ⟨S32x8x64x128, .f32⟩
  | .hbm, ⟨54, _⟩ => ⟨S32x4x128x128, .f32⟩
  | _, _ => ⟨S32x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩

abbrev nD : Nat := 1
abbrev τ : Topo := Topo.v7x

variable {F : FTy → Type} [FloatOps F]
-- ==== Proof.FfnSpec.lean ====
/-
  The feed-forward layer as plain mathematics over the extended reals: one row of the residual is normalised, projected
  to a gate and an up lane, gated, projected back and added at half weight. Two arrangements of the same value are
  related here: half weight applied once to the whole projection (as the layer is defined), and half weight applied
  inside each gated lane, the lanes taken in eleven steps of two groups of 256.
-/
module

public import Idealize.ShloMosaic.Lib.Pipeline.ValueKit

@[expose] public section

set_option maxRecDepth 16384

noncomputable section

open Idealize.ShloMosaic

namespace Cert.FfnSpec

/-- The weight one half, as the float word both programs carry. -/
def half : EReal := Ideal.ofBits .f32 0x3F000000#32

/-- The weight is the real number one half. -/
theorem half_eq : half = ((1 / 2 : ℝ) : EReal) := by
  simp [half, Ideal.ofBits, Ideal.ieee]
  rw [← EReal.coe_mul]
  norm_num

/-- The reciprocal root mean square of a row of 2048 lanes (the row length and the small constant as float words). -/
def scale (x : Fin 2048 → EReal) : EReal :=
  Ideal.rsqrt (Ideal.div (∑ k, x k * x k) (Ideal.ofBits .f32 0x45000000#32) + Ideal.ofBits .f32 0x358637BD#32)

/-- A normalised row: each lane times the row's scale times the lane's gain. -/
def normed (x g : Fin 2048 → EReal) (k : Fin 2048) : EReal := x k * scale x * g k

/-- The projection of a normalised row on column `n` of the weights. -/
def proj (x g : Fin 2048 → EReal) (W : Fin 2048 → Fin 11264 → EReal) (n : Fin 11264) : EReal :=
  ∑ k, normed x g k * W k n

/-- `a` times the logistic function of `a`. -/
def silu (a : EReal) : EReal := a * Ideal.div 1 (1 + Ideal.exp (-a))

/-- The gate column of lane `j`. -/
abbrev gcol (j : Fin 5632) : Fin 11264 := ⟨j.val, by omega⟩
/-- The up column of lane `j`. -/
abbrev ucol (j : Fin 5632) : Fin 11264 := ⟨5632 + j.val, by omega⟩

/-- Lane `j` of the gated row. -/
def gated (x g : Fin 2048 → EReal) (W : Fin 2048 → Fin 11264 → EReal) (j : Fin 5632) : EReal :=
  silu (proj x g W (gcol j)) * proj x g W (ucol j)

/-- The layer's new residual at column `d`. -/
def hidden (x g : Fin 2048 → EReal) (W : Fin 2048 → Fin 11264 → EReal) (D : Fin 5632 → Fin 2048 → EReal) (d : Fin 2048) : EReal :=
  x d + half * ∑ j, gated x g W j * D j d

/-- Half weight inside the lane: lane `j`'s contribution to column `d`. -/
def lane (x g : Fin 2048 → EReal) (W : Fin 2048 → Fin 11264 → EReal) (D : Fin 5632 → Fin 2048 → EReal) (d : Fin 2048) (j : Fin 5632) : EReal :=
  half * (proj x g W (gcol j) * Ideal.div 1 (1 + Ideal.exp (0 - proj x g W (gcol j)))) * proj x g W (ucol j) * D j d

/-- The contribution of step `f`: its two groups of 256 lanes. -/
def step (x g : Fin 2048 → EReal) (W : Fin 2048 → Fin 11264 → EReal) (D : Fin 5632 → Fin 2048 → EReal) (d : Fin 2048) (f : Fin 11) : EReal :=
  ∑ j : Fin 256, lane x g W D d ⟨512 * f.val + j.val, by omega⟩
    + ∑ j : Fin 256, lane x g W D d ⟨512 * f.val + (256 + j.val), by omega⟩

/-- The real weight one half distributes over a finite sum of extended reals. -/
theorem half_mul_sum {ι : Type*} (s : Finset ι) (f : ι → EReal) : half * ∑ i ∈ s, f i = ∑ i ∈ s, half * f i := by
  classical
  induction s using Finset.induction_on with
  | empty => simp
  | insert a s ha ih =>
    rw [Finset.sum_insert ha, Finset.sum_insert ha, ← ih]
    rw [half_eq]
    exact EReal.left_distrib_of_nonneg_of_ne_top (by norm_num) (EReal.coe_ne_top _) _ _

/-- A lane with the weight inside is the weight times the gated lane's contribution. -/
theorem lane_eq (x g : Fin 2048 → EReal) (W : Fin 2048 → Fin 11264 → EReal) (D : Fin 5632 → Fin 2048 → EReal) (d : Fin 2048) (j : Fin 5632) :
    lane x g W D d j = half * (gated x g W j * D j d) := by
  unfold lane gated silu
  rw [zero_sub]
  simp only [mul_assoc]

/-- A sum over 512 lanes is the sum over its two halves of 256. -/
theorem sum_halves {N : ℕ} (f : Fin N → EReal) (o : ℕ) (ho : o + 512 ≤ N) :
    ∑ j : Fin 512, f ⟨o + j.val, by omega⟩
      = ∑ j : Fin 256, f ⟨o + j.val, by omega⟩ + ∑ j : Fin 256, f ⟨o + (256 + j.val), by omega⟩ :=
  Fin.sum_univ_add (a := 256) (b := 256) (fun j : Fin (256 + 256) => f ⟨o + j.val, by omega⟩)

/-- All 5632 lanes are the eleven steps' lanes. -/
theorem sum_steps (x g : Fin 2048 → EReal) (W : Fin 2048 → Fin 11264 → EReal) (D : Fin 5632 → Fin 2048 → EReal) (d : Fin 2048) :
    ∑ f, step x g W D d f = ∑ j, lane x g W D d j := by
  have e := (Equiv.sum_comp (finProdFinEquiv (m := 11) (n := 512)) (fun j : Fin (11 * 512) => lane x g W D d ⟨j.val, j.isLt⟩)).symm
  rw [Fintype.sum_prod_type] at e
  refine Eq.trans ?_ e.symm
  refine Finset.sum_congr rfl fun f _ => ?_
  unfold step
  rw [← sum_halves (lane x g W D d) (512 * f.val) (by omega)]
  refine Finset.sum_congr rfl fun j _ => ?_
  congr 1
  apply Fin.ext
  simp [finProdFinEquiv, add_comm]

/-- The residual plus the eleven steps is the layer's new residual. -/
theorem steps_eq (x g : Fin 2048 → EReal) (W : Fin 2048 → Fin 11264 → EReal) (D : Fin 5632 → Fin 2048 → EReal) (d : Fin 2048) :
    x d + ∑ f, step x g W D d f = hidden x g W D d := by
  rw [sum_steps, hidden, half_mul_sum]
  simp only [lane_eq]

end Cert.FfnSpec
-- ==== Proof.FfnOpen.lean ====
/-
  One grid point of the feed-forward kernel, read at an index: the body's stored values over its input blocks, and the
  blocks as places of the argument arrays.
-/
module

public import proofs.«01_k».proof.Proof.FfnSpec
public import proofs.«01_k».proof.Proof.Gen.Kernel2Ideal.Frame
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel2Ideal.Ffn

open Cert.Kernel2Ideal Cert.Kernel2Ideal.Gen Cert.FfnSpec

variable (m : (ℓ : Loc nD τ sig) → Buf (Elt Ideal) ℓ)

/-- The argument arrays as plain functions: the residual's row `R`, the gain, the two weight matrices, the last gain. -/
def aX (c : Dev nD) (R : Fin 16384) (k : Fin 2048) : EReal := (m ((c : Thread nD τ).loc main_arg0) : FVec Ideal S16384x2048 .f32) (ix2 R k)
def aG (c : Dev nD) (k : Fin 2048) : EReal := (m ((c : Thread nD τ).loc main_arg1) : FVec Ideal S2048 .f32) (ix1 k)
def aW (c : Dev nD) (k : Fin 2048) (n : Fin 11264) : EReal := (m ((c : Thread nD τ).loc main_arg2) : FVec Ideal S2048x11264 .f32) (ix2 k n)
def aD (c : Dev nD) (j : Fin 5632) (d : Fin 2048) : EReal := (m ((c : Thread nD τ).loc main_arg3) : FVec Ideal S5632x2048 .f32) (ix2 j d)
def aP (c : Dev nD) (k : Fin 2048) : EReal := (m ((c : Thread nD τ).loc main_arg4) : FVec Ideal S2048 .f32) (ix1 k)

/-- The eleven-step accumulation's one step, over the point's pieces of the weights. -/
theorem pay_acc (xn : FVec Ideal S512x2048 .bf16) (g1 g2 u1 u2 : FVec Ideal S2048x256 .bf16) (d1 d2 : FVec Ideal S256x2048 .bf16)
    (acc : FVec Ideal S512x2048 .f32) (r : Fin 512) (d : Fin 2048) :
    k0_pay1 (F := Ideal) (k0_pay4 xn g2) (k0_pay5 xn u2) (k0_pay6 xn g1 u1 d1) (k0_pay7 xn g2) d2 acc (ix2 r d)
      = acc (ix2 r d) + (∑ j, half * ((∑ k, xn (ix2 r k) * g1 (ix2 k j)) * Ideal.div 1 (1 + Ideal.exp (0 - ∑ k, xn (ix2 r k) * g1 (ix2 k j)))) * (∑ k, xn (ix2 r k) * u1 (ix2 k j)) * d1 (ix2 j d)
        + ∑ j, half * ((∑ k, xn (ix2 r k) * g2 (ix2 k j)) * Ideal.div 1 (1 + Ideal.exp (0 - ∑ k, xn (ix2 r k) * g2 (ix2 k j)))) * (∑ k, xn (ix2 r k) * u2 (ix2 k j)) * d2 (ix2 j d)) := by
  pointwise [k0_pay1, k0_pay4, k0_pay5, k0_pay6, k0_pay7]
  rfl

/-- The normalised block stored at a run's first point. -/
theorem pay_norm (x : FVec Ideal S512x2048 .f32) (g : FVec Ideal S1x2048 .f32) (r : Fin 512) (k : Fin 2048) :
    k0_pay3 (F := Ideal) x g (ix2 r k) = normed (fun k => x (ix2 r k)) (fun k => g (ix2 0 k)) k := by
  pointwise [k0_pay3]
  rfl

/-- The second result's block: the new residual normalised with the last gain. -/
theorem pay_post (x : FVec Ideal S512x2048 .f32) (g : FVec Ideal S1x2048 .f32) (r : Fin 512) (k : Fin 2048) :
    k0_pay2 (F := Ideal) x g (ix2 r k) = normed (fun k => x (ix2 r k)) (fun k => g (ix2 0 k)) k := by
  pointwise [k0_pay2]
  rfl

/-- Every window's block index, at every grid point. -/
theorem idx : ∀ t : Fin cfg0.N, win0_0.index t = ![t.val / 11, 0] ∧ win0_1.index t = ![0, 0] ∧ win0_2.index t = ![0, t.val % 11]
    ∧ win0_3.index t = ![0, t.val % 11 + 11] ∧ win0_4.index t = ![t.val % 11, 0] ∧ win0_5.index t = ![0, 0]
    ∧ win0_6.index t = ![t.val / 11, 0] ∧ win0_7.index t = ![t.val / 11, 0] :=
  (by decide +kernel : ∀ t : Fin grid0.N, _)

/-- The row of the residual array that row `r` of the point's block is. -/
abbrev row (t : Fin cfg0.N) (r : Fin 512) : Fin 16384 :=
  ⟨512 * (t.val / 11) + r.val, by have := lt_of_lt_of_eq t.isLt (show cfg0.N = 352 from N_0); omega⟩

theorem blk0 (c : Dev nD) (t : Fin cfg0.N) (r : Fin 512) (k : Fin 2048) :
    (iblk m c 0 t : FVec Ideal S512x2048 .f32) (ix2 r k) = aX m c (row t r) k := by
  unfold aX
  blk_ext [iblk, V, idx t]

theorem blk1 (c : Dev nD) (t : Fin cfg0.N) (k : Fin 2048) :
    (iblk m c 1 t : FVec Ideal S1x2048 .f32) (ix2 0 k) = aG m c k := by
  unfold aG
  blk_point [iblk, V, idx t]

theorem blk2 (c : Dev nD) (t : Fin cfg0.N) (k : Fin 2048) (j : Fin 512) :
    (iblk m c 2 t : FVec Ideal S2048x512 .bf16) (ix2 k j) = aW m c k ⟨512 * (t.val % 11) + j.val, by omega⟩ := by
  unfold aW
  blk_point [iblk, V, idx t]

theorem blk3 (c : Dev nD) (t : Fin cfg0.N) (k : Fin 2048) (j : Fin 512) :
    (iblk m c 3 t : FVec Ideal S2048x512 .bf16) (ix2 k j) = aW m c k ⟨5632 + (512 * (t.val % 11) + j.val), by omega⟩ := by
  unfold aW
  blk_point [iblk, V, idx t]

theorem blk4 (c : Dev nD) (t : Fin cfg0.N) (d : Fin 2048) (j : Fin 512) :
    (iblk m c 4 t : FVec Ideal S512x2048 .bf16) (ix2 j d) = aD m c ⟨512 * (t.val % 11) + j.val, by omega⟩ d := by
  unfold aD
  blk_point [iblk, V, idx t]

theorem blk5 (c : Dev nD) (t : Fin cfg0.N) (k : Fin 2048) :
    (iblk m c 5 t : FVec Ideal S1x2048 .f32) (ix2 0 k) = aP m c k := by
  unfold aP
  blk_point [iblk, V, idx t]

/-- One step of the accumulation over the point's blocks is `step` of the layer's mathematics, given that the carried
    block holds the normalised rows. -/
theorem step_eq (c : Dev nD) (t : Fin cfg0.N) (xn : FVec Ideal S512x2048 .bf16) (acc : FVec Ideal S512x2048 .f32) (r : Fin 512) (d : Fin 2048)
    (hx : ∀ k, xn (ix2 r k) = normed (aX m c (row t r)) (aG m c) k) :
    k0_pay1 (F := Ideal)
      (k0_pay4 xn (View.ld (iblk m c 2 t) (Rect.unit ![0, 256] ![2048, 256] inb_S2048x512_S2048x256_0_256)))
      (k0_pay5 xn (View.ld (iblk m c 3 t) (Rect.unit ![0, 256] ![2048, 256] inb_S2048x512_S2048x256_0_256)))
      (k0_pay6 xn
        (View.ld (iblk m c 2 t) (Rect.unit ![0, 0] ![2048, 256] inb_S2048x512_S2048x256_0_0))
        (View.ld (iblk m c 3 t) (Rect.unit ![0, 0] ![2048, 256] inb_S2048x512_S2048x256_0_0))
        (View.ld (iblk m c 4 t) (Rect.unit ![0, 0] ![256, 2048] inb_S512x2048_S256x2048_0_0)))
      (k0_pay7 xn (View.ld (iblk m c 2 t) (Rect.unit ![0, 256] ![2048, 256] inb_S2048x512_S2048x256_0_256)))
      (View.ld (iblk m c 4 t) (Rect.unit ![256, 0] ![256, 2048] inb_S512x2048_S256x2048_256_0)) acc (ix2 r d)
      = acc (ix2 r d) + step (aX m c (row t r)) (aG m c) (aW m c) (aD m c) d ⟨t.val % 11, by omega⟩ := by
  rw [pay_acc]
  pointwise
  simp only [hx]
  refine congrArg (acc (ix2 r d) + ·) (congrArg₂ (· + ·) (Finset.sum_congr rfl fun j _ => ?_) (Finset.sum_congr rfl fun j _ => ?_))
  · have eg : ∀ k, _ := fun k => blk2 m c t k ⟨j.val, by omega⟩
    have eu : ∀ k, _ := fun k => blk3 m c t k ⟨j.val, by omega⟩
    have ed := blk4 m c t d ⟨j.val, by omega⟩
    unfold lane proj
    exact congrArg₂ (· * ·) (congrArg₂ (fun a b : EReal => half * (a * Ideal.div 1 (1 + Ideal.exp (0 - a))) * b)
      (Finset.sum_congr rfl fun k _ => congrArg (_ * ·) (eg k)) (Finset.sum_congr rfl fun k _ => congrArg (_ * ·) (eu k))) ed
  · have eg : ∀ k, _ := fun k => blk2 m c t k ⟨256 + j.val, by omega⟩
    have eu : ∀ k, _ := fun k => blk3 m c t k ⟨256 + j.val, by omega⟩
    have ed := blk4 m c t d ⟨256 + j.val, by omega⟩
    unfold lane proj
    exact congrArg₂ (· * ·) (congrArg₂ (fun a b : EReal => half * (a * Ideal.div 1 (1 + Ideal.exp (0 - a))) * b)
      (Finset.sum_congr rfl fun k _ => congrArg (_ * ·) (eg k)) (Finset.sum_congr rfl fun k _ => congrArg (_ * ·) (eu k))) ed

/-- The normalised block of a run's first point is the argument's rows normalised. -/
theorem norm_eq (c : Dev nD) (t : Fin cfg0.N) (r : Fin 512) (k : Fin 2048) :
    k0_pay3 (F := Ideal) (iblk m c 0 t) (iblk m c 1 t) (ix2 r k) = normed (aX m c (row t r)) (aG m c) k := by
  rw [pay_norm]
  exact congrArg₂ (fun a b => normed a b k) (funext fun k => blk0 m c t r k) (funext fun k => blk1 m c t k)

/-- What a point of the first case leaves in the carried block. -/
theorem scr_A (c : Dev nD) (t : Fin cfg0.N) (h0 : t.val % 11 = 0) (h1 : ¬t.val % 11 = 10) (r : Fin 512) (k : Fin 2048) :
    (outsAt0 m c t.val t.isLt).2.2 (ix2 r k) = normed (aX m c (row t r)) (aG m c) k := by
  refine Eq.trans ?_ (norm_eq m c t r k)
  rw [outsAt0_A m c t h0 h1]
  frame_out

/-- A later point of a run leaves the carried block as the point before did. -/
theorem scr_hold (c : Dev nD) (t : Fin cfg0.N) (h0 : ¬t.val % 11 = 0) :
    (outsAt0 m c t.val t.isLt).2.2 = (outsAt0 m c (t.val - 1) (Nat.lt_of_le_of_lt (Nat.sub_le _ _) t.isLt)).2.2 := by
  by_cases h1 : t.val % 11 = 10
  · rw [outsAt0_C m c t h0 h1]
    unfold sout0_C_0
    rfl
  · rw [outsAt0_B m c t h0 h1]
    unfold sout0_B_0
    rfl

/-- At every point the carried block holds the normalised rows of the point's block of the residual. -/
theorem scr_eq (c : Dev nD) : ∀ (n : ℕ) (hn : n < cfg0.N) (r : Fin 512) (k : Fin 2048),
    (outsAt0 m c n hn).2.2 (ix2 r k) = normed (aX m c (row ⟨n, hn⟩ r)) (aG m c) k
  | 0, hn, r, k => scr_A m c ⟨0, hn⟩ (Nat.zero_mod _) (by dsimp only; omega) r k
  | n + 1, hn, r, k => by
    by_cases h0 : (n + 1) % 11 = 0
    · exact scr_A m c ⟨n + 1, hn⟩ h0 (by dsimp only; omega) r k
    · have e := congrFun (scr_hold m c ⟨n + 1, hn⟩ h0) (ix2 r k)
      refine e.trans ((scr_eq c n (by omega) r k).trans ?_)
      have hr : row ⟨n, by omega⟩ r = row ⟨n + 1, hn⟩ r := by
        apply Fin.ext; show 512 * (n / 11) + r.val = 512 * ((n + 1) / 11) + r.val; omega
      rw [hr]

/-- The steps of a run up to step `k`, added to the residual. -/
def part (c : Dev nD) (R : Fin 16384) (d : Fin 2048) (k : ℕ) : EReal :=
  aX m c R d + ∑ f ∈ Finset.range (k + 1), if h : f < 11 then step (aX m c R) (aG m c) (aW m c) (aD m c) d ⟨f, h⟩ else 0

theorem part_zero (c : Dev nD) (R : Fin 16384) (d : Fin 2048) :
    part m c R d 0 = aX m c R d + step (aX m c R) (aG m c) (aW m c) (aD m c) d ⟨0, by omega⟩ := by
  unfold part; simp

theorem part_succ (c : Dev nD) (R : Fin 16384) (d : Fin 2048) (k : ℕ) (hk : k + 1 < 11) :
    part m c R d (k + 1) = part m c R d k + step (aX m c R) (aG m c) (aW m c) (aD m c) d ⟨k + 1, hk⟩ := by
  unfold part
  rw [Finset.sum_range_succ _ (k + 1), ← add_assoc, dif_pos hk]

theorem part_last (c : Dev nD) (R : Fin 16384) (d : Fin 2048) :
    part m c R d 10 = hidden (aX m c R) (aG m c) (aW m c) (aD m c) d := by
  rw [← steps_eq, part, Finset.sum_range]
  refine congrArg (_ + ·) (Finset.sum_congr rfl fun f _ => ?_)
  rw [dif_pos f.isLt]

/-- A run's first point: the residual and the first step. -/
theorem acc_A (c : Dev nD) (t : Fin cfg0.N) (h0 : t.val % 11 = 0) (h1 : ¬t.val % 11 = 10) (r : Fin 512) (d : Fin 2048) :
    (outsAt0 m c t.val t.isLt).1 (ix2 r d) = part m c (row t r) d (t.val % 11) := by
  have e : (⟨t.val % 11, by omega⟩ : Fin 11) = ⟨0, by omega⟩ := Fin.ext h0
  have key := step_eq m c t (k0_pay3 (F := Ideal) (iblk m c 0 t) (iblk m c 1 t)) (iblk m c 0 t) r d (norm_eq m c t r)
  rw [e] at key
  rw [h0, part_zero, ← blk0 m c t r d]
  refine Eq.trans ?_ key
  rw [outsAt0_A m c t h0 h1]
  frame_out
  rfl

/-- A later point of a run adds its step to what the point before left. -/
theorem acc_BC (c : Dev nD) (t : Fin cfg0.N) (h0 : ¬t.val % 11 = 0) (r : Fin 512) (d : Fin 2048) :
    (outsAt0 m c t.val t.isLt).1 (ix2 r d)
      = (outsAt0 m c (t.val - 1) (Nat.lt_of_le_of_lt (Nat.sub_le _ _) t.isLt)).1 (ix2 r d)
        + step (aX m c (row t r)) (aG m c) (aW m c) (aD m c) d ⟨t.val % 11, by omega⟩ := by
  have hs := scr_hold m c t h0
  have key := step_eq m c t (outsAt0 m c (t.val - 1) (Nat.lt_of_le_of_lt (Nat.sub_le _ _) t.isLt)).2.2
    (outsAt0 m c (t.val - 1) (Nat.lt_of_le_of_lt (Nat.sub_le _ _) t.isLt)).1 r d
    (fun k => (congrFun hs (ix2 r k)).symm.trans (scr_eq m c t.val t.isLt r k))
  refine Eq.trans ?_ key
  by_cases h1 : t.val % 11 = 10
  · rw [outsAt0_C m c t h0 h1]
    frame_out
    simp only [read_unread_whole]
    rfl
  · rw [outsAt0_B m c t h0 h1]
    frame_out
    simp only [read_unread_whole]
    rfl

/-- After each point the first result's block holds the residual and the run's steps so far. -/
theorem acc_eq (c : Dev nD) : ∀ (n : ℕ) (hn : n < cfg0.N) (r : Fin 512) (d : Fin 2048),
    (outsAt0 m c n hn).1 (ix2 r d) = part m c (row ⟨n, hn⟩ r) d (n % 11)
  | 0, hn, r, d => acc_A m c ⟨0, hn⟩ (Nat.zero_mod _) (by dsimp only; omega) r d
  | n + 1, hn, r, d => by
    by_cases h0 : (n + 1) % 11 = 0
    · exact acc_A m c ⟨n + 1, hn⟩ h0 (by dsimp only; omega) r d
    · refine (acc_BC m c ⟨n + 1, hn⟩ h0 r d).trans ?_
      have hr : row ⟨n, by omega⟩ r = row ⟨n + 1, hn⟩ r := by
        apply Fin.ext; show 512 * (n / 11) + r.val = 512 * ((n + 1) / 11) + r.val; omega
      have ih := acc_eq c n (by omega) r d
      rw [hr] at ih
      have hk : (n + 1) % 11 = n % 11 + 1 := by omega
      have e : (⟨(n + 1) % 11, by omega⟩ : Fin 11) = ⟨n % 11 + 1, by omega⟩ := Fin.ext hk
      refine Eq.trans ?_ (congrArg (part m c (row ⟨n + 1, hn⟩ r) d) hk).symm
      rw [part_succ m c _ d _ (by omega)]
      exact congrArg₂ (· + ·) ih (congrArg (step (aX m c (row ⟨n + 1, hn⟩ r)) (aG m c) (aW m c) (aD m c) d) e)

/-- After a run's last point the first result's block holds the layer's new residual. -/
theorem acc_last (c : Dev nD) (t : Fin cfg0.N) (h1 : t.val % 11 = 10) (r : Fin 512) (d : Fin 2048) :
    (outsAt0 m c t.val t.isLt).1 (ix2 r d) = hidden (aX m c (row t r)) (aG m c) (aW m c) (aD m c) d := by
  refine (acc_eq m c t.val t.isLt r d).trans ?_
  rw [h1]
  exact part_last m c (row t r) d

/-- After a run's last point the second result's block holds the new residual normalised. -/
theorem post_last (c : Dev nD) (t : Fin cfg0.N) (h1 : t.val % 11 = 10) (r : Fin 512) (d : Fin 2048) :
    (outsAt0 m c t.val t.isLt).2.1 (ix2 r d)
      = normed (hidden (aX m c (row t r)) (aG m c) (aW m c) (aD m c)) (aP m c) d := by
  have h0 : ¬t.val % 11 = 0 := by omega
  have e : (outsAt0 m c t.val t.isLt).2.1 (ix2 r d) = k0_pay2 (F := Ideal) (outsAt0 m c t.val t.isLt).1 (iblk m c 5 t) (ix2 r d) := by
    rw [outsAt0_C m c t h0 h1]
    frame_out
  refine e.trans ((pay_post _ _ r d).trans ?_)
  exact congrArg₂ (fun a b => normed a b d) (funext fun k => acc_last m c t h1 r k) (funext fun k => blk5 m c t k)

end Cert.Kernel2Ideal.Ffn
-- ==== Proof.FfnArr.lean ====
/-
  The feed-forward kernel's two result arrays after the run, at every index.
-/
module

public import proofs.«01_k».proof.Proof.FfnOpen
public import proofs.«01_k».proof.Proof.Gen.Kernel2Ideal.Value

@[expose] public section

set_option maxRecDepth 16384

noncomputable section

open Idealize.ShloMosaic Idealize.ShloMosaic.TcCoe Idealize.SL.Sem
open Idealize.ShloMosaic.Pipeline (Dat)

namespace Cert.Kernel2Ideal.Ffn

open Cert.Kernel2Ideal Cert.Kernel2Ideal.Gen Cert.FfnSpec

variable (m : (ℓ : Loc nD τ sig) → Buf (Elt Ideal) ℓ)

/-- The new residual, as an array. -/
def outH (c : Dev nD) : FVec Ideal S16384x2048 .f32 := fun i =>
  hidden (aX m c ⟨(i 0).val, (i 0).isLt⟩) (aG m c) (aW m c) (aD m c) ⟨(i 1).val, (i 1).isLt⟩

/-- The new residual normalised with the last gain, as an array. -/
def outY (c : Dev nD) : FVec Ideal S16384x2048 .f32 := fun i =>
  normed (hidden (aX m c ⟨(i 0).val, (i 0).isLt⟩) (aG m c) (aW m c) (aD m c)) (aP m c) ⟨(i 1).val, (i 1).isLt⟩

/-- The place in the first result array of the point's block at row `r`, column `d`. -/
theorem emb6 (t : Fin cfg0.N) (r : Fin 512) (d : Fin 2048) : ((cfg0.win 6).blk t).view.emb (ix2 r d) = ix2 (row t r) d := by
  funext a
  match a with
  | ⟨0, _⟩ => apply Fin.ext; blk_simp [idx t]; show t.val / 11 * 512 + r.val = 512 * (t.val / 11) + r.val; omega
  | ⟨1, _⟩ => apply Fin.ext; blk_simp [idx t]

/-- The place in the second result array of the point's block at row `r`, column `d`. -/
theorem emb7 (t : Fin cfg0.N) (r : Fin 512) (d : Fin 2048) : ((cfg0.win 7).blk t).view.emb (ix2 r d) = ix2 (row t r) d := by
  funext a
  match a with
  | ⟨0, _⟩ => apply Fin.ext; blk_simp [idx t]; show t.val / 11 * 512 + r.val = 512 * (t.val / 11) + r.val; omega
  | ⟨1, _⟩ => apply Fin.ext; blk_simp [idx t]

/-- After the run the first result array is the new residual. -/
theorem final6 (c : Dev nD) : (dats m 0 c).arrAt 6 cfg0.N = outH m c := by
  refine (dats m 0 c).arrAt_eq_of_covers 6 _ (by decide +kernel) fun t hf y => ?_
  have h1 : t.val % 11 = 10 := (flush0_6 t).mp hf
  blk_simp
  rw [after0_6]
  idx_vars y
  exact (acc_last m c t h1 y0 y1).trans (congrArg (outH m c) (emb6 t y0 y1).symm)

/-- After the run the second result array is the new residual normalised. -/
theorem final7 (c : Dev nD) : (dats m 0 c).arrAt 7 cfg0.N = outY m c := by
  refine (dats m 0 c).arrAt_eq_of_covers 7 _ (by decide +kernel) fun t hf y => ?_
  have h1 : t.val % 11 = 10 := (flush0_7 t).mp hf
  blk_simp
  rw [after0_7]
  idx_vars y
  exact (post_last m c t h1 y0 y1).trans (congrArg (outY m c) (emb7 t y0 y1).symm)

end Cert.Kernel2Ideal.Ffn
-- ==== Proof.FfnRef.lean ====
/-
  The feed-forward reference read at an index: its two results are the layer's mathematics.
-/
module

public import proofs.«01_k».proof.Proof.FfnSpec
public import proofs.«01_k».proof.Proof.Gen.Reference2Ideal.Read
public import Idealize.ShloMosaic.Lib.Pipeline.ValueKit

@[expose] public section

set_option maxRecDepth 16384

noncomputable section

open Idealize.ShloMosaic Idealize.ShloMosaic.TcCoe Idealize.SL.Sem

namespace Cert.Reference2Ideal.Ffn

open Cert.Reference2Ideal Cert.Reference2Ideal.Read Cert.FfnSpec

variable (x : FVec Ideal S16384x2048 .f32) (g : FVec Ideal S2048 .f32) (W : FVec Ideal S2048x11264 .f32) (D : FVec Ideal S5632x2048 .f32) (p : FVec Ideal S2048 .f32)

/-- The normalised row. -/
theorem v12 (R : Fin 16384) (k : Fin 2048) :
    val_main_v12 (F := Ideal) x g (ix2 R k) = normed (fun k => x (ix2 R k)) (fun k => g (ix1 k)) k := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- The projection on every gate and up column. -/
theorem v13 (R : Fin 16384) (n : Fin 11264) :
    val_main_v13 (F := Ideal) x g W (ix2 R n) = proj (fun k => x (ix2 R k)) (fun k => g (ix1 k)) (fun k n => W (ix2 k n)) n := by
  pointwise [val_main_v13]
  simp only [v12]
  rfl

/-- The gated lane. -/
theorem v17 (R : Fin 16384) (j : Fin 5632) :
    val_main_v17 (F := Ideal) x g W (ix2 R j) = gated (fun k => x (ix2 R k)) (fun k => g (ix1 k)) (fun k n => W (ix2 k n)) j := by
  pointwise [val_main_v17, val_main_v16, val_main_v15, val_main_v14, val_main_call0_v0, val_main_call0_v1, val_main_call0_v2, val_main_call0_v3, val_main_call0_v4, val_main_call0_v5, val_main_call0_cst, val_main_call0_cst_0]
  simp only [v13]
  rfl

/-- The new residual. -/
theorem v21 (R : Fin 16384) (d : Fin 2048) :
    val_main_v21 (F := Ideal) x g W D (ix2 R d) = hidden (fun k => x (ix2 R k)) (fun k => g (ix1 k)) (fun k n => W (ix2 k n)) (fun j d => D (ix2 j d)) d := by
  pointwise [val_main_v21, val_main_v20, val_main_v19, val_main_v18, val_main_cst_2]
  simp only [v17]
  rfl

/-- The new residual normalised. -/
theorem v34 (R : Fin 16384) (d : Fin 2048) :
    val_main_v34 (F := Ideal) x g W D p (ix2 R d) = normed (hidden (fun k => x (ix2 R k)) (fun k => g (ix1 k)) (fun k n => W (ix2 k n)) (fun j d => D (ix2 j d))) (fun k => p (ix1 k)) d := by
  pointwise [val_main_v34, val_main_v33, val_main_v32, val_main_v31, val_main_v30, val_main_v29, val_main_v28, val_main_v27, val_main_v26, val_main_v25, val_main_v24, val_main_v23, val_main_v22, val_main_cst_3, val_main_cst_4, val_main_cst_5]
  simp only [v21]
  rfl

end Cert.Reference2Ideal.Ffn
-- ==== Proof.FfnClaim.lean ====
/-
  The feed-forward layer's claims: the kernel's two result arrays are the reference's, and the reference's run.
-/
module

public import proofs.«01_k».proof.Defs
public import proofs.«01_k».proof.Proof.FfnArr
public import proofs.«01_k».proof.Proof.FfnRef
public import proofs.«01_k».proof.Proof.Gen.Reference2Ideal.Run
public import Idealize.ShloMosaic.Lib.Claim

@[expose] public section

set_option maxRecDepth 16384

noncomputable section

open Idealize.ShloMosaic Idealize.ShloMosaic.TcCoe Idealize.SL.Sem

namespace Cert.Proof.FfnClaim

/-- The reference leaves its arguments as launched and every counter at zero. -/
theorem frame_ref : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

/-- The kernel and the reference end with the same two arrays. -/
theorem algebraic : Cert.algebraic_Kernel2Ideal_Reference2Ideal := by
  pair_intro
  · run_from Cert.Kernel2Ideal.Value.run_blocks m g
  · run_from Cert.Reference2Ideal.Value.run m' g'
    · rw [Cert.Kernel2Ideal.Ffn.final6 m c, Cert.Reference2Ideal.Read.val_main_v21_eq]
      funext i
      idx_vars i
      exact Cert.Reference2Ideal.Ffn.v21 _ _ _ _ i0 i1
    · obtain ⟨e0, e1, e2, e3, e4⟩ := hagree c
      rw [Cert.Kernel2Ideal.Ffn.final7 m c, Cert.Reference2Ideal.Read.val_main_v34_eq, e0, e1, e2, e3, e4]
      funext i
      idx_vars i
      exact Cert.Reference2Ideal.Ffn.v34 _ _ _ _ _ i0 i1

end Cert.Proof.FfnClaim
-- ==== Proof.AttnSpec.lean ====
/-
  Causal differential attention as plain mathematics over the extended reals, for one row of queries: two components'
  scores against every key, each component's softmax weights, and the difference of the two weighted sums of the values.
  Two arrangements of the same row are related here: the softmax weights divided before they meet the values (as the
  layer is defined), and the weighted sums taken first and divided after, over the keys up to the row's own block of 512
  alone, that block and the keys before it taken apart.
-/
module

public import Idealize.ShloMosaic.Lib.Pipeline.ValueKit

@[expose] public section

set_option maxRecDepth 16384

noncomputable section

open Idealize.ShloMosaic

namespace Cert.AttnSpec

/-- The score scale one eighth, as the float word both programs carry. -/
def scl : EReal := Ideal.ofBits .f32 0x3E000000#32
/-- A masked score, as the float word both programs carry. -/
def ninf : EReal := Ideal.ofBits .f32 0xFF800000#32

/-- The scale is the real number one eighth. -/
theorem scl_eq : scl = ((1 / 8 : ℝ) : EReal) := by
  simp [scl, Ideal.ofBits, Ideal.ieee]
  rw [← EReal.coe_mul]
  norm_num

/-- A masked score is minus infinity. -/
theorem ninf_eq : ninf = ⊥ := by
  simp [ninf, Ideal.ofBits, Ideal.ieee]

/-- The scale, a real number that is not negative, distributes over a finite sum of extended reals. -/
theorem scl_mul_sum {ι : Type} (s : Finset ι) (f : ι → EReal) : scl * ∑ i ∈ s, f i = ∑ i ∈ s, scl * f i := by
  classical
  rw [scl_eq]
  induction s using Finset.induction_on with
  | empty => simp
  | insert a s ha ih =>
    rw [Finset.sum_insert ha, Finset.sum_insert ha, ← ih]
    exact EReal.left_distrib_of_nonneg_of_ne_top (by norm_num) (EReal.coe_ne_top _) _ _

/-- Lane `l` of component `c` of a head. -/
abbrev chan (c : Fin 2) (l : Fin 64) : Fin 128 := ⟨64 * c.val + l.val, by omega⟩

/-- The product of a query and a key over one component's lanes. -/
def dotc (c : Fin 2) (q k : Fin 128 → EReal) : EReal := ∑ l : Fin 64, q (chan c l) * k (chan c l)

/-- A row's score against key `j`: minus infinity at a later key. -/
def score (c : Fin 2) (q : Fin 128 → EReal) (K : Fin 2048 → Fin 128 → EReal) (i j : Fin 2048) : EReal :=
  if j.val ≤ i.val then dotc c q (K j) * scl else ninf

/-- The query scaled on one component's lanes and zero on the other's. -/
def mq (c : Fin 2) (q : Fin 128 → EReal) (l : Fin 128) : EReal := if l.val / 64 = c.val then q l * scl else 0

/-- The product with the query of one component is the scaled product over that component's lanes. -/
theorem dot_mq (c : Fin 2) (q k : Fin 128 → EReal) : ∑ l, mq c q l * k l = dotc c q k * scl := by
  have hs : ∀ f : Fin 128 → EReal, ∑ l, f l = ∑ l : Fin 64, f ⟨l.val, by omega⟩ + ∑ l : Fin 64, f ⟨64 + l.val, by omega⟩ := fun f => by
    rw [show (∑ l, f l) = ∑ l : Fin (64 + 64), f l from rfl, Fin.sum_univ_add]
    rfl
  have hm : dotc c q k * scl = ∑ l : Fin 64, q (chan c l) * scl * k (chan c l) := by
    unfold dotc
    rw [mul_comm, scl_mul_sum]
    exact Finset.sum_congr rfl fun l _ => by rw [mul_left_comm, mul_assoc]
  rw [hs, hm]
  match c with
  | ⟨0, _⟩ =>
    rw [Finset.sum_eq_zero (s := Finset.univ (α := Fin 64)) (f := fun l : Fin 64 => mq _ q ⟨64 + l.val, by omega⟩ * k ⟨64 + l.val, by omega⟩), add_zero]
    · refine Finset.sum_congr rfl fun l _ => ?_
      unfold mq
      rw [if_pos (by show l.val / 64 = 0; omega)]
      have e : (⟨l.val, by omega⟩ : Fin 128) = chan ⟨0, by omega⟩ l := Fin.ext (by show l.val = 64 * 0 + l.val; omega)
      rw [e]
    · intro l _
      unfold mq
      rw [if_neg (by show ¬(64 + l.val) / 64 = 0; omega), zero_mul]
  | ⟨1, _⟩ =>
    rw [Finset.sum_eq_zero (s := Finset.univ (α := Fin 64)) (f := fun l : Fin 64 => mq _ q ⟨l.val, by omega⟩ * k ⟨l.val, by omega⟩), zero_add]
    · refine Finset.sum_congr rfl fun l _ => ?_
      unfold mq
      rw [if_pos (by show (64 + l.val) / 64 = 1; omega)]
      rfl
    · intro l _
      unfold mq
      rw [if_neg (by show ¬l.val / 64 = 1; omega), zero_mul]

/-- The greatest of a row's scores. -/
def top {n : ℕ} (s : Fin n → EReal) : EReal := Finset.fold max ninf s Finset.univ
/-- A score's weight before division. -/
def wgt (s : Fin 2048 → EReal) (j : Fin 2048) : EReal := Ideal.exp (s j - top s)
/-- The sum of a row's weights. -/
def tot (s : Fin 2048 → EReal) : EReal := ∑ j, wgt s j
/-- The weighted sum of one lane of the values. -/
def acc (s v : Fin 2048 → EReal) : EReal := ∑ j, wgt s j * v j

/-- The row's output lane with the weighted sums divided last. -/
def outK (lam : EReal) (s0 s1 v : Fin 2048 → EReal) : EReal :=
  Ideal.div (acc s0 v) (tot s0) - lam * Ideal.div (acc s1 v) (tot s1)

/-- The row's output lane with the weights divided first. -/
def outR (lam : EReal) (s0 s1 v : Fin 2048 → EReal) : EReal :=
  ∑ j, v j * (Ideal.div (wgt s0 j) (tot s0) - lam * Ideal.div (wgt s1 j) (tot s1))

/-- The weight of the second component: the difference of two exponentials and a constant. -/
def lam (p : Fin 4 → Fin 64 → EReal) : EReal :=
  Ideal.exp (∑ l, p 0 l * p 1 l) - Ideal.exp (∑ l, p 2 l * p 3 l) + Ideal.ofBits .f32 0x3E4CCCCD#32

/-- A head's output row normalised by its root mean square, times the gain and the layer's constant. -/
def finish (o g : Fin 128 → EReal) (d : Fin 128) : EReal :=
  o d * Ideal.rsqrt (Ideal.div (∑ k, o k * o k) (Ideal.ofBits .f32 0x43000000#32) + Ideal.ofBits .f32 0x358637BD#32) * g d
    * Ideal.ofBits .f32 0x3F4CCCCD#32

/-! Taking the keys in two parts. -/

/-- A sum whose terms past the block of 512 at `n` are zero is the block's sum and the sum before it. -/
theorem sum_parts {N n : ℕ} (h : n + 512 ≤ N) (f : Fin N → EReal) (hf : ∀ j : Fin N, n + 512 ≤ j.val → f j = 0) :
    ∑ j : Fin 512, f ⟨n + j.val, by omega⟩ + ∑ j : Fin n, f ⟨j.val, by omega⟩ = ∑ j, f j := by
  obtain ⟨r, rfl⟩ := Nat.exists_eq_add_of_le h
  rw [Fin.sum_univ_add, Fin.sum_univ_add,
    Finset.sum_eq_zero (s := Finset.univ (α := Fin r)) (fun j _ => hf _ (Nat.le_add_right _ _)), add_zero, add_comm]
  rfl

theorem top_eq_sup {n : ℕ} (s : Fin n → EReal) : top s = Finset.univ.sup s := by
  unfold top
  rw [ninf_eq]
  rfl

/-- The greatest score, the scores past the block of 512 at `n` being minus infinity: the greater of the block's and of
    those before it. -/
theorem top_parts {n : ℕ} (h : n + 512 ≤ 2048) (s : Fin 2048 → EReal) (hs : ∀ j : Fin 2048, n + 512 ≤ j.val → s j = ninf) :
    max (top fun j : Fin 512 => s ⟨n + j.val, by omega⟩) (top fun j : Fin n => s ⟨j.val, by omega⟩) = top s := by
  simp only [top_eq_sup]
  refine le_antisymm (max_le (Finset.sup_le fun j _ => Finset.le_sup (f := s) (Finset.mem_univ _))
    (Finset.sup_le fun j _ => Finset.le_sup (f := s) (Finset.mem_univ _))) (Finset.sup_le fun j _ => ?_)
  by_cases h1 : j.val < n
  · exact le_max_of_le_right (Finset.le_sup (f := fun j : Fin n => s ⟨j.val, by omega⟩) (Finset.mem_univ ⟨j.val, h1⟩))
  · by_cases h2 : j.val < n + 512
    · have e : j = ⟨n + (j.val - n), by omega⟩ := Fin.ext (by show j.val = n + (j.val - n); omega)
      refine le_max_of_le_left ?_
      have := Finset.le_sup (f := fun j : Fin 512 => s ⟨n + j.val, by omega⟩) (Finset.mem_univ ⟨j.val - n, by omega⟩)
      rw [e]
      exact this
    · rw [hs j (by omega), ninf_eq]
      exact bot_le

/-- A masked score's weight is zero. -/
theorem exp_masked (t : EReal) : Ideal.exp (ninf - t) = 0 := by
  rw [ninf_eq, EReal.bot_sub]
  rfl

/-- The scores past the row's block are masked. -/
theorem score_later (c : Fin 2) (q : Fin 128 → EReal) (K : Fin 2048 → Fin 128 → EReal) (i : Fin 2048) {n : ℕ} (hi : i.val < n)
    (j : Fin 2048) (hj : n ≤ j.val) : score c q K i j = ninf := if_neg (by omega)

/-- The weights' sum from its two parts. -/
theorem tot_parts {n : ℕ} (h : n + 512 ≤ 2048) (s : Fin 2048 → EReal) (hs : ∀ j : Fin 2048, n + 512 ≤ j.val → s j = ninf) :
    ∑ j : Fin 512, Ideal.exp (s ⟨n + j.val, by omega⟩ - top s) + ∑ j : Fin n, Ideal.exp (s ⟨j.val, by omega⟩ - top s) = tot s :=
  sum_parts h (wgt s) fun j hj => by unfold wgt; rw [hs j hj, exp_masked]

/-- The weighted sum from its two parts. -/
theorem acc_parts {n : ℕ} (h : n + 512 ≤ 2048) (s v : Fin 2048 → EReal) (hs : ∀ j : Fin 2048, n + 512 ≤ j.val → s j = ninf) :
    ∑ j : Fin 512, Ideal.exp (s ⟨n + j.val, by omega⟩ - top s) * v ⟨n + j.val, by omega⟩
      + ∑ j : Fin n, Ideal.exp (s ⟨j.val, by omega⟩ - top s) * v ⟨j.val, by omega⟩ = acc s v :=
  sum_parts h (fun j => wgt s j * v j) fun j hj => by unfold wgt; rw [hs j hj, exp_masked, zero_mul]

/-! The two arrangements agree where scores, values and weight are finite. -/

/-- A row of scores that are finite up to `i` and masked after has finite weights whose sum is finite and not zero. -/
theorem wgt_real (i : Fin 2048) (s : Fin 2048 → EReal) (x : Fin 2048 → ℝ)
    (hs : ∀ j, s j = if j.val ≤ i.val then (x j : EReal) else ninf) :
    ∃ w : Fin 2048 → ℝ, (∀ j, wgt s j = (w j : EReal)) ∧ (∑ j, w j) ≠ 0 := by
  have hlt : top s < ⊤ := by
    rw [top_eq_sup, Finset.sup_lt_iff (by exact bot_lt_top)]
    intro j _
    rw [hs j]
    split
    · exact EReal.coe_lt_top _
    · rw [ninf_eq]; exact bot_lt_top
  have hgt : ⊥ < top s := by
    rw [top_eq_sup]
    refine lt_of_lt_of_le ?_ (Finset.le_sup (f := s) (Finset.mem_univ i))
    rw [hs i, if_pos le_rfl]
    exact EReal.bot_lt_coe _
  obtain ⟨T, hT⟩ : ∃ T : ℝ, top s = (T : EReal) := ⟨(top s).toReal, (EReal.coe_toReal hlt.ne hgt.ne').symm⟩
  have hw : ∀ j, wgt s j = ((if j.val ≤ i.val then Real.exp (x j - T) else 0 : ℝ) : EReal) := fun j => by
    unfold wgt
    rw [hT, hs j]
    by_cases hj : j.val ≤ i.val
    · rw [if_pos hj, if_pos hj, ← EReal.coe_sub]; rfl
    · rw [if_neg hj, if_neg hj, exp_masked]; rfl
  refine ⟨_, hw, ne_of_gt ?_⟩
  refine Finset.sum_pos' (fun j _ => ?_) ⟨i, Finset.mem_univ _, ?_⟩
  · split
    · exact (Real.exp_pos _).le
    · exact le_rfl
  · rw [if_pos le_rfl]; exact Real.exp_pos _

/-- The coercion of the reals commutes with finite sums. -/
theorem coe_sum {ι : Type} (s : Finset ι) (f : ι → ℝ) : ((∑ j ∈ s, f j : ℝ) : EReal) = ∑ j ∈ s, (f j : EReal) :=
  map_sum (⟨⟨Real.toEReal, EReal.coe_zero⟩, EReal.coe_add⟩ : ℝ →+ EReal) f s

/-- Dividing the weights first or the weighted sums last gives the same lane. -/
theorem outR_eq_outK (i : Fin 2048) (lam : EReal) (s0 s1 v : Fin 2048 → EReal) (l : ℝ) (x0 x1 y : Fin 2048 → ℝ) (hl : lam = (l : EReal))
    (h0 : ∀ j, s0 j = if j.val ≤ i.val then (x0 j : EReal) else ninf)
    (h1 : ∀ j, s1 j = if j.val ≤ i.val then (x1 j : EReal) else ninf) (hv : ∀ j, v j = (y j : EReal)) :
    outR lam s0 s1 v = outK lam s0 s1 v := by
  obtain ⟨w0, e0, n0⟩ := wgt_real i s0 x0 h0
  obtain ⟨w1, e1, n1⟩ := wgt_real i s1 x1 h1
  unfold outR outK acc tot
  simp only [e0, e1, hv, hl]
  rw [← coe_sum, ← coe_sum]
  simp only [Ideal.div_coe n0, Ideal.div_coe n1, ← EReal.coe_mul, ← EReal.coe_sub, ← coe_sum]
  refine congrArg Real.toEReal ?_
  rw [Finset.sum_mul, Finset.sum_mul, Finset.mul_sum, ← Finset.sum_sub_distrib]
  exact Finset.sum_congr rfl fun j _ => by ring

end Cert.AttnSpec
-- ==== Proof.AttnPay.lean ====
/-
  One grid point of the attention kernel, read at an index: the body's stored values over its queries, the keys and values
  it reads, the two blocks it carries, and its input blocks as places of the argument arrays.
-/
module

public import proofs.«01_k».proof.Proof.AttnSpec
public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen Cert.AttnSpec

/-- A comparison of two positions as 32-bit integers is the comparison of the positions. -/
theorem sle_pos (a b : ℕ) (ha : a < 2048) (hb : b < 2048) (x y : EReal) :
    Scalar.select (IntOp.cmpi .sle (BitVec.ofNat 32 a) (BitVec.ofNat 32 b)) x y = if a ≤ b then x else y := by
  have h : (BitVec.ofNat 32 a).sle (BitVec.ofNat 32 b) = decide (a ≤ b) := by
    rw [BitVec.sle_eq_decide, BitVec.toInt_eq_toNat_of_lt, BitVec.toInt_eq_toNat_of_lt]
    · simp only [BitVec.toNat_ofNat]
      rw [Nat.mod_eq_of_lt (by omega), Nat.mod_eq_of_lt (by omega)]
      simp
    · simp only [BitVec.toNat_ofNat]; omega
    · simp only [BitVec.toNat_ofNat]; omega
  show (if (BitVec.ofBool ((BitVec.ofNat 32 a).sle (BitVec.ofNat 32 b)) = 1#1) then x else y) = _
  rw [h]
  by_cases hab : a ≤ b
  · simp [hab]
  · simp [hab]

/-- The first component's query. -/
theorem pay_q0 (q : FVec Ideal S512x128 .f32) (r : Fin 512) (l : Fin 128) :
    k0_pay47 (F := Ideal) q (ix2 r l) = mq 0 (fun l => q (ix2 r l)) l := by
  pointwise [k0_pay47, k0_pay46]
  have h : ∀ l : Fin 128, IntOp.cmpi .slt (BitVec.ofNat 32 l.val) 64#32 = if l.val / 64 = 0 then 1#1 else 0#1 := by decide
  rw [h l]
  by_cases hl : l.val / 64 = 0
  · rw [if_pos hl]
    exact (if_pos hl).symm
  · rw [if_neg hl]
    exact (if_neg hl).symm

/-- The second component's query. -/
theorem pay_q1 (q : FVec Ideal S512x128 .f32) (r : Fin 512) (l : Fin 128) :
    k0_pay48 (F := Ideal) q (ix2 r l) = mq 1 (fun l => q (ix2 r l)) l := by
  pointwise [k0_pay48, k0_pay46]
  have h : ∀ l : Fin 128, IntOp.cmpi .sge (BitVec.ofNat 32 l.val) 64#32 = if l.val / 64 = 1 then 1#1 else 0#1 := by decide
  rw [h l]
  by_cases hl : l.val / 64 = 1
  · rw [if_pos hl]
    exact (if_pos hl).symm
  · rw [if_neg hl]
    exact (if_neg hl).symm

/-- The weight of the second component. -/
theorem pay_lam (p : FVec Ideal S4x64 .f32) :
    k0_pay45 (F := Ideal) p (ix2 0 0) = lam fun a l => p (ix2 a l) := by
  pointwise [k0_pay45]
  rfl

/-- A running maximum from minus infinity is the greatest score. -/
theorem fold_top {n : ℕ} (s : Fin n → EReal) : Finset.fold max (Ideal.ofBits .f32 0xFF800000#32) s Finset.univ = top s := rfl

/-- A block's greatest lane in row `r`. -/
theorem rowMax {n : ℕ} (x : FVec Ideal ⟨2, ![512, n]⟩ .f32) (h : Shape.Reduces ⟨2, ![512, n]⟩ [1] ⟨1, ![512]⟩)
    (h1 : FKind.Formats .f32) (h2 : (0xFF800000#32 : BitVec 32) = FKind.maximumf.neutral .f32 h1) (r : Fin 512) :
    multiReduction .maximumf [1] ⟨1, ![512]⟩ x 0xFF800000#32 h h1 h2 (ix1 r) = top fun j : Fin n => x (ix2 r j) := by
  rw [Ideal.multiReduction_maximumf_single]
  refine congrArg (fun f : Fin n → EReal => Finset.fold max (Ideal.ofBits .f32 0xFF800000#32) f Finset.univ) (funext fun k => congrArg x ?_)
  funext a
  match a with
  | ⟨0, _⟩ => rfl
  | ⟨1, _⟩ => rfl

/-- A column of one lane per row, read at row `r`. -/
theorem colAt (x : FVec Ideal S512 .f32) (r : Fin 512) : shapeCast S512x1 x shapeCasts_S512_S512x1 (ix2 r 0) = x (ix1 r) := by
  pointwise

/-- A row's scores against a block of keys, from one component's query. -/
abbrev raw {n : ℕ} (c : Fin 2) (q : Fin 128 → EReal) (k : Fin n → Fin 128 → EReal) (j : Fin n) : EReal := dotc c q (k j) * scl
/-- A row's scores against its own block of keys. -/
abbrev own (c : Fin 2) (q : Fin 128 → EReal) (k : Fin 512 → Fin 128 → EReal) (r j : Fin 512) : EReal :=
  if j.val ≤ r.val then dotc c q (k j) * scl else ninf

/-- The lane of a row's output from its own block of keys and values. -/
def first (lm : EReal) (q : Fin 128 → EReal) (k v : Fin 512 → Fin 128 → EReal) (r : Fin 512) (d : Fin 128) : EReal :=
  Ideal.div (∑ j, Ideal.exp (own 0 q k r j - top (own 0 q k r)) * v j d) (∑ j, Ideal.exp (own 0 q k r j - top (own 0 q k r)))
    - lm * Ideal.div (∑ j, Ideal.exp (own 1 q k r j - top (own 1 q k r)) * v j d) (∑ j, Ideal.exp (own 1 q k r j - top (own 1 q k r)))

/-- The greatest of a row's scores against its own block and the keys before it. -/
def both {n : ℕ} (c : Fin 2) (q : Fin 128 → EReal) (k : Fin 512 → Fin 128 → EReal) (k' : Fin n → Fin 128 → EReal) (r : Fin 512) : EReal :=
  max (top (own c q k r)) (top (raw c q k'))

/-- The lane of a row's output from its own block and the keys and values before it. -/
def later {n : ℕ} (lm : EReal) (q : Fin 128 → EReal) (k v : Fin 512 → Fin 128 → EReal) (k' v' : Fin n → Fin 128 → EReal) (r : Fin 512) (d : Fin 128) : EReal :=
  Ideal.div (∑ j, Ideal.exp (own 0 q k r j - both 0 q k k' r) * v j d + ∑ j, Ideal.exp (raw 0 q k' j - both 0 q k k' r) * v' j d)
      (∑ j, Ideal.exp (own 0 q k r j - both 0 q k k' r) + ∑ j, Ideal.exp (raw 0 q k' j - both 0 q k k' r))
    - lm * Ideal.div (∑ j, Ideal.exp (own 1 q k r j - both 1 q k k' r) * v j d + ∑ j, Ideal.exp (raw 1 q k' j - both 1 q k k' r) * v' j d)
      (∑ j, Ideal.exp (own 1 q k r j - both 1 q k k' r) + ∑ j, Ideal.exp (raw 1 q k' j - both 1 q k k' r))

/-- The two position grids of a block of scores: the row's and the column's. -/
abbrev rows : IVec S512x512 32 := iota Kind.tc S512x512 32 [0] iota_S512x512_d0_w32
abbrev cols : IVec S512x512 32 := iota Kind.tc S512x512 32 [1] iota_S512x512_d1_w32

/-- The first case's stored block before the normalisation. -/
theorem pay_first (p : FVec Ideal S4x64 .f32) (q : FVec Ideal S512x128 .f32) (k v : FVec Ideal S512x128 .bf16) (r : Fin 512) (d : Fin 128) :
    k0_pay4 (F := Ideal) (k0_pay45 p) (k0_pay47 q) (k0_pay48 q) rows cols k k v v (ix2 r d)
      = first (lam fun a l => p (ix2 a l)) (fun l => q (ix2 r l)) (fun j l => k (ix2 j l)) (fun j l => v (ix2 j l)) r d := by
  pointwise [k0_pay4]
  simp only [pay_q0, pay_q1, pay_lam, dot_mq]
  simp only [fun (j r : Fin 512) => sle_pos j.val r.val (by omega) (by omega)]
  rfl

/-- The first case's stored block. -/
theorem pay_A (p : FVec Ideal S4x64 .f32) (q : FVec Ideal S512x128 .f32) (k v : FVec Ideal S512x128 .bf16) (g : FVec Ideal S1x128 .f32) (r : Fin 512) (d : Fin 128) :
    k0_pay49 (F := Ideal) (k0_pay4 (k0_pay45 p) (k0_pay47 q) (k0_pay48 q) rows cols k k v v) (k0_pay5 g)
        (k0_pay6 (k0_pay45 p) (k0_pay47 q) (k0_pay48 q) rows cols k k v v) (ix2 r d)
      = finish (first (lam fun a l => p (ix2 a l)) (fun l => q (ix2 r l)) (fun j l => k (ix2 j l)) (fun j l => v (ix2 j l)) r) (fun l => g (ix2 0 l)) d := by
  pointwise [k0_pay49, k0_pay5, k0_pay6]
  simp only [pay_first]
  rfl

/-! The case of a row block with 512 keys before it. -/

/-- The own block's scores, either component. -/
theorem ownB0 (q : FVec Ideal S512x128 .f32) (k : FVec Ideal S512x128 .bf16) (r j : Fin 512) :
    k0_pay7 (F := Ideal) (k0_pay47 q) rows cols k (ix2 r j) = own 0 (fun l => q (ix2 r l)) (fun j l => k (ix2 j l)) r j := by
  pointwise [k0_pay7]
  simp only [pay_q0, dot_mq]
  exact sle_pos j.val r.val (by omega) (by omega) _ _
theorem ownB1 (q : FVec Ideal S512x128 .f32) (k : FVec Ideal S512x128 .bf16) (r j : Fin 512) :
    k0_pay8 (F := Ideal) (k0_pay48 q) rows cols k (ix2 r j) = own 1 (fun l => q (ix2 r l)) (fun j l => k (ix2 j l)) r j := by
  pointwise [k0_pay8]
  simp only [pay_q1, dot_mq]
  exact sle_pos j.val r.val (by omega) (by omega) _ _
/-- The scores against the keys before, either component. -/
theorem rawB0 (q : FVec Ideal S512x128 .f32) (k' : FVec Ideal S512x128 .bf16) (r : Fin 512) (j : Fin 512) :
    k0_pay9 (F := Ideal) (k0_pay47 q) k' (ix2 r j) = raw 0 (fun l => q (ix2 r l)) (fun j l => k' (ix2 j l)) j := by
  pointwise [k0_pay9]
  simp only [pay_q0, dot_mq]
theorem rawB1 (q : FVec Ideal S512x128 .f32) (k' : FVec Ideal S512x128 .bf16) (r : Fin 512) (j : Fin 512) :
    k0_pay10 (F := Ideal) (k0_pay48 q) k' (ix2 r j) = raw 1 (fun l => q (ix2 r l)) (fun j l => k' (ix2 j l)) j := by
  pointwise [k0_pay10]
  simp only [pay_q1, dot_mq]
/-- A block's greatest lane, row by row, with that of the keys before. -/
theorem maxRowsB (x : FVec Ideal S512x512 .f32) (y : FVec Ideal S512x512 .f32) (r : Fin 512) :
    maximumf (shapeCast S512x1 (multiReduction .maximumf [1] S512 x 0xFF800000#32 reduces_S512x512_S512 (.inl rfl) rfl) shapeCasts_S512_S512x1)
      (shapeCast S512x1 (multiReduction .maximumf [1] S512 y 0xFF800000#32 reduces_S512x512_S512 (.inl rfl) rfl) shapeCasts_S512_S512x1) (ix2 r 0)
      = max (top fun j => x (ix2 r j)) (top fun j => y (ix2 r j)) := by
  exact congrArg₂ max ((colAt _ r).trans (rowMax x _ _ _ r)) ((colAt _ r).trans (rowMax y _ _ _ r))

/-- The greatest score, either component. -/
theorem bothB0 (q : FVec Ideal S512x128 .f32) (k : FVec Ideal S512x128 .bf16) (k' : FVec Ideal S512x128 .bf16) (r : Fin 512) :
    k0_pay11 (F := Ideal) (k0_pay47 q) rows cols k k' (ix2 r 0) = both 0 (fun l => q (ix2 r l)) (fun j l => k (ix2 j l)) (fun j l => k' (ix2 j l)) r := by
  refine (maxRowsB (k0_pay7 (F := Ideal) (k0_pay47 q) rows cols k) (k0_pay9 (F := Ideal) (k0_pay47 q) k') r).trans ?_
  simp only [ownB0, rawB0]
  unfold both
  with_reducible rfl
theorem bothB1 (q : FVec Ideal S512x128 .f32) (k : FVec Ideal S512x128 .bf16) (k' : FVec Ideal S512x128 .bf16) (r : Fin 512) :
    k0_pay12 (F := Ideal) (k0_pay48 q) rows cols k k' (ix2 r 0) = both 1 (fun l => q (ix2 r l)) (fun j l => k (ix2 j l)) (fun j l => k' (ix2 j l)) r := by
  refine (maxRowsB (k0_pay8 (F := Ideal) (k0_pay48 q) rows cols k) (k0_pay10 (F := Ideal) (k0_pay48 q) k') r).trans ?_
  simp only [ownB1, rawB1]
  unfold both
  with_reducible rfl

/-- The own block's weights, either component. -/
theorem wtB0 (q : FVec Ideal S512x128 .f32) (k : FVec Ideal S512x128 .bf16) (k' : FVec Ideal S512x128 .bf16) (r j : Fin 512) :
    k0_pay13 (F := Ideal) (k0_pay47 q) rows cols k k' (ix2 r j) = Ideal.exp (own 0 (fun l => q (ix2 r l)) (fun j l => k (ix2 j l)) r j - both 0 (fun l => q (ix2 r l)) (fun j l => k (ix2 j l)) (fun j l => k' (ix2 j l)) r) := by
  pointwise [k0_pay13]
  rw [ownB0, bothB0]
theorem wtB1 (q : FVec Ideal S512x128 .f32) (k : FVec Ideal S512x128 .bf16) (k' : FVec Ideal S512x128 .bf16) (r j : Fin 512) :
    k0_pay14 (F := Ideal) (k0_pay48 q) rows cols k k' (ix2 r j) = Ideal.exp (own 1 (fun l => q (ix2 r l)) (fun j l => k (ix2 j l)) r j - both 1 (fun l => q (ix2 r l)) (fun j l => k (ix2 j l)) (fun j l => k' (ix2 j l)) r) := by
  pointwise [k0_pay14]
  rw [ownB1, bothB1]
/-- The sum of the own block's weights, either component. -/
theorem sumB0 (q : FVec Ideal S512x128 .f32) (k : FVec Ideal S512x128 .bf16) (k' : FVec Ideal S512x128 .bf16) (r : Fin 512) :
    k0_pay15 (F := Ideal) (k0_pay47 q) rows cols k k' (ix2 r 0) = ∑ j, Ideal.exp (own 0 (fun l => q (ix2 r l)) (fun j l => k (ix2 j l)) r j - both 0 (fun l => q (ix2 r l)) (fun j l => k (ix2 j l)) (fun j l => k' (ix2 j l)) r) := by
  pointwise [k0_pay15]
  simp only [wtB0]
theorem sumB1 (q : FVec Ideal S512x128 .f32) (k : FVec Ideal S512x128 .bf16) (k' : FVec Ideal S512x128 .bf16) (r : Fin 512) :
    k0_pay16 (F := Ideal) (k0_pay48 q) rows cols k k' (ix2 r 0) = ∑ j, Ideal.exp (own 1 (fun l => q (ix2 r l)) (fun j l => k (ix2 j l)) r j - both 1 (fun l => q (ix2 r l)) (fun j l => k (ix2 j l)) (fun j l => k' (ix2 j l)) r) := by
  pointwise [k0_pay16]
  simp only [wtB1]
/-- The own block's weighted sum, first component. -/
theorem accB0 (q : FVec Ideal S512x128 .f32) (k : FVec Ideal S512x128 .bf16) (k' : FVec Ideal S512x128 .bf16) (v : FVec Ideal S512x128 .bf16) (r : Fin 512) (d : Fin 128) :
    k0_pay17 (F := Ideal) (k0_pay47 q) rows cols k k' v (ix2 r d) = ∑ j, Ideal.exp (own 0 (fun l => q (ix2 r l)) (fun j l => k (ix2 j l)) r j - both 0 (fun l => q (ix2 r l)) (fun j l => k (ix2 j l)) (fun j l => k' (ix2 j l)) r) * v (ix2 j d) := by
  pointwise [k0_pay17]
  simp only [wtB0]
/-- The stored block over the pieces above. -/
theorem endB (lm : FVec Ideal S1x1 .f32) (s0 s1 : FVec Ideal S512x512 .f32) (m0 m1 : FVec Ideal S512x1 .f32) (e1 : FVec Ideal S512x512 .f32)
    (l0 l1 : FVec Ideal S512x1 .f32) (a0 : FVec Ideal S512x128 .f32) (v : FVec Ideal S512x128 .bf16) (v' : FVec Ideal S512x128 .bf16)
    (g : FVec Ideal S1x128 .f32) (r : Fin 512) (d : Fin 128) :
    k0_pay1 (F := Ideal) (k0_pay18 lm s0 s1 m0 m1 e1 l0 l1 a0 v v' v' g) (ix2 r d)
      = finish (fun d =>
          Ideal.div (a0 (ix2 r d) + ∑ j, Ideal.exp (s0 (ix2 r j) - m0 (ix2 r 0)) * v' (ix2 j d)) (l0 (ix2 r 0) + ∑ j, Ideal.exp (s0 (ix2 r j) - m0 (ix2 r 0)))
          - lm (ix2 0 0) * Ideal.div (∑ j, e1 (ix2 r j) * v (ix2 j d) + ∑ j, Ideal.exp (s1 (ix2 r j) - m1 (ix2 r 0)) * v' (ix2 j d))
              (l1 (ix2 r 0) + ∑ j, Ideal.exp (s1 (ix2 r j) - m1 (ix2 r 0)))) (fun l => g (ix2 0 l)) d := by
  pointwise [k0_pay1, k0_pay18]
  rfl

/-- The case's stored block. -/
theorem pay_B (p : FVec Ideal S4x64 .f32) (q : FVec Ideal S512x128 .f32) (k v : FVec Ideal S512x128 .bf16) (k' v' : FVec Ideal S512x128 .bf16) (g : FVec Ideal S1x128 .f32) (r : Fin 512) (d : Fin 128) :
    k0_pay1 (F := Ideal) (k0_pay18 (k0_pay45 p) (k0_pay9 (k0_pay47 q) k') (k0_pay10 (k0_pay48 q) k')
        (k0_pay11 (k0_pay47 q) rows cols k k') (k0_pay12 (k0_pay48 q) rows cols k k')
        (k0_pay14 (k0_pay48 q) rows cols k k') (k0_pay15 (k0_pay47 q) rows cols k k')
        (k0_pay16 (k0_pay48 q) rows cols k k') (k0_pay17 (k0_pay47 q) rows cols k k' v) v v' v' g) (ix2 r d)
      = finish (later (lam fun a l => p (ix2 a l)) (fun l => q (ix2 r l)) (fun j l => k (ix2 j l)) (fun j l => v (ix2 j l))
          (fun j l => k' (ix2 j l)) (fun j l => v' (ix2 j l)) r) (fun l => g (ix2 0 l)) d := by
  rw [endB]
  simp only [rawB0, rawB1, bothB0, bothB1, wtB1, sumB0, sumB1, accB0, pay_lam]
  rfl

/-! The case of a row block with 1024 keys before it. -/

/-- The own block's scores, either component. -/
theorem ownC0 (q : FVec Ideal S512x128 .f32) (k : FVec Ideal S512x128 .bf16) (r j : Fin 512) :
    k0_pay19 (F := Ideal) (k0_pay47 q) rows cols k (ix2 r j) = own 0 (fun l => q (ix2 r l)) (fun j l => k (ix2 j l)) r j := by
  pointwise [k0_pay19]
  simp only [pay_q0, dot_mq]
  exact sle_pos j.val r.val (by omega) (by omega) _ _
theorem ownC1 (q : FVec Ideal S512x128 .f32) (k : FVec Ideal S512x128 .bf16) (r j : Fin 512) :
    k0_pay20 (F := Ideal) (k0_pay48 q) rows cols k (ix2 r j) = own 1 (fun l => q (ix2 r l)) (fun j l => k (ix2 j l)) r j := by
  pointwise [k0_pay20]
  simp only [pay_q1, dot_mq]
  exact sle_pos j.val r.val (by omega) (by omega) _ _
/-- The scores against the keys before, either component. -/
theorem rawC0 (q : FVec Ideal S512x128 .f32) (k' : FVec Ideal S1024x128 .bf16) (r : Fin 512) (j : Fin 1024) :
    k0_pay21 (F := Ideal) (k0_pay47 q) k' (ix2 r j) = raw 0 (fun l => q (ix2 r l)) (fun j l => k' (ix2 j l)) j := by
  pointwise [k0_pay21]
  simp only [pay_q0, dot_mq]
theorem rawC1 (q : FVec Ideal S512x128 .f32) (k' : FVec Ideal S1024x128 .bf16) (r : Fin 512) (j : Fin 1024) :
    k0_pay22 (F := Ideal) (k0_pay48 q) k' (ix2 r j) = raw 1 (fun l => q (ix2 r l)) (fun j l => k' (ix2 j l)) j := by
  pointwise [k0_pay22]
  simp only [pay_q1, dot_mq]
/-- A block's greatest lane, row by row, with that of the keys before. -/
theorem maxRowsC (x : FVec Ideal S512x512 .f32) (y : FVec Ideal S512x1024 .f32) (r : Fin 512) :
    maximumf (shapeCast S512x1 (multiReduction .maximumf [1] S512 x 0xFF800000#32 reduces_S512x512_S512 (.inl rfl) rfl) shapeCasts_S512_S512x1)
      (shapeCast S512x1 (multiReduction .maximumf [1] S512 y 0xFF800000#32 reduces_S512x1024_S512 (.inl rfl) rfl) shapeCasts_S512_S512x1) (ix2 r 0)
      = max (top fun j => x (ix2 r j)) (top fun j => y (ix2 r j)) := by
  exact congrArg₂ max ((colAt _ r).trans (rowMax x _ _ _ r)) ((colAt _ r).trans (rowMax y _ _ _ r))

/-- The greatest score, either component. -/
theorem bothC0 (q : FVec Ideal S512x128 .f32) (k : FVec Ideal S512x128 .bf16) (k' : FVec Ideal S1024x128 .bf16) (r : Fin 512) :
    k0_pay23 (F := Ideal) (k0_pay47 q) rows cols k k' (ix2 r 0) = both 0 (fun l => q (ix2 r l)) (fun j l => k (ix2 j l)) (fun j l => k' (ix2 j l)) r := by
  refine (maxRowsC (k0_pay19 (F := Ideal) (k0_pay47 q) rows cols k) (k0_pay21 (F := Ideal) (k0_pay47 q) k') r).trans ?_
  simp only [ownC0, rawC0]
  unfold both
  with_reducible rfl
theorem bothC1 (q : FVec Ideal S512x128 .f32) (k : FVec Ideal S512x128 .bf16) (k' : FVec Ideal S1024x128 .bf16) (r : Fin 512) :
    k0_pay24 (F := Ideal) (k0_pay48 q) rows cols k k' (ix2 r 0) = both 1 (fun l => q (ix2 r l)) (fun j l => k (ix2 j l)) (fun j l => k' (ix2 j l)) r := by
  refine (maxRowsC (k0_pay20 (F := Ideal) (k0_pay48 q) rows cols k) (k0_pay22 (F := Ideal) (k0_pay48 q) k') r).trans ?_
  simp only [ownC1, rawC1]
  unfold both
  with_reducible rfl

/-- The own block's weights, either component. -/
theorem wtC0 (q : FVec Ideal S512x128 .f32) (k : FVec Ideal S512x128 .bf16) (k' : FVec Ideal S1024x128 .bf16) (r j : Fin 512) :
    k0_pay25 (F := Ideal) (k0_pay47 q) rows cols k k' (ix2 r j) = Ideal.exp (own 0 (fun l => q (ix2 r l)) (fun j l => k (ix2 j l)) r j - both 0 (fun l => q (ix2 r l)) (fun j l => k (ix2 j l)) (fun j l => k' (ix2 j l)) r) := by
  pointwise [k0_pay25]
  rw [ownC0, bothC0]
theorem wtC1 (q : FVec Ideal S512x128 .f32) (k : FVec Ideal S512x128 .bf16) (k' : FVec Ideal S1024x128 .bf16) (r j : Fin 512) :
    k0_pay26 (F := Ideal) (k0_pay48 q) rows cols k k' (ix2 r j) = Ideal.exp (own 1 (fun l => q (ix2 r l)) (fun j l => k (ix2 j l)) r j - both 1 (fun l => q (ix2 r l)) (fun j l => k (ix2 j l)) (fun j l => k' (ix2 j l)) r) := by
  pointwise [k0_pay26]
  rw [ownC1, bothC1]
/-- The sum of the own block's weights, either component. -/
theorem sumC0 (q : FVec Ideal S512x128 .f32) (k : FVec Ideal S512x128 .bf16) (k' : FVec Ideal S1024x128 .bf16) (r : Fin 512) :
    k0_pay27 (F := Ideal) (k0_pay47 q) rows cols k k' (ix2 r 0) = ∑ j, Ideal.exp (own 0 (fun l => q (ix2 r l)) (fun j l => k (ix2 j l)) r j - both 0 (fun l => q (ix2 r l)) (fun j l => k (ix2 j l)) (fun j l => k' (ix2 j l)) r) := by
  pointwise [k0_pay27]
  simp only [wtC0]
theorem sumC1 (q : FVec Ideal S512x128 .f32) (k : FVec Ideal S512x128 .bf16) (k' : FVec Ideal S1024x128 .bf16) (r : Fin 512) :
    k0_pay28 (F := Ideal) (k0_pay48 q) rows cols k k' (ix2 r 0) = ∑ j, Ideal.exp (own 1 (fun l => q (ix2 r l)) (fun j l => k (ix2 j l)) r j - both 1 (fun l => q (ix2 r l)) (fun j l => k (ix2 j l)) (fun j l => k' (ix2 j l)) r) := by
  pointwise [k0_pay28]
  simp only [wtC1]
/-- The own block's weighted sum, first component. -/
theorem accC0 (q : FVec Ideal S512x128 .f32) (k : FVec Ideal S512x128 .bf16) (k' : FVec Ideal S1024x128 .bf16) (v : FVec Ideal S512x128 .bf16) (r : Fin 512) (d : Fin 128) :
    k0_pay29 (F := Ideal) (k0_pay47 q) rows cols k k' v (ix2 r d) = ∑ j, Ideal.exp (own 0 (fun l => q (ix2 r l)) (fun j l => k (ix2 j l)) r j - both 0 (fun l => q (ix2 r l)) (fun j l => k (ix2 j l)) (fun j l => k' (ix2 j l)) r) * v (ix2 j d) := by
  pointwise [k0_pay29]
  simp only [wtC0]
/-- The stored block over the pieces above. -/
theorem endC (lm : FVec Ideal S1x1 .f32) (s0 s1 : FVec Ideal S512x1024 .f32) (m0 m1 : FVec Ideal S512x1 .f32) (e1 : FVec Ideal S512x512 .f32)
    (l0 l1 : FVec Ideal S512x1 .f32) (a0 : FVec Ideal S512x128 .f32) (v : FVec Ideal S512x128 .bf16) (v' : FVec Ideal S1024x128 .bf16)
    (g : FVec Ideal S1x128 .f32) (r : Fin 512) (d : Fin 128) :
    k0_pay2 (F := Ideal) (k0_pay30 lm s0 s1 m0 m1 e1 l0 l1 a0 v v' v' g) (ix2 r d)
      = finish (fun d =>
          Ideal.div (a0 (ix2 r d) + ∑ j, Ideal.exp (s0 (ix2 r j) - m0 (ix2 r 0)) * v' (ix2 j d)) (l0 (ix2 r 0) + ∑ j, Ideal.exp (s0 (ix2 r j) - m0 (ix2 r 0)))
          - lm (ix2 0 0) * Ideal.div (∑ j, e1 (ix2 r j) * v (ix2 j d) + ∑ j, Ideal.exp (s1 (ix2 r j) - m1 (ix2 r 0)) * v' (ix2 j d))
              (l1 (ix2 r 0) + ∑ j, Ideal.exp (s1 (ix2 r j) - m1 (ix2 r 0)))) (fun l => g (ix2 0 l)) d := by
  pointwise [k0_pay2, k0_pay30]
  rfl

/-- The case's stored block. -/
theorem pay_C (p : FVec Ideal S4x64 .f32) (q : FVec Ideal S512x128 .f32) (k v : FVec Ideal S512x128 .bf16) (k' v' : FVec Ideal S1024x128 .bf16) (g : FVec Ideal S1x128 .f32) (r : Fin 512) (d : Fin 128) :
    k0_pay2 (F := Ideal) (k0_pay30 (k0_pay45 p) (k0_pay21 (k0_pay47 q) k') (k0_pay22 (k0_pay48 q) k')
        (k0_pay23 (k0_pay47 q) rows cols k k') (k0_pay24 (k0_pay48 q) rows cols k k')
        (k0_pay26 (k0_pay48 q) rows cols k k') (k0_pay27 (k0_pay47 q) rows cols k k')
        (k0_pay28 (k0_pay48 q) rows cols k k') (k0_pay29 (k0_pay47 q) rows cols k k' v) v v' v' g) (ix2 r d)
      = finish (later (lam fun a l => p (ix2 a l)) (fun l => q (ix2 r l)) (fun j l => k (ix2 j l)) (fun j l => v (ix2 j l))
          (fun j l => k' (ix2 j l)) (fun j l => v' (ix2 j l)) r) (fun l => g (ix2 0 l)) d := by
  rw [endC]
  simp only [rawC0, rawC1, bothC0, bothC1, wtC1, sumC0, sumC1, accC0, pay_lam]
  rfl

/-! The case of a row block with 1536 keys before it. -/

/-- The own block's scores, either component. -/
theorem ownD0 (q : FVec Ideal S512x128 .f32) (k : FVec Ideal S512x128 .bf16) (r j : Fin 512) :
    k0_pay31 (F := Ideal) (k0_pay47 q) rows cols k (ix2 r j) = own 0 (fun l => q (ix2 r l)) (fun j l => k (ix2 j l)) r j := by
  pointwise [k0_pay31]
  simp only [pay_q0, dot_mq]
  exact sle_pos j.val r.val (by omega) (by omega) _ _
theorem ownD1 (q : FVec Ideal S512x128 .f32) (k : FVec Ideal S512x128 .bf16) (r j : Fin 512) :
    k0_pay32 (F := Ideal) (k0_pay48 q) rows cols k (ix2 r j) = own 1 (fun l => q (ix2 r l)) (fun j l => k (ix2 j l)) r j := by
  pointwise [k0_pay32]
  simp only [pay_q1, dot_mq]
  exact sle_pos j.val r.val (by omega) (by omega) _ _
/-- The scores against the keys before, either component. -/
theorem rawD0 (q : FVec Ideal S512x128 .f32) (k' : FVec Ideal S1536x128 .bf16) (r : Fin 512) (j : Fin 1536) :
    k0_pay33 (F := Ideal) (k0_pay47 q) k' (ix2 r j) = raw 0 (fun l => q (ix2 r l)) (fun j l => k' (ix2 j l)) j := by
  pointwise [k0_pay33]
  simp only [pay_q0, dot_mq]
theorem rawD1 (q : FVec Ideal S512x128 .f32) (k' : FVec Ideal S1536x128 .bf16) (r : Fin 512) (j : Fin 1536) :
    k0_pay34 (F := Ideal) (k0_pay48 q) k' (ix2 r j) = raw 1 (fun l => q (ix2 r l)) (fun j l => k' (ix2 j l)) j := by
  pointwise [k0_pay34]
  simp only [pay_q1, dot_mq]
/-- A block's greatest lane, row by row, with that of the keys before. -/
theorem maxRowsD (x : FVec Ideal S512x512 .f32) (y : FVec Ideal S512x1536 .f32) (r : Fin 512) :
    maximumf (shapeCast S512x1 (multiReduction .maximumf [1] S512 x 0xFF800000#32 reduces_S512x512_S512 (.inl rfl) rfl) shapeCasts_S512_S512x1)
      (shapeCast S512x1 (multiReduction .maximumf [1] S512 y 0xFF800000#32 reduces_S512x1536_S512 (.inl rfl) rfl) shapeCasts_S512_S512x1) (ix2 r 0)
      = max (top fun j => x (ix2 r j)) (top fun j => y (ix2 r j)) := by
  exact congrArg₂ max ((colAt _ r).trans (rowMax x _ _ _ r)) ((colAt _ r).trans (rowMax y _ _ _ r))

/-- The greatest score, either component. -/
theorem bothD0 (q : FVec Ideal S512x128 .f32) (k : FVec Ideal S512x128 .bf16) (k' : FVec Ideal S1536x128 .bf16) (r : Fin 512) :
    k0_pay35 (F := Ideal) (k0_pay47 q) rows cols k k' (ix2 r 0) = both 0 (fun l => q (ix2 r l)) (fun j l => k (ix2 j l)) (fun j l => k' (ix2 j l)) r := by
  refine (maxRowsD (k0_pay31 (F := Ideal) (k0_pay47 q) rows cols k) (k0_pay33 (F := Ideal) (k0_pay47 q) k') r).trans ?_
  simp only [ownD0, rawD0]
  unfold both
  with_reducible rfl
theorem bothD1 (q : FVec Ideal S512x128 .f32) (k : FVec Ideal S512x128 .bf16) (k' : FVec Ideal S1536x128 .bf16) (r : Fin 512) :
    k0_pay36 (F := Ideal) (k0_pay48 q) rows cols k k' (ix2 r 0) = both 1 (fun l => q (ix2 r l)) (fun j l => k (ix2 j l)) (fun j l => k' (ix2 j l)) r := by
  refine (maxRowsD (k0_pay32 (F := Ideal) (k0_pay48 q) rows cols k) (k0_pay34 (F := Ideal) (k0_pay48 q) k') r).trans ?_
  simp only [ownD1, rawD1]
  unfold both
  with_reducible rfl

/-- The own block's weights, either component. -/
theorem wtD0 (q : FVec Ideal S512x128 .f32) (k : FVec Ideal S512x128 .bf16) (k' : FVec Ideal S1536x128 .bf16) (r j : Fin 512) :
    k0_pay37 (F := Ideal) (k0_pay47 q) rows cols k k' (ix2 r j) = Ideal.exp (own 0 (fun l => q (ix2 r l)) (fun j l => k (ix2 j l)) r j - both 0 (fun l => q (ix2 r l)) (fun j l => k (ix2 j l)) (fun j l => k' (ix2 j l)) r) := by
  pointwise [k0_pay37]
  rw [ownD0, bothD0]
theorem wtD1 (q : FVec Ideal S512x128 .f32) (k : FVec Ideal S512x128 .bf16) (k' : FVec Ideal S1536x128 .bf16) (r j : Fin 512) :
    k0_pay38 (F := Ideal) (k0_pay48 q) rows cols k k' (ix2 r j) = Ideal.exp (own 1 (fun l => q (ix2 r l)) (fun j l => k (ix2 j l)) r j - both 1 (fun l => q (ix2 r l)) (fun j l => k (ix2 j l)) (fun j l => k' (ix2 j l)) r) := by
  pointwise [k0_pay38]
  rw [ownD1, bothD1]
/-- The sum of the own block's weights, either component. -/
theorem sumD0 (q : FVec Ideal S512x128 .f32) (k : FVec Ideal S512x128 .bf16) (k' : FVec Ideal S1536x128 .bf16) (r : Fin 512) :
    k0_pay39 (F := Ideal) (k0_pay47 q) rows cols k k' (ix2 r 0) = ∑ j, Ideal.exp (own 0 (fun l => q (ix2 r l)) (fun j l => k (ix2 j l)) r j - both 0 (fun l => q (ix2 r l)) (fun j l => k (ix2 j l)) (fun j l => k' (ix2 j l)) r) := by
  pointwise [k0_pay39]
  simp only [wtD0]
theorem sumD1 (q : FVec Ideal S512x128 .f32) (k : FVec Ideal S512x128 .bf16) (k' : FVec Ideal S1536x128 .bf16) (r : Fin 512) :
    k0_pay40 (F := Ideal) (k0_pay48 q) rows cols k k' (ix2 r 0) = ∑ j, Ideal.exp (own 1 (fun l => q (ix2 r l)) (fun j l => k (ix2 j l)) r j - both 1 (fun l => q (ix2 r l)) (fun j l => k (ix2 j l)) (fun j l => k' (ix2 j l)) r) := by
  pointwise [k0_pay40]
  simp only [wtD1]
/-- The own block's weighted sum, first component. -/
theorem accD0 (q : FVec Ideal S512x128 .f32) (k : FVec Ideal S512x128 .bf16) (k' : FVec Ideal S1536x128 .bf16) (v : FVec Ideal S512x128 .bf16) (r : Fin 512) (d : Fin 128) :
    k0_pay41 (F := Ideal) (k0_pay47 q) rows cols k k' v (ix2 r d) = ∑ j, Ideal.exp (own 0 (fun l => q (ix2 r l)) (fun j l => k (ix2 j l)) r j - both 0 (fun l => q (ix2 r l)) (fun j l => k (ix2 j l)) (fun j l => k' (ix2 j l)) r) * v (ix2 j d) := by
  pointwise [k0_pay41]
  simp only [wtD0]
/-- The stored block over the pieces above. -/
theorem endD (lm : FVec Ideal S1x1 .f32) (s0 s1 : FVec Ideal S512x1536 .f32) (m0 m1 : FVec Ideal S512x1 .f32) (e1 : FVec Ideal S512x512 .f32)
    (l0 l1 : FVec Ideal S512x1 .f32) (a0 : FVec Ideal S512x128 .f32) (v : FVec Ideal S512x128 .bf16) (v' : FVec Ideal S1536x128 .bf16)
    (g : FVec Ideal S1x128 .f32) (r : Fin 512) (d : Fin 128) :
    k0_pay3 (F := Ideal) (k0_pay42 lm s0 s1 m0 m1 e1 l0 l1 a0 v v' v' g) (ix2 r d)
      = finish (fun d =>
          Ideal.div (a0 (ix2 r d) + ∑ j, Ideal.exp (s0 (ix2 r j) - m0 (ix2 r 0)) * v' (ix2 j d)) (l0 (ix2 r 0) + ∑ j, Ideal.exp (s0 (ix2 r j) - m0 (ix2 r 0)))
          - lm (ix2 0 0) * Ideal.div (∑ j, e1 (ix2 r j) * v (ix2 j d) + ∑ j, Ideal.exp (s1 (ix2 r j) - m1 (ix2 r 0)) * v' (ix2 j d))
              (l1 (ix2 r 0) + ∑ j, Ideal.exp (s1 (ix2 r j) - m1 (ix2 r 0)))) (fun l => g (ix2 0 l)) d := by
  pointwise [k0_pay3, k0_pay42]
  rfl

/-- The case's stored block. -/
theorem pay_D (p : FVec Ideal S4x64 .f32) (q : FVec Ideal S512x128 .f32) (k v : FVec Ideal S512x128 .bf16) (k' v' : FVec Ideal S1536x128 .bf16) (g : FVec Ideal S1x128 .f32) (r : Fin 512) (d : Fin 128) :
    k0_pay3 (F := Ideal) (k0_pay42 (k0_pay45 p) (k0_pay33 (k0_pay47 q) k') (k0_pay34 (k0_pay48 q) k')
        (k0_pay35 (k0_pay47 q) rows cols k k') (k0_pay36 (k0_pay48 q) rows cols k k')
        (k0_pay38 (k0_pay48 q) rows cols k k') (k0_pay39 (k0_pay47 q) rows cols k k')
        (k0_pay40 (k0_pay48 q) rows cols k k') (k0_pay41 (k0_pay47 q) rows cols k k' v) v v' v' g) (ix2 r d)
      = finish (later (lam fun a l => p (ix2 a l)) (fun l => q (ix2 r l)) (fun j l => k (ix2 j l)) (fun j l => v (ix2 j l))
          (fun j l => k' (ix2 j l)) (fun j l => v' (ix2 j l)) r) (fun l => g (ix2 0 l)) d := by
  rw [endD]
  simp only [rawD0, rawD1, bothD0, bothD1, wtD1, sumD0, sumD1, accD0, pay_lam]
  rfl

end Cert.KernelIdeal.Attn
-- ==== Proof.AttnRow.lean ====
/-
  The attention kernel's row, taken from its own block of keys and the keys before it, is the row over all the keys.
-/
module

public import proofs.«01_k».proof.Proof.AttnPay

@[expose] public section

set_option maxRecDepth 16384

noncomputable section

open Idealize.ShloMosaic Idealize.ShloMosaic.TcCoe Idealize.SL.Sem

namespace Cert.KernelIdeal.Attn

open Cert.AttnSpec

section

variable {n : ℕ} (h : n + 512 ≤ 2048)
variable (lm : EReal) (q : Fin 128 → EReal) (K V : Fin 2048 → Fin 128 → EReal) (r : Fin 512) (d : Fin 128)

/-- The scores against the row's own block are the row's scores there. -/
theorem own_score (c : Fin 2) : own c q (fun j => K ⟨n + j.val, by omega⟩) r = fun j : Fin 512 => score c q K ⟨n + r.val, by omega⟩ ⟨n + j.val, by omega⟩ := by
  funext j
  unfold score
  by_cases hj : j.val ≤ r.val
  · rw [if_pos (show n + j.val ≤ n + r.val by omega)]; exact if_pos hj
  · rw [if_neg (show ¬n + j.val ≤ n + r.val by omega)]; exact if_neg hj

/-- The scores against the keys before the block are the row's scores there. -/
theorem raw_score (c : Fin 2) : raw c q (fun j : Fin n => K ⟨j.val, by omega⟩) = fun j : Fin n => score c q K ⟨n + r.val, by omega⟩ ⟨j.val, by omega⟩ := by
  funext j
  exact (if_pos (show j.val ≤ n + r.val by omega)).symm

/-- The keys past the block are masked. -/
theorem masked (c : Fin 2) (j : Fin 2048) (hj : n + 512 ≤ j.val) : score c q K ⟨n + r.val, by omega⟩ j = ninf :=
  score_later c q K ⟨n + r.val, by omega⟩ (n := n + 512) (by show n + r.val < n + 512; omega) j hj

/-- The greatest score over the block and the keys before it is the greatest of the whole row. -/
theorem both_top (c : Fin 2) :
    both c q (fun j => K ⟨n + j.val, by omega⟩) (fun j : Fin n => K ⟨j.val, by omega⟩) r = top (score c q K ⟨n + r.val, by omega⟩) := by
  unfold both
  rw [own_score h q K r c, raw_score h q K r c]
  exact top_parts h _ (masked q K r c)

/-- A row with keys before its block. -/
theorem later_eq :
    later lm q (fun j => K ⟨n + j.val, by omega⟩) (fun j => V ⟨n + j.val, by omega⟩) (fun j : Fin n => K ⟨j.val, by omega⟩) (fun j : Fin n => V ⟨j.val, by omega⟩) r d
      = outK lm (score 0 q K ⟨n + r.val, by omega⟩) (score 1 q K ⟨n + r.val, by omega⟩) fun j => V j d := by
  unfold later outK
  rw [both_top h q K r 0, both_top h q K r 1, own_score h q K r 0, own_score h q K r 1, raw_score h q K r 0, raw_score h q K r 1]
  rw [← tot_parts h _ (masked q K r 0), ← tot_parts h _ (masked q K r 1),
    ← acc_parts h _ (fun j => V j d) (masked q K r 0), ← acc_parts h _ (fun j => V j d) (masked q K r 1)]

/-- The same of blocks that hold those keys and values. -/
theorem later_of (k v : Fin 512 → Fin 128 → EReal) (k' v' : Fin n → Fin 128 → EReal)
    (hk : ∀ j l, k j l = K ⟨n + j.val, by omega⟩ l) (hv : ∀ j l, v j l = V ⟨n + j.val, by omega⟩ l)
    (hk' : ∀ j l, k' j l = K ⟨j.val, by omega⟩ l) (hv' : ∀ j l, v' j l = V ⟨j.val, by omega⟩ l) :
    later lm q k v k' v' r d = outK lm (score 0 q K ⟨n + r.val, by omega⟩) (score 1 q K ⟨n + r.val, by omega⟩) fun j => V j d := by
  rw [← later_eq h lm q K V r d, funext fun j => funext (hk j), funext fun j => funext (hv j),
    funext fun j => funext (hk' j), funext fun j => funext (hv' j)]

end

variable (lm : EReal) (q : Fin 128 → EReal) (K V : Fin 2048 → Fin 128 → EReal) (r : Fin 512) (d : Fin 128)

/-- A row of the first block. -/
theorem first_eq :
    first lm q (fun j => K ⟨j.val, by omega⟩) (fun j => V ⟨j.val, by omega⟩) r d
      = outK lm (score 0 q K ⟨r.val, by omega⟩) (score 1 q K ⟨r.val, by omega⟩) fun j => V j d := by
  have key := later_eq (n := 0) (by omega) lm q K V r d
  have e : ∀ j : Fin 512, (⟨0 + j.val, by omega⟩ : Fin 2048) = ⟨j.val, by omega⟩ := fun j => Fin.ext (Nat.zero_add _)
  simp only [e] at key
  refine Eq.trans ?_ key
  have hb : ∀ c, both c q (fun j => K ⟨j.val, by omega⟩) (fun j : Fin 0 => K ⟨j.val, by omega⟩) r = top (own c q (fun j => K ⟨j.val, by omega⟩) r) := fun c => by
    unfold both
    rw [top_eq_sup (n := 0), Finset.univ_eq_empty, Finset.sup_empty]
    exact max_eq_left bot_le
  unfold first later
  simp only [hb, Finset.univ_eq_empty, Finset.sum_empty, add_zero]

/-- The same of blocks that hold those keys and values. -/
theorem first_of (k v : Fin 512 → Fin 128 → EReal) (hk : ∀ j l, k j l = K ⟨j.val, by omega⟩ l) (hv : ∀ j l, v j l = V ⟨j.val, by omega⟩ l) :
    first lm q k v r d = outK lm (score 0 q K ⟨r.val, by omega⟩) (score 1 q K ⟨r.val, by omega⟩) fun j => V j d := by
  rw [← first_eq lm q K V r d, funext fun j => funext (hk j), funext fun j => funext (hv j)]

end Cert.KernelIdeal.Attn
-- ==== Proof.AttnOpen.lean ====
/-
  One grid point of the attention kernel, read at an index: the blocks as places of the argument arrays, the two carried
  blocks as a batch entry's keys and values, and the stored block as the layer's rows.
-/
module

public import proofs.«01_k».proof.Proof.AttnRow
public import proofs.«01_k».proof.Proof.Gen.KernelIdeal.Frame
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen Cert.AttnSpec

variable (m : (ℓ : Loc nD τ sig) → Buf (Elt Ideal) ℓ)

/-- The argument arrays as plain functions: the projected rows, the four weight vectors, the gain. -/
def aQ (c : Dev nD) (R : Fin 16384) (n : Fin 7168) : EReal := (m ((c : Thread nD τ).loc main_arg0) : FVec Ideal S16384x7168 .f32) (ix2 R n)
def aL (c : Dev nD) (a : Fin 4) (l : Fin 64) : EReal := (m ((c : Thread nD τ).loc main_arg1) : FVec Ideal S4x64 .f32) (ix2 a l)
def aN (c : Dev nD) (l : Fin 128) : EReal := (m ((c : Thread nD τ).loc main_arg2) : FVec Ideal S128 .f32) (ix1 l)

/-- The query, key and value rows of batch entry `b` and head `h`. -/
def qry (c : Dev nD) (b : Fin 8) (h : Fin 4) (i : Fin 2048) (l : Fin 128) : EReal :=
  aQ m c ⟨2048 * b.val + i.val, by omega⟩ ⟨1536 + 128 * h.val + l.val, by omega⟩
def key (c : Dev nD) (b : Fin 8) (h : Fin 4) (j : Fin 2048) (l : Fin 128) : EReal :=
  aQ m c ⟨2048 * b.val + j.val, by omega⟩ ⟨2048 + 128 * h.val + l.val, by omega⟩
def vlu (c : Dev nD) (b : Fin 8) (h : Fin 4) (j : Fin 2048) (l : Fin 128) : EReal :=
  aQ m c ⟨2048 * b.val + j.val, by omega⟩ ⟨2560 + 128 * h.val + l.val, by omega⟩

/-- The layer's output row before its normalisation. -/
def pre (c : Dev nD) (b : Fin 8) (h : Fin 4) (i : Fin 2048) (d : Fin 128) : EReal :=
  outK (lam (aL m c)) (score 0 (qry m c b h i) (key m c b h) i) (score 1 (qry m c b h i) (key m c b h) i) fun j => vlu m c b h j d

/-- The layer's output at batch entry `b`, head `h`, position `i`, lane `d`. -/
def outE (c : Dev nD) (b : Fin 8) (h : Fin 4) (i : Fin 2048) (d : Fin 128) : EReal := finish (pre m c b h i) (aN m c) d

/-- Every window's block index, at every grid point. -/
theorem idx : ∀ t : Fin cfg0.N, win0_0.index t = ![t.val / 16 * 4 + t.val % 4, 12 + t.val / 4 % 4]
    ∧ win0_1.index t = ![t.val / 16, 16 + t.val / 4 % 4] ∧ win0_2.index t = ![t.val / 16, 20 + t.val / 4 % 4]
    ∧ win0_3.index t = ![0, 0] ∧ win0_4.index t = ![0, 0]
    ∧ win0_5.index t = ![t.val / 16 * 4 + t.val % 4, t.val / 4 % 4] :=
  (by decide +kernel : ∀ t : Fin grid0.N, _)

/-- The grid has 128 points. -/
theorem lt_N (t : Fin cfg0.N) : t.val < 128 := lt_of_lt_of_eq t.isLt (show cfg0.N = 128 from N_0)

/-- A point's batch entry, head, and the position of row `r` of its block. -/
abbrev pb (t : Fin cfg0.N) : Fin 8 := ⟨t.val / 16, by have := lt_N t; omega⟩
abbrev ph (t : Fin cfg0.N) : Fin 4 := ⟨t.val / 4 % 4, by omega⟩
abbrev pos (t : Fin cfg0.N) (r : Fin 512) : Fin 2048 := ⟨512 * (t.val % 4) + r.val, by omega⟩

theorem blk0 (c : Dev nD) (t : Fin cfg0.N) (r : Fin 512) (l : Fin 128) :
    (iblk m c 0 t : FVec Ideal S512x128 .f32) (ix2 r l) = qry m c (pb t) (ph t) (pos t r) l := by
  unfold qry aQ
  blk_ext [iblk, V, idx t]

theorem blk1 (c : Dev nD) (t : Fin cfg0.N) (j : Fin 2048) (l : Fin 128) :
    (iblk m c 1 t : FVec Ideal S2048x128 .f32) (ix2 j l) = key m c (pb t) (ph t) j l := by
  unfold key aQ
  blk_ext [iblk, V, idx t]

theorem blk2 (c : Dev nD) (t : Fin cfg0.N) (j : Fin 2048) (l : Fin 128) :
    (iblk m c 2 t : FVec Ideal S2048x128 .f32) (ix2 j l) = vlu m c (pb t) (ph t) j l := by
  unfold vlu aQ
  blk_ext [iblk, V, idx t]

theorem blk3 (c : Dev nD) (t : Fin cfg0.N) (a : Fin 4) (l : Fin 64) :
    (iblk m c 3 t : FVec Ideal S4x64 .f32) (ix2 a l) = aL m c a l := by
  unfold aL
  blk_ext [iblk, V, idx t]

theorem blk4 (c : Dev nD) (t : Fin cfg0.N) (l : Fin 128) :
    (iblk m c 4 t : FVec Ideal S1x128 .f32) (ix2 0 l) = aN m c l := by
  unfold aN
  blk_point [iblk, V, idx t]

/-- What a head's first point leaves in the two carried blocks. -/
theorem scr_A (c : Dev nD) (t : Fin cfg0.N) (h0 : t.val % 4 = 0) (j : Fin 2048) (l : Fin 128) :
    (outsAt0 m c t.val t.isLt).2.1 (ix2 j l) = key m c (pb t) (ph t) j l
      ∧ (outsAt0 m c t.val t.isLt).2.2 (ix2 j l) = vlu m c (pb t) (ph t) j l := by
  rw [outsAt0_A m c t h0 h0 (by omega) (by omega) (by omega)]
  constructor
  · refine Eq.trans ?_ (blk1 m c t j l)
    frame_out
    pointwise [k0_pay43]
  · refine Eq.trans ?_ (blk2 m c t j l)
    frame_out
    pointwise [k0_pay44]

/-- A later point of a head leaves the carried blocks as the point before did. -/
theorem scr_hold (c : Dev nD) (t : Fin cfg0.N) (h0 : ¬t.val % 4 = 0) :
    (outsAt0 m c t.val t.isLt).2 = (outsAt0 m c (t.val - 1) (Nat.lt_of_le_of_lt (Nat.sub_le _ _) t.isLt)).2 := by
  by_cases h2 : t.val % 4 = 1
  · rw [outsAt0_B m c t h0 h0 h2 (by omega) (by omega)]
    unfold sout0_B_0 sout0_B_1
    rfl
  by_cases h3 : t.val % 4 = 2
  · rw [outsAt0_C m c t h0 h0 h2 h3 (by omega)]
    unfold sout0_C_0 sout0_C_1
    rfl
  · rw [outsAt0_D m c t h0 h0 h2 h3 (by omega)]
    unfold sout0_D_0 sout0_D_1
    rfl

/-- At every point the carried blocks hold the keys and the values of the point's batch entry and head. -/
theorem scr_eq (c : Dev nD) : ∀ (n : ℕ) (hn : n < cfg0.N) (j : Fin 2048) (l : Fin 128),
    (outsAt0 m c n hn).2.1 (ix2 j l) = key m c (pb ⟨n, hn⟩) (ph ⟨n, hn⟩) j l
      ∧ (outsAt0 m c n hn).2.2 (ix2 j l) = vlu m c (pb ⟨n, hn⟩) (ph ⟨n, hn⟩) j l
  | 0, hn, j, l => scr_A m c ⟨0, hn⟩ (Nat.zero_mod _) j l
  | n + 1, hn, j, l => by
    by_cases h0 : (n + 1) % 4 = 0
    · exact scr_A m c ⟨n + 1, hn⟩ h0 j l
    · have e := scr_hold m c ⟨n + 1, hn⟩ h0
      have ih := scr_eq c n (by omega) j l
      have eb : pb ⟨n, by omega⟩ = pb ⟨n + 1, hn⟩ := Fin.ext (by show n / 16 = (n + 1) / 16; omega)
      have eh : ph ⟨n, by omega⟩ = ph ⟨n + 1, hn⟩ := Fin.ext (by show n / 4 % 4 = (n + 1) / 4 % 4; omega)
      rw [eb, eh] at ih
      exact ⟨(congrFun (congrArg Prod.fst e) (ix2 j l)).trans ih.1, (congrFun (congrArg Prod.snd e) (ix2 j l)).trans ih.2⟩

/-- The blocks carried into a later point of a head. -/
theorem scr_in (c : Dev nD) (t : Fin cfg0.N) (h0 : ¬t.val % 4 = 0) (j : Fin 2048) (l : Fin 128) :
    (outsAt0 m c (t.val - 1) (Nat.lt_of_le_of_lt (Nat.sub_le _ _) t.isLt)).2.1 (ix2 j l) = key m c (pb t) (ph t) j l
      ∧ (outsAt0 m c (t.val - 1) (Nat.lt_of_le_of_lt (Nat.sub_le _ _) t.isLt)).2.2 (ix2 j l) = vlu m c (pb t) (ph t) j l := by
  have e := scr_hold m c t h0
  have ih := scr_eq m c t.val t.isLt j l
  rw [e] at ih
  exact ih

/-- A point's stored rows, once its blocks are the layer's: the normalisation of `pre`. -/
theorem finish_eq (c : Dev nD) (t : Fin cfg0.N) (r : Fin 512) (d : Fin 128) (o : Fin 128 → EReal) (n : ℕ) (hn : n = 512 * (t.val % 4)) (hlt : n + r.val < 2048)
    (ho : ∀ d, o d = pre m c (pb t) (ph t) ⟨n + r.val, hlt⟩ d) :
    finish o (fun l => (iblk m c 4 t : FVec Ideal S1x128 .f32) (ix2 0 l)) d = outE m c (pb t) (ph t) (pos t r) d := by
  subst hn
  exact congrArg₂ (fun a b => finish a b d) (funext ho) (funext fun l => blk4 m c t l)

/-- The query block's row. -/
theorem qry_eq (c : Dev nD) (t : Fin cfg0.N) (r : Fin 512) (n : ℕ) (hn : n = 512 * (t.val % 4)) (hlt : n + r.val < 2048) :
    (fun l => (iblk m c 0 t : FVec Ideal S512x128 .f32) (ix2 r l)) = qry m c (pb t) (ph t) ⟨n + r.val, hlt⟩ := by
  subst hn
  exact funext fun l => blk0 m c t r l

/-- The weight of the second component from the point's block. -/
theorem lam_blk (c : Dev nD) (t : Fin cfg0.N) : (lam fun a l => (iblk m c 3 t : FVec Ideal S4x64 .f32) (ix2 a l)) = lam (aL m c) :=
  congrArg lam (funext fun a => funext fun l => blk3 m c t a l)

/-- A load of rows of a carried block, at an index. -/
theorem ld_at {n : ℕ} (x : FVec Ideal S2048x128 .bf16) (o : ℕ) (inb : ∀ a, (![o, 0] : Fin 2 → ℕ) a + (![n, 128] : Fin 2 → ℕ) a ≤ S2048x128.size a)
    (j : Fin n) (l : Fin 128) (i : Fin 2048) (hi : i.val = o + j.val) :
    (View.ld (Val := Elt Ideal) (e' := .bf16) (S := S2048x128) x (Rect.unit ![o, 0] ![n, 128] inb) : FVec Ideal ⟨2, ![n, 128]⟩ .bf16) (ix2 j l) = x (ix2 i l) := by
  refine congrArg x ?_
  funext a
  match a with
  | ⟨0, _⟩ => apply Fin.ext; show o + 1 * j.val = i.val; omega
  | ⟨1, _⟩ => apply Fin.ext; show 0 + 1 * l.val = l.val; omega

/-- The keys and values stored at a head's first point. -/
theorem key_new (c : Dev nD) (t : Fin cfg0.N) (j : Fin 2048) (l : Fin 128) : k0_pay43 (F := Ideal) (iblk m c 1 t) (ix2 j l) = key m c (pb t) (ph t) j l := by
  refine Eq.trans ?_ (blk1 m c t j l)
  pointwise [k0_pay43]
theorem vlu_new (c : Dev nD) (t : Fin cfg0.N) (j : Fin 2048) (l : Fin 128) : k0_pay44 (F := Ideal) (iblk m c 2 t) (ix2 j l) = vlu m c (pb t) (ph t) j l := by
  refine Eq.trans ?_ (blk2 m c t j l)
  pointwise [k0_pay44]

/-- The stored block of a head's first point. -/
theorem out_A (c : Dev nD) (t : Fin cfg0.N) (h0 : t.val % 4 = 0) (r : Fin 512) (d : Fin 128) :
    (outsAt0 m c t.val t.isLt).1 (ix2 r d) = outE m c (pb t) (ph t) (pos t r) d := by
  rw [outsAt0_A m c t h0 h0 (by omega) (by omega) (by omega)]
  frame_out
  simp (disch := decide) only [View.readCov_fill]
  refine (pay_A _ _ _ _ _ r d).trans (finish_eq m c t r d _ 0 (by omega) (by omega) fun d => ?_)
  rw [qry_eq m c t r 0 (by omega) (by omega), lam_blk]
  have e0 : (⟨0 + r.val, by omega⟩ : Fin 2048) = ⟨r.val, by omega⟩ := Fin.ext (Nat.zero_add _)
  rw [e0]
  exact first_of _ _ (key m c (pb t) (ph t)) (vlu m c (pb t) (ph t)) r d _ _
    (fun j l => (ld_at _ 0 _ j l ⟨j.val, by omega⟩ (by simp)).trans (key_new m c t _ l))
    (fun j l => (ld_at _ 0 _ j l ⟨j.val, by omega⟩ (by simp)).trans (vlu_new m c t _ l))

/-- The stored block of a head's second point. -/
theorem out_B (c : Dev nD) (t : Fin cfg0.N) (h2 : t.val % 4 = 1) (r : Fin 512) (d : Fin 128) :
    (outsAt0 m c t.val t.isLt).1 (ix2 r d) = outE m c (pb t) (ph t) (pos t r) d := by
  have h0 : ¬t.val % 4 = 0 := by omega
  rw [outsAt0_B m c t h0 h0 h2 (by omega) (by omega)]
  frame_out
  simp only [read_unread_whole]
  refine (pay_B _ _ _ _ _ _ _ r d).trans (finish_eq m c t r d _ 512 (by omega) (by omega) fun d => ?_)
  rw [qry_eq m c t r 512 (by omega) (by omega), lam_blk]
  exact later_of (n := 512) (by omega) _ _ (key m c (pb t) (ph t)) (vlu m c (pb t) (ph t)) r d _ _ _ _
    (fun j l => (ld_at _ 512 _ j l ⟨512 + j.val, by omega⟩ rfl).trans (scr_in m c t h0 _ l).1)
    (fun j l => (ld_at _ 512 _ j l ⟨512 + j.val, by omega⟩ rfl).trans (scr_in m c t h0 _ l).2)
    (fun j l => (ld_at _ 0 _ j l ⟨j.val, by omega⟩ (by simp)).trans (scr_in m c t h0 _ l).1)
    (fun j l => (ld_at _ 0 _ j l ⟨j.val, by omega⟩ (by simp)).trans (scr_in m c t h0 _ l).2)

/-- The stored block of a head's third point. -/
theorem out_C (c : Dev nD) (t : Fin cfg0.N) (h2 : t.val % 4 = 2) (r : Fin 512) (d : Fin 128) :
    (outsAt0 m c t.val t.isLt).1 (ix2 r d) = outE m c (pb t) (ph t) (pos t r) d := by
  have h0 : ¬t.val % 4 = 0 := by omega
  rw [outsAt0_C m c t h0 h0 (by omega) h2 (by omega)]
  frame_out
  simp only [read_unread_whole]
  refine (pay_C _ _ _ _ _ _ _ r d).trans (finish_eq m c t r d _ 1024 (by omega) (by omega) fun d => ?_)
  rw [qry_eq m c t r 1024 (by omega) (by omega), lam_blk]
  exact later_of (n := 1024) (by omega) _ _ (key m c (pb t) (ph t)) (vlu m c (pb t) (ph t)) r d _ _ _ _
    (fun j l => (ld_at _ 1024 _ j l ⟨1024 + j.val, by omega⟩ rfl).trans (scr_in m c t h0 _ l).1)
    (fun j l => (ld_at _ 1024 _ j l ⟨1024 + j.val, by omega⟩ rfl).trans (scr_in m c t h0 _ l).2)
    (fun j l => (ld_at _ 0 _ j l ⟨j.val, by omega⟩ (by simp)).trans (scr_in m c t h0 _ l).1)
    (fun j l => (ld_at _ 0 _ j l ⟨j.val, by omega⟩ (by simp)).trans (scr_in m c t h0 _ l).2)

/-- The stored block of a head's fourth point. -/
theorem out_D (c : Dev nD) (t : Fin cfg0.N) (h2 : t.val % 4 = 3) (r : Fin 512) (d : Fin 128) :
    (outsAt0 m c t.val t.isLt).1 (ix2 r d) = outE m c (pb t) (ph t) (pos t r) d := by
  have h0 : ¬t.val % 4 = 0 := by omega
  rw [outsAt0_D m c t h0 h0 (by omega) (by omega) h2]
  frame_out
  simp only [read_unread_whole]
  refine (pay_D _ _ _ _ _ _ _ r d).trans (finish_eq m c t r d _ 1536 (by omega) (by omega) fun d => ?_)
  rw [qry_eq m c t r 1536 (by omega) (by omega), lam_blk]
  exact later_of (n := 1536) (by omega) _ _ (key m c (pb t) (ph t)) (vlu m c (pb t) (ph t)) r d _ _ _ _
    (fun j l => (ld_at _ 1536 _ j l ⟨1536 + j.val, by omega⟩ rfl).trans (scr_in m c t h0 _ l).1)
    (fun j l => (ld_at _ 1536 _ j l ⟨1536 + j.val, by omega⟩ rfl).trans (scr_in m c t h0 _ l).2)
    (fun j l => (ld_at _ 0 _ j l ⟨j.val, by omega⟩ (by simp)).trans (scr_in m c t h0 _ l).1)
    (fun j l => (ld_at _ 0 _ j l ⟨j.val, by omega⟩ (by simp)).trans (scr_in m c t h0 _ l).2)

/-- The stored block of every point. -/
theorem out_eq (c : Dev nD) (t : Fin cfg0.N) (r : Fin 512) (d : Fin 128) :
    (outsAt0 m c t.val t.isLt).1 (ix2 r d) = outE m c (pb t) (ph t) (pos t r) d := by
  by_cases h0 : t.val % 4 = 0
  · exact out_A m c t h0 r d
  by_cases h1 : t.val % 4 = 1
  · exact out_B m c t h1 r d
  by_cases h2 : t.val % 4 = 2
  · exact out_C m c t h2 r d
  · exact out_D m c t (by omega) r d

end Cert.KernelIdeal.Attn
-- ==== Proof.AttnArr.lean ====
/-
  The attention kernel's result array after the run, at every index.
-/
module

public import proofs.«01_k».proof.Proof.AttnOpen
public import proofs.«01_k».proof.Proof.Gen.KernelIdeal.Value

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen Cert.AttnSpec

variable (m : (ℓ : Loc nD τ sig) → Buf (Elt Ideal) ℓ)

/-- The layer's output, as an array. -/
def outO (c : Dev nD) : FVec Ideal S16384x512 .bf16 := fun i =>
  outE m c ⟨(i 0).val / 2048, by have : (i 0).val < 16384 := (i 0).isLt; omega⟩ ⟨(i 1).val / 128, by have : (i 1).val < 512 := (i 1).isLt; omega⟩
    ⟨(i 0).val % 2048, by omega⟩ ⟨(i 1).val % 128, by omega⟩

/-- The array at a batch entry, head, position and lane. -/
theorem outO_at (c : Dev nD) (R : Fin 16384) (n : Fin 512) (b : Fin 8) (h : Fin 4) (i : Fin 2048) (d : Fin 128)
    (hR : R.val = 2048 * b.val + i.val) (hn : n.val = 128 * h.val + d.val) : outO m c (ix2 R n) = outE m c b h i d := by
  have e0 : (⟨R.val / 2048, by omega⟩ : Fin 8) = b := Fin.ext (by show R.val / 2048 = b.val; omega)
  have e1 : (⟨n.val / 128, by omega⟩ : Fin 4) = h := Fin.ext (by show n.val / 128 = h.val; omega)
  have e2 : (⟨R.val % 2048, by omega⟩ : Fin 2048) = i := Fin.ext (by show R.val % 2048 = i.val; omega)
  have e3 : (⟨n.val % 128, by omega⟩ : Fin 128) = d := Fin.ext (by show n.val % 128 = d.val; omega)
  show outE m c ⟨R.val / 2048, _⟩ ⟨n.val / 128, _⟩ ⟨R.val % 2048, _⟩ ⟨n.val % 128, _⟩ = _
  rw [e0, e1, e2, e3]

/-- The place in the result array of the point's block at row `r`, column `d`. -/
theorem emb5 (t : Fin cfg0.N) (r : Fin 512) (d : Fin 128) : ((cfg0.win 5).blk t).view.emb (ix2 r d)
    = ix2 ⟨2048 * (t.val / 16) + (512 * (t.val % 4) + r.val), by have := lt_N t; omega⟩ ⟨128 * (t.val / 4 % 4) + d.val, by omega⟩ := by
  funext a
  match a with
  | ⟨0, _⟩ =>
    apply Fin.ext; blk_simp [idx t]
    show (t.val / 16 * 4 + t.val % 4) * 512 + r.val = 2048 * (t.val / 16) + (512 * (t.val % 4) + r.val); omega
  | ⟨1, _⟩ =>
    apply Fin.ext; blk_simp [idx t]
    show t.val / 4 % 4 * 128 + d.val = 128 * (t.val / 4 % 4) + d.val; omega

/-- After the run the result array is the layer's output. -/
theorem final5 (c : Dev nD) : (dats m 0 c).arrAt 5 cfg0.N = outO m c := by
  refine (dats m 0 c).arrAt_eq_of_covers 5 _ (by decide +kernel) fun t hf y => ?_
  blk_simp
  rw [after0_5]
  idx_vars y
  exact ((out_eq m c t y0 y1).trans (outO_at m c _ _ (pb t) (ph t) (pos t y0) y1 rfl rfl).symm).trans (congrArg (outO m c) (emb5 t y0 y1).symm)

end Cert.KernelIdeal.Attn
-- ==== Proof.AttnFinite.lean ====
/-
  The attention's two orders of division agree on finite rows.
-/
module

public import proofs.«01_k».proof.Proof.AttnSpec

@[expose] public section

set_option maxRecDepth 16384

noncomputable section

open Idealize.ShloMosaic Idealize.ShloMosaic.TcCoe Idealize.SL.Sem

namespace Cert.AttnSpec

/-- An extended real whose absolute value is below infinity is a real number. -/
theorem real_of_abs (x : EReal) (h : max x (-x) < ⊤) : ∃ r : ℝ, x = (r : EReal) := by
  induction x using EReal.rec with
  | bot => simp at h
  | top => simp at h
  | coe r => exact ⟨r, rfl⟩

/-- A finite sum of products of real numbers is a real number. -/
theorem real_dot {n : ℕ} (f g : Fin n → EReal) (hf : ∀ l, ∃ r : ℝ, f l = (r : EReal)) (hg : ∀ l, ∃ r : ℝ, g l = (r : EReal)) :
    ∃ r : ℝ, ∑ l, f l * g l = (r : EReal) := by
  choose a ha using hf
  choose b hb using hg
  refine ⟨∑ l, a l * b l, ?_⟩
  rw [coe_sum]
  exact Finset.sum_congr rfl fun l _ => by rw [ha, hb, EReal.coe_mul]

/-- A row's scores at the keys it may see are real numbers. -/
theorem real_score (c : Fin 2) (q : Fin 128 → EReal) (K : Fin 2048 → Fin 128 → EReal) (i : Fin 2048)
    (hq : ∀ l, ∃ r : ℝ, q l = (r : EReal)) (hK : ∀ j l, ∃ r : ℝ, K j l = (r : EReal)) :
    ∃ y : Fin 2048 → ℝ, ∀ j, score c q K i j = if j.val ≤ i.val then (y j : EReal) else ninf := by
  have h : ∀ j, ∃ r : ℝ, dotc c q (K j) = (r : EReal) := fun j => real_dot _ _ (fun l => hq _) (fun l => hK j _)
  choose y hy using h
  refine ⟨fun j => y j * (1 / 8), fun j => ?_⟩
  unfold score
  rw [hy, scl_eq, ← EReal.coe_mul]

/-- The weight of the second component is a real number. -/
theorem real_lam (p : Fin 4 → Fin 64 → EReal) (hp : ∀ a l, ∃ r : ℝ, p a l = (r : EReal)) : ∃ r : ℝ, lam p = (r : EReal) := by
  obtain ⟨a, ha⟩ := real_dot (p 0) (p 1) (hp 0) (hp 1)
  obtain ⟨b, hb⟩ := real_dot (p 2) (p 3) (hp 2) (hp 3)
  have hc : ∃ r : ℝ, Ideal.ofBits .f32 0x3E4CCCCD#32 = (r : EReal) := by
    simp only [Ideal.ofBits, Ideal.ieee]
    simp
    exact ⟨_, (EReal.coe_mul _ _).symm⟩
  obtain ⟨r, hr⟩ := hc
  refine ⟨Real.exp a - Real.exp b + r, ?_⟩
  unfold lam
  rw [ha, hb, hr, EReal.coe_add, EReal.coe_sub]
  rfl

/-- On finite rows the two orders of division give the same lane. -/
theorem out_eq (p : Fin 4 → Fin 64 → EReal) (q : Fin 128 → EReal) (K : Fin 2048 → Fin 128 → EReal) (v : Fin 2048 → EReal) (i : Fin 2048)
    (hp : ∀ a l, ∃ r : ℝ, p a l = (r : EReal)) (hq : ∀ l, ∃ r : ℝ, q l = (r : EReal)) (hK : ∀ j l, ∃ r : ℝ, K j l = (r : EReal))
    (hv : ∀ j, ∃ r : ℝ, v j = (r : EReal)) :
    outR (lam p) (score 0 q K i) (score 1 q K i) v = outK (lam p) (score 0 q K i) (score 1 q K i) v := by
  obtain ⟨l, hl⟩ := real_lam p hp
  obtain ⟨x0, h0⟩ := real_score 0 q K i hq hK
  obtain ⟨x1, h1⟩ := real_score 1 q K i hq hK
  choose y hy using hv
  exact outR_eq_outK i (lam p) _ _ v l x0 x1 y hl h0 h1 hy

end Cert.AttnSpec
-- ==== Proof.AttnRef.lean ====
/-
  The attention reference read at an index: the scores and their maxima.
-/
module

public import proofs.«01_k».proof.Proof.AttnSpec
public import proofs.«01_k».proof.Proof.Gen.ReferenceIdeal.Read
public import Idealize.ShloMosaic.Lib.Pipeline.ValueKit

@[expose] public section

set_option maxRecDepth 16384

noncomputable section

open Idealize.ShloMosaic Idealize.ShloMosaic.TcCoe Idealize.SL.Sem

namespace Cert.ReferenceIdeal.Attn

open Cert.ReferenceIdeal Cert.ReferenceIdeal.Gen Cert.ReferenceIdeal.Read Cert.AttnSpec

variable (x : FVec Ideal S16384x7168 .f32) (p : FVec Ideal S4x64 .f32) (g : FVec Ideal S128 .f32)

/-- The query, key and value rows of batch entry `b` and head `h`. -/
def qry (b : Fin 8) (h : Fin 4) (i : Fin 2048) (l : Fin 128) : EReal := x (ix2 ⟨2048 * b.val + i.val, by omega⟩ ⟨1536 + 128 * h.val + l.val, by omega⟩)
def key (b : Fin 8) (h : Fin 4) (j : Fin 2048) (l : Fin 128) : EReal := x (ix2 ⟨2048 * b.val + j.val, by omega⟩ ⟨2048 + 128 * h.val + l.val, by omega⟩)
def vlu (b : Fin 8) (h : Fin 4) (j : Fin 2048) (l : Fin 128) : EReal := x (ix2 ⟨2048 * b.val + j.val, by omega⟩ ⟨2560 + 128 * h.val + l.val, by omega⟩)

/-- A row's scores by component. -/
abbrev scr (b : Fin 8) (h : Fin 4) (c : Fin 2) (i j : Fin 2048) : EReal := score c (qry x b h i) (key x b h) i j

/-- The projected rows by batch entry. -/
theorem v0 (b : Fin 8) (i : Fin 2048) (n : Fin 7168) : val_main_v0 (F := Ideal) x (ix3 b i n) = x (ix2 ⟨2048 * b.val + i.val, by omega⟩ n) := by
  rw [val_main_v0_apply]
  refine congrArg x ?_
  funext a
  match a with
  | ⟨0, _⟩ => apply Fin.ext; show ((b.val * 2048 + i.val) * 7168 + n.val) / 7168 = 2048 * b.val + i.val; omega
  | ⟨1, _⟩ => apply Fin.ext; show ((b.val * 2048 + i.val) * 7168 + n.val) % 7168 = n.val; omega

theorem v2 (b : Fin 8) (i : Fin 2048) (h : Fin 4) (c : Fin 2) (l : Fin 64) : val_main_v2 (F := Ideal) x (ix5 b i h c l) = qry x b h i (chan c l) := by
  have e : idx_main_v1 (idx_main_v2 (ix5 b i h c l)) = ix3 b i ⟨1536 + (128 * h.val + (64 * c.val + l.val)), by omega⟩ := by
    funext a
    match a with
    | ⟨0, _⟩ => apply Fin.ext; show ((((b.val * 2048 + i.val) * 4 + h.val) * 2 + c.val) * 64 + l.val) / 1048576 = b.val; omega
    | ⟨1, _⟩ => apply Fin.ext; show ((((b.val * 2048 + i.val) * 4 + h.val) * 2 + c.val) * 64 + l.val) / 512 % 2048 = i.val; omega
    | ⟨2, _⟩ => apply Fin.ext; show 1536 + ((((b.val * 2048 + i.val) * 4 + h.val) * 2 + c.val) * 64 + l.val) % 512 = 1536 + (128 * h.val + (64 * c.val + l.val)); omega
  rw [val_main_v2_apply, val_main_v1_apply, e, v0]
  unfold qry
  exact congrArg x (congrArg₂ ix2 rfl (Fin.ext (by show 1536 + (128 * h.val + (64 * c.val + l.val)) = 1536 + 128 * h.val + (64 * c.val + l.val); omega)))

theorem v4 (b : Fin 8) (i : Fin 2048) (h : Fin 4) (c : Fin 2) (l : Fin 64) : val_main_v4 (F := Ideal) x (ix5 b i h c l) = key x b h i (chan c l) := by
  have e : idx_main_v3 (idx_main_v4 (ix5 b i h c l)) = ix3 b i ⟨2048 + (128 * h.val + (64 * c.val + l.val)), by omega⟩ := by
    funext a
    match a with
    | ⟨0, _⟩ => apply Fin.ext; show ((((b.val * 2048 + i.val) * 4 + h.val) * 2 + c.val) * 64 + l.val) / 1048576 = b.val; omega
    | ⟨1, _⟩ => apply Fin.ext; show ((((b.val * 2048 + i.val) * 4 + h.val) * 2 + c.val) * 64 + l.val) / 512 % 2048 = i.val; omega
    | ⟨2, _⟩ => apply Fin.ext; show 2048 + ((((b.val * 2048 + i.val) * 4 + h.val) * 2 + c.val) * 64 + l.val) % 512 = 2048 + (128 * h.val + (64 * c.val + l.val)); omega
  rw [val_main_v4_apply, val_main_v3_apply, e, v0]
  unfold key
  exact congrArg x (congrArg₂ ix2 rfl (Fin.ext (by show 2048 + (128 * h.val + (64 * c.val + l.val)) = 2048 + 128 * h.val + (64 * c.val + l.val); omega)))

theorem v6 (b : Fin 8) (i : Fin 2048) (h : Fin 4) (d : Fin 128) : val_main_v6 (F := Ideal) x (ix4 b i h d) = vlu x b h i d := by
  have e : idx_main_v5 (idx_main_v6 (ix4 b i h d)) = ix3 b i ⟨2560 + (128 * h.val + d.val), by omega⟩ := by
    funext a
    match a with
    | ⟨0, _⟩ => apply Fin.ext; show (((b.val * 2048 + i.val) * 4 + h.val) * 128 + d.val) / 1048576 = b.val; omega
    | ⟨1, _⟩ => apply Fin.ext; show (((b.val * 2048 + i.val) * 4 + h.val) * 128 + d.val) / 512 % 2048 = i.val; omega
    | ⟨2, _⟩ => apply Fin.ext; show 2560 + (((b.val * 2048 + i.val) * 4 + h.val) * 128 + d.val) % 512 = 2560 + (128 * h.val + d.val); omega
  rw [val_main_v6_apply, val_main_v5_apply, e, v0]
  unfold vlu
  exact congrArg x (congrArg₂ ix2 rfl (Fin.ext (by show 2560 + (128 * h.val + d.val) = 2560 + 128 * h.val + d.val; omega)))

/-- The weight of the second component. -/
theorem v22 (i : S_.Idx) : val_main_v22 (F := Ideal) p i = lam fun a l => p (ix2 a l) := by
  pointwise [val_main_v22, val_main_v21, val_main_v20, val_main_v19, val_main_v18, val_main_v17, val_main_v16, val_main_v15, val_main_v14, val_main_v13, val_main_v12, val_main_v11, val_main_v10, val_main_v9, val_main_v8, val_main_v7, val_main_cst, val_main_cst_0, val_main_cst_1]
  rfl

/-- The product of a query and a key. -/
theorem v23 (b : Fin 8) (h : Fin 4) (c : Fin 2) (i j : Fin 2048) : val_main_v23 (F := Ideal) x (ix5 b h c i j) = dotc c (qry x b h i) (key x b h j) := by
  rw [val_main_v23_apply]
  exact Finset.sum_congr rfl fun l _ => congrArg₂ (· * ·) (v2 x b i h c l) (v4 x b j h c l)

/-- The causal comparison of the two positions. -/
theorem v31 (i j : Fin 2048) (a b : EReal) : Scalar.select (val_main_v31 (F := Ideal) (ix2 i j)) a b = if j.val ≤ i.val then a else b := by
  have h : (BitVec.ofNat 32 j.val).sle (BitVec.ofNat 32 i.val) = decide (j.val ≤ i.val) := by
    rw [BitVec.sle_eq_decide, BitVec.toInt_eq_toNat_of_lt, BitVec.toInt_eq_toNat_of_lt]
    · simp only [BitVec.toNat_ofNat]
      rw [Nat.mod_eq_of_lt (by omega), Nat.mod_eq_of_lt (by omega)]
      simp
    · simp only [BitVec.toNat_ofNat]; omega
    · simp only [BitVec.toNat_ofNat]; omega
  show (if (BitVec.ofBool ((BitVec.ofNat 32 j.val).sle (BitVec.ofNat 32 i.val)) = 1#1) then a else b) = _
  rw [h]
  by_cases hab : j.val ≤ i.val
  · simp [hab]
  · simp [hab]

/-- The masked score. -/
theorem v32 (b : Fin 8) (h : Fin 4) (c : Fin 2) (i j : Fin 2048) : val_main_v32 (F := Ideal) x (ix5 b h c i j) = scr x b h c i j := by
  have e : val_main_v32 (F := Ideal) x (ix5 b h c i j)
      = Scalar.select (val_main_v31 (F := Ideal) (ix2 i j)) (val_main_v23 (F := Ideal) x (ix5 b h c i j) * scl) ninf := by
    pointwise [val_main_v32, val_main_call0_v0, val_main_call0_v1, val_main_call0_v2, val_main_cst_3, val_main_v25, val_main_v24, val_main_cst_2]
    rfl
  rw [e, v31, v23]
  rfl

/-- The greatest lane over the last axis. -/
theorem maxLast (y : FVec Ideal S8x4x2x2048x2048 .f32) (b : Fin 8) (h : Fin 4) (c : Fin 2) (i : Fin 2048) :
    Host.reduce FloatOps.maximumf y (val_main_cst_4 (F := Ideal)) reducesTo_S8x4x2x2048x2048_S8x4x2x2048_d4 h_S_ (ix4 b h c i)
      = top fun j : Fin 2048 => y (ix5 b h c i j) := by
  rw [Host.reduce_eq_fold]
  have hr : Shape.Reduces S8x4x2x2048x2048 [4] S8x4x2x2048 := by decide
  rw [Shape.ReducesTo.drop_eq_drop _ hr]
  refine (hr.fold_filter_drop_single _ _ y (ix4 b h c i)).trans ?_
  refine congrArg (fun f : Fin 2048 → EReal => Finset.fold max ninf f Finset.univ) (funext fun k => congrArg y ?_)
  funext a
  match a with
  | ⟨0, _⟩ => rfl
  | ⟨1, _⟩ => rfl
  | ⟨2, _⟩ => rfl
  | ⟨3, _⟩ => rfl
  | ⟨4, _⟩ => rfl

end Cert.ReferenceIdeal.Attn
-- ==== Proof.AttnRefOut.lean ====
/-
  The attention reference read at an index: its result is the layer's mathematics, the weights divided before the
  values are summed.
-/
module

public import proofs.«01_k».proof.Proof.AttnRef
public import proofs.«01_k».proof.Proof.Gen.ReferenceIdeal.Read
public import Idealize.ShloMosaic.Lib.Pipeline.ValueKit

@[expose] public section

set_option maxRecDepth 16384

noncomputable section

open Idealize.ShloMosaic Idealize.ShloMosaic.TcCoe Idealize.SL.Sem

namespace Cert.ReferenceIdeal.Attn

open Cert.ReferenceIdeal Cert.ReferenceIdeal.Gen Cert.ReferenceIdeal.Read Cert.AttnSpec

variable (x : FVec Ideal S16384x7168 .f32) (p : FVec Ideal S4x64 .f32) (g : FVec Ideal S128 .f32)

/-- A row's greatest score. -/
theorem v33 (b : Fin 8) (h : Fin 4) (c : Fin 2) (i : Fin 2048) : val_main_v33 (F := Ideal) x (ix4 b h c i) = top (scr x b h c i) := by
  unfold val_main_v33
  generalize hy : val_main_v32 (F := Ideal) x = y
  rw [maxLast]
  subst hy
  exact congrArg top (funext fun j => v32 x b h c i j)

/-- The same, taken against minus infinity. -/
theorem v35 (b : Fin 8) (h : Fin 4) (c : Fin 2) (i : Fin 2048) : val_main_v35 (F := Ideal) x (ix4 b h c i) = top (scr x b h c i) := by
  rw [val_main_v35_apply, v33]
  generalize top (scr x b h c i) = T
  rw [val_main_v34_apply, val_main_cst_5_apply]
  show max ninf T = T
  rw [ninf_eq]
  exact max_eq_right bot_le

/-- A weight before division. -/
theorem v39 (b : Fin 8) (h : Fin 4) (c : Fin 2) (i j : Fin 2048) : val_main_v39 (F := Ideal) x (ix5 b h c i j) = wgt (scr x b h c i) j := by
  have e : val_main_v39 (F := Ideal) x (ix5 b h c i j) = Ideal.exp (val_main_v32 (F := Ideal) x (ix5 b h c i j) - val_main_v35 (F := Ideal) x (ix4 b h c i)) := by
    pointwise [val_main_v39, val_main_v38, val_main_v37, val_main_v36]
    try rfl
  rw [e, v32, v35]
  rfl

/-- A weight. -/
theorem v43 (b : Fin 8) (h : Fin 4) (c : Fin 2) (i j : Fin 2048) :
    val_main_v43 (F := Ideal) x (ix5 b h c i j) = Ideal.div (wgt (scr x b h c i) j) (tot (scr x b h c i)) := by
  have e : val_main_v43 (F := Ideal) x (ix5 b h c i j) = Ideal.div (val_main_v39 (F := Ideal) x (ix5 b h c i j)) (∑ k, val_main_v39 (F := Ideal) x (ix5 b h c i k)) := by
    pointwise [val_main_v43, val_main_v42, val_main_v41, val_main_v40, val_main_cst_6]
    try rfl
  rw [e]
  simp only [v39]
  rfl

/-- The difference of the two components' weights. -/
theorem v50 (b : Fin 8) (h : Fin 4) (i j : Fin 2048) :
    val_main_v50 (F := Ideal) x p (ix4 b h i j) = Ideal.div (wgt (scr x b h 0 i) j) (tot (scr x b h 0 i))
      - (lam fun a l => p (ix2 a l)) * Ideal.div (wgt (scr x b h 1 i) j) (tot (scr x b h 1 i)) := by
  have e0 : idx_main_v44 (idx_main_v45 (ix4 b h i j)) = ix5 b h 0 i j := by
    funext a
    match a with
    | ⟨0, _⟩ => apply Fin.ext; show (((b.val * 4 + h.val) * 2048 + i.val) * 2048 + j.val) / 16777216 = b.val; omega
    | ⟨1, _⟩ => apply Fin.ext; show (((b.val * 4 + h.val) * 2048 + i.val) * 2048 + j.val) / 4194304 % 4 = h.val; omega
    | ⟨2, _⟩ => rfl
    | ⟨3, _⟩ => apply Fin.ext; show (((b.val * 4 + h.val) * 2048 + i.val) * 2048 + j.val) / 2048 % 2048 = i.val; omega
    | ⟨4, _⟩ => apply Fin.ext; show (((b.val * 4 + h.val) * 2048 + i.val) * 2048 + j.val) % 2048 = j.val; omega
  have e1 : idx_main_v46 (idx_main_v47 (ix4 b h i j)) = ix5 b h 1 i j := by
    funext a
    match a with
    | ⟨0, _⟩ => apply Fin.ext; show (((b.val * 4 + h.val) * 2048 + i.val) * 2048 + j.val) / 16777216 = b.val; omega
    | ⟨1, _⟩ => apply Fin.ext; show (((b.val * 4 + h.val) * 2048 + i.val) * 2048 + j.val) / 4194304 % 4 = h.val; omega
    | ⟨2, _⟩ => rfl
    | ⟨3, _⟩ => apply Fin.ext; show (((b.val * 4 + h.val) * 2048 + i.val) * 2048 + j.val) / 2048 % 2048 = i.val; omega
    | ⟨4, _⟩ => apply Fin.ext; show (((b.val * 4 + h.val) * 2048 + i.val) * 2048 + j.val) % 2048 = j.val; omega
  rw [val_main_v50_apply, val_main_v45_apply, val_main_v44_apply, val_main_v49_apply, val_main_v48_apply, val_main_v47_apply, val_main_v46_apply,
    e0, e1, v43, v43, v22]
  generalize Ideal.div (wgt (scr x b h 0 i) j) (tot (scr x b h 0 i)) = A
  generalize Ideal.div (wgt (scr x b h 1 i) j) (tot (scr x b h 1 i)) = B
  rfl

/-- The weighted sum of the values. -/
theorem v52 (b : Fin 8) (i : Fin 2048) (h : Fin 4) (d : Fin 128) :
    val_main_v52 (F := Ideal) x p (ix4 b i h d) = outR (lam fun a l => p (ix2 a l)) (scr x b h 0 i) (scr x b h 1 i) fun j => vlu x b h j d := by
  rw [val_main_v52_apply, val_main_v51_apply]
  exact Finset.sum_congr rfl fun j _ => congrArg₂ (· * ·) (v6 x b j h d) (v50 x p b h i j)

/-- The normalised row. -/
theorem v67 (b : Fin 8) (i : Fin 2048) (h : Fin 4) (d : Fin 128) :
    val_main_v67 (F := Ideal) x p g (ix4 b i h d)
      = finish (fun d => outR (lam fun a l => p (ix2 a l)) (scr x b h 0 i) (scr x b h 1 i) fun j => vlu x b h j d) (fun l => g (ix1 l)) d := by
  pointwise [val_main_v67, val_main_v66, val_main_cst_10, val_main_v65, val_main_v64, val_main_v63, val_main_v62, val_main_v61, val_main_v60, val_main_v59, val_main_v58, val_main_cst_9, val_main_v57, val_main_v56, val_main_cst_8, val_main_v55, val_main_v54, val_main_cst_7, val_main_v53]
  simp only [v52]
  rfl

/-- The result. -/
theorem v69 (R : Fin 16384) (n : Fin 512) (b : Fin 8) (h : Fin 4) (i : Fin 2048) (d : Fin 128)
    (hR : R.val = 2048 * b.val + i.val) (hn : n.val = 128 * h.val + d.val) :
    val_main_v69 (F := Ideal) x p g (ix2 R n)
      = finish (fun d => outR (lam fun a l => p (ix2 a l)) (scr x b h 0 i) (scr x b h 1 i) fun j => vlu x b h j d) (fun l => g (ix1 l)) d := by
  refine Eq.trans ?_ (v67 x p g b i h d)
  rw [val_main_v69_apply, val_main_v68_apply]
  refine congrArg (val_main_v67 (F := Ideal) x p g) ?_
  funext a
  match a with
  | ⟨0, _⟩ => apply Fin.ext; show (R.val * 512 + n.val) / 1048576 = b.val; omega
  | ⟨1, _⟩ => apply Fin.ext; show (R.val * 512 + n.val) / 512 % 2048 = i.val; omega
  | ⟨2, _⟩ => apply Fin.ext; show (R.val * 512 + n.val) / 128 % 4 = h.val; omega
  | ⟨3, _⟩ => apply Fin.ext; show (R.val * 512 + n.val) % 128 = d.val; omega

end Cert.ReferenceIdeal.Attn
-- ==== Proof.AttnClaim.lean ====
/-
  The attention's claims: on finite queries, keys, values and weight vectors the kernel's result array is the reference's.
-/
module

public import proofs.«01_k».proof.Defs
public import proofs.«01_k».proof.Proof.AttnArr
public import proofs.«01_k».proof.Proof.AttnFinite
public import proofs.«01_k».proof.Proof.AttnRefOut
public import proofs.«01_k».proof.Proof.Gen.ReferenceIdeal.Run
public import Idealize.ShloMosaic.Lib.Claim

@[expose] public section

set_option maxRecDepth 16384

noncomputable section

open Idealize.ShloMosaic Idealize.ShloMosaic.TcCoe Idealize.SL.Sem

/-- The shape relations that the precondition's operations take. -/
theorem Cert.Proof.AttnClaim.pre_facts : Cert.Pre_finite_inputs.Facts :=
  ⟨by decide, by decide, by decide⟩

namespace Cert.Proof.AttnClaim

/-- A passed comparison of an absolute value with infinity. -/
theorem finite_of (x : EReal) (h : FloatOps.cmpf (F := Ideal) (φ := .f32) .olt (max x (-x)) (Ideal.ofBits .f32 0x7F800000#32) = 1#1) :
    ∃ r : ℝ, x = (r : EReal) := by
  have e : Ideal.ofBits .f32 0x7F800000#32 = ⊤ := by simp [Ideal.ofBits, Ideal.ieee]
  rw [e] at h
  refine Cert.AttnSpec.real_of_abs x ?_
  by_contra hn
  have h' : BitVec.ofBool (decide (max x (-x) < ⊤)) = 1#1 := h
  rw [decide_eq_false hn] at h'
  exact absurd h' (by decide)

/-- The reference leaves its arguments as launched and every counter at zero. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

open Cert.KernelIdeal Cert.KernelIdeal.Attn in
/-- Under the precondition the queries, keys and values are real numbers. -/
theorem real_rows (m : (ℓ : Loc nD τ sig) → Buf (Elt Ideal) ℓ)
    (h : haveI := pre_facts; Cert.Pre_KernelIdeal_finite_inputs m) (c : Dev nD) (R : Fin 16384) (n : Fin 7168) (h0 : 1536 ≤ n.val) (h1 : n.val < 3072) :
    ∃ r : ℝ, aQ m c R n = (r : EReal) := by
  have e := congrFun (h c).1 (ix2 R ⟨n.val - 1536, by omega⟩)
  have en : n = (⟨1536 + (n.val - 1536), by omega⟩ : Fin 7168) := Fin.ext (by show n.val = 1536 + (n.val - 1536); omega)
  rw [en]
  refine finite_of _ ?_
  refine Eq.trans ?_ e
  unfold aQ
  pointwise [Cert.Pre_finite_inputs.fn]
  try rfl

open Cert.KernelIdeal Cert.KernelIdeal.Attn in
/-- Under the precondition the weight vectors are real numbers. -/
theorem real_vecs (m : (ℓ : Loc nD τ sig) → Buf (Elt Ideal) ℓ)
    (h : haveI := pre_facts; Cert.Pre_KernelIdeal_finite_inputs m) (c : Dev nD) (a : Fin 4) (l : Fin 64) : ∃ r : ℝ, aL m c a l = (r : EReal) := by
  have e := congrFun (h c).2 (ix2 a l)
  refine finite_of _ ?_
  refine Eq.trans ?_ e
  unfold aL
  pointwise [Cert.Pre_finite_inputs.fn]
  try rfl

open Cert.KernelIdeal Cert.KernelIdeal.Attn in
/-- Under the precondition the reference's entry at an index is the kernel's. -/
theorem same_lane (m : (ℓ : Loc nD τ sig) → Buf (Elt Ideal) ℓ) (hpre : haveI := pre_facts; Cert.Pre_KernelIdeal_finite_inputs m)
    (c : Dev nD) (R : Fin 16384) (n : Fin 512) (b : Fin 8) (h : Fin 4) (i : Fin 2048) (d : Fin 128)
    (hR : R.val = 2048 * b.val + i.val) (hn : n.val = 128 * h.val + d.val) :
    Cert.ReferenceIdeal.Read.val_main_v69 (F := Ideal) (m ((c : Thread nD τ).loc main_arg0)) (m ((c : Thread nD τ).loc main_arg1)) (m ((c : Thread nD τ).loc main_arg2)) (ix2 R n)
      = outO m c (ix2 R n) := by
  refine (Cert.ReferenceIdeal.Attn.v69 _ _ _ R n b h i d hR hn).trans (Eq.trans ?_ (outO_at m c R n b h i d hR hn).symm)
  refine congrArg (fun o => Cert.AttnSpec.finish o (aN m c) d) (funext fun d => ?_)
  exact Cert.AttnSpec.out_eq (aL m c) (qry m c b h i) (key m c b h) (fun j => vlu m c b h j d) i
    (real_vecs m hpre c)
    (fun l => real_rows m hpre c _ _ (by show 1536 ≤ 1536 + 128 * h.val + l.val; omega) (by show 1536 + 128 * h.val + l.val < 3072; omega))
    (fun j l => real_rows m hpre c _ _ (by show 1536 ≤ 2048 + 128 * h.val + l.val; omega) (by show 2048 + 128 * h.val + l.val < 3072; omega))
    (fun j => real_rows m hpre c _ _ (by show 1536 ≤ 2560 + 128 * h.val + d.val; omega) (by show 2560 + 128 * h.val + d.val < 3072; omega))

/-- On finite inputs the kernel and the reference end with the same array. -/
theorem algebraic : haveI := pre_facts; Cert.algebraic_KernelIdeal_ReferenceIdeal_pre_finite_inputs := by
  haveI := pre_facts
  pair_intro
  · run_from Cert.KernelIdeal.Value.run_blocks m g
  · run_from Cert.ReferenceIdeal.Value.run m' g'
    obtain ⟨e0, e1, e2⟩ := hagree c
    rw [Cert.KernelIdeal.Attn.final5 m c, Cert.ReferenceIdeal.Read.val_main_v69_eq, e0, e1, e2]
    funext i
    idx_vars i
    exact same_lane m hpre c i0 i1 ⟨i0.val / 2048, by omega⟩ ⟨i1.val / 128, by omega⟩ ⟨i0.val % 2048, by omega⟩ ⟨i1.val % 128, by omega⟩
      (by show i0.val = 2048 * (i0.val / 2048) + i0.val % 2048; omega) (by show i1.val = 128 * (i1.val / 128) + i1.val % 128; omega)

end Cert.Proof.AttnClaim
-- ==== Proof.MergeSpec.lean ====
/-
  The gated merge of the four branches as plain mathematics over the extended reals.
-/
module

public import Idealize.ShloMosaic.Lib.Pipeline.ValueKit

@[expose] public section

set_option maxRecDepth 16384

noncomputable section

open Idealize.ShloMosaic

namespace Cert.MergeSpec

/-- The logistic function. -/
def sigm (a : EReal) : EReal := Ideal.div 1 (1 + Ideal.exp (-a))

/-- The column of the projection's weights that holds branch `i`'s gate of column `n`. -/
abbrev gcol (i : Fin 4) (n : Fin 2048) : Fin 14864 := ⟨6672 + (2048 * i.val + n.val), by omega⟩

/-- Branch `i`'s contribution to column `n`: its gate times its own projection. -/
def term (u : Fin 2048 → EReal) (b : Fin 512 → EReal) (W : Fin 2048 → Fin 14864 → EReal) (B : Fin 4 → Fin 512 → Fin 2048 → EReal)
    (i : Fin 4) (n : Fin 2048) : EReal :=
  sigm (∑ k, u k * W k (gcol i n)) * ∑ j, b j * B i j n

/-- The four contributions added. -/
def merged (u : Fin 2048 → EReal) (b0 b1 b2 b3 : Fin 512 → EReal) (W : Fin 2048 → Fin 14864 → EReal)
    (B : Fin 4 → Fin 512 → Fin 2048 → EReal) (n : Fin 2048) : EReal :=
  term u b0 W B 0 n + term u b1 W B 1 n + term u b2 W B 2 n + term u b3 W B 3 n

end Cert.MergeSpec
-- ==== Proof.MergeArr.lean ====
/-
  The merge's kernel: one block of 512 rows by 256 columns at each grid point, read at an index, and the result array
  after the run.
-/
module

public import proofs.«01_k».proof.Proof.MergeSpec
public import proofs.«01_k».proof.Proof.Gen.Kernel3Ideal.Value
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel3Ideal.Merge

open Cert.Kernel3Ideal Cert.Kernel3Ideal.Gen Cert.MergeSpec

variable (m : (ℓ : Loc nD τ sig) → Buf (Elt Ideal) ℓ)

/-- The argument arrays as plain functions: the normalised rows, the four branches, the projection's and the branches' weights. -/
def aU (c : Dev nD) (R : Fin 16384) (k : Fin 2048) : EReal := (m ((c : Thread nD τ).loc main_arg0) : FVec Ideal S16384x2048 .bf16) (ix2 R k)
def a0 (c : Dev nD) (R : Fin 16384) (j : Fin 512) : EReal := (m ((c : Thread nD τ).loc main_arg1) : FVec Ideal S16384x512 .bf16) (ix2 R j)
def a1 (c : Dev nD) (R : Fin 16384) (j : Fin 512) : EReal := (m ((c : Thread nD τ).loc main_arg2) : FVec Ideal S16384x512 .bf16) (ix2 R j)
def a2 (c : Dev nD) (R : Fin 16384) (j : Fin 512) : EReal := (m ((c : Thread nD τ).loc main_arg3) : FVec Ideal S16384x512 .bf16) (ix2 R j)
def a3 (c : Dev nD) (R : Fin 16384) (j : Fin 512) : EReal := (m ((c : Thread nD τ).loc main_arg4) : FVec Ideal S16384x512 .bf16) (ix2 R j)
def aW (c : Dev nD) (k : Fin 2048) (n : Fin 14864) : EReal := (m ((c : Thread nD τ).loc main_arg5) : FVec Ideal S2048x14864 .f32) (ix2 k n)
def aB (c : Dev nD) (i : Fin 4) (j : Fin 512) (n : Fin 2048) : EReal := (m ((c : Thread nD τ).loc main_arg6) : FVec Ideal S4x512x2048 .f32) (ix3 i j n)

/-- One branch's contribution over the point's blocks, as the body computes it. -/
def part (u : FVec Ideal S512x2048 .bf16) (g : FVec Ideal S1x2048x256 .bf16) (b : FVec Ideal S512x512 .bf16) (w : FVec Ideal S1x512x256 .bf16)
    (r : Fin 512) (n : Fin 256) : EReal :=
  Ideal.div 1 (1 + Ideal.exp (0 - ∑ k : Fin 2048, u (ix2 r k) * g (ix3 0 k n))) * ∑ j : Fin 512, b (ix2 r j) * w (ix3 0 j n)

/-- The stored block: the four contributions added in order. -/
theorem pay (u : FVec Ideal S512x2048 .bf16) (g0 g1 g2 g3 : FVec Ideal S1x2048x256 .bf16) (b0 b1 b2 b3 : FVec Ideal S512x512 .bf16)
    (w0 w1 w2 w3 : FVec Ideal S1x512x256 .bf16) (r : Fin 512) (n : Fin 256) :
    k0_pay1 (F := Ideal) (k0_pay5 u (k0_pay2 u g0 b0 w0) (k0_pay3 u g1) (k0_pay4 b1 w1) g2 b2 w2 g3 b3 w3) (ix2 r n)
      = part u g0 b0 w0 r n + part u g1 b1 w1 r n + part u g2 b2 w2 r n + part u g3 b3 w3 r n := by
  pointwise [k0_pay1, k0_pay5, k0_pay2, k0_pay3, k0_pay4]
  rfl

/-- Every window's block index, at every grid point. -/
theorem idx : ∀ t : Fin cfg0.N, win0_0.index t = ![t.val / 8, 0] ∧ win0_1.index t = ![t.val / 8, 0] ∧ win0_2.index t = ![t.val / 8, 0]
    ∧ win0_3.index t = ![t.val / 8, 0] ∧ win0_4.index t = ![t.val / 8, 0]
    ∧ win0_5.index t = ![0, 0, t.val % 8] ∧ win0_6.index t = ![0, 0, t.val % 8] ∧ win0_7.index t = ![t.val / 8, t.val % 8] :=
  (by decide +kernel : ∀ t : Fin grid0.N, _)

/-- The array's row that row `r` of the point's block is. -/
abbrev row (t : Fin cfg0.N) (r : Fin 512) : Fin 16384 :=
  ⟨512 * (t.val / 8) + r.val, by have := lt_of_lt_of_eq t.isLt (show cfg0.N = 256 from N_0); omega⟩
/-- The array's column that column `n` of the point's block is. -/
abbrev col (t : Fin cfg0.N) (n : Fin 256) : Fin 2048 := ⟨256 * (t.val % 8) + n.val, by omega⟩

theorem blk0 (c : Dev nD) (t : Fin cfg0.N) (r : Fin 512) (k : Fin 2048) :
    (iblk m c 0 t : FVec Ideal S512x2048 .bf16) (ix2 r k) = aU m c (row t r) k := by
  unfold aU
  blk_ext [iblk, V, idx t]

theorem blk1 (c : Dev nD) (t : Fin cfg0.N) (r j : Fin 512) :
    (iblk m c 1 t : FVec Ideal S512x512 .bf16) (ix2 r j) = a0 m c (row t r) j := by
  unfold a0
  blk_ext [iblk, V, idx t]

theorem blk2 (c : Dev nD) (t : Fin cfg0.N) (r j : Fin 512) :
    (iblk m c 2 t : FVec Ideal S512x512 .bf16) (ix2 r j) = a1 m c (row t r) j := by
  unfold a1
  blk_ext [iblk, V, idx t]

theorem blk3 (c : Dev nD) (t : Fin cfg0.N) (r j : Fin 512) :
    (iblk m c 3 t : FVec Ideal S512x512 .bf16) (ix2 r j) = a2 m c (row t r) j := by
  unfold a2
  blk_ext [iblk, V, idx t]

theorem blk4 (c : Dev nD) (t : Fin cfg0.N) (r j : Fin 512) :
    (iblk m c 4 t : FVec Ideal S512x512 .bf16) (ix2 r j) = a3 m c (row t r) j := by
  unfold a3
  blk_ext [iblk, V, idx t]

theorem blk5 (c : Dev nD) (t : Fin cfg0.N) (i : Fin 4) (k : Fin 2048) (n : Fin 256) :
    (iblk m c 5 t : FVec Ideal S4x2048x256 .bf16) (ix3 i k n) = aW m c k (gcol i (col t n)) := by
  unfold aW
  blk_point [iblk, V, idx t]

theorem blk6 (c : Dev nD) (t : Fin cfg0.N) (i : Fin 4) (j : Fin 512) (n : Fin 256) :
    (iblk m c 6 t : FVec Ideal S4x512x256 .bf16) (ix3 i j n) = aB m c i j (col t n) := by
  unfold aB
  blk_point [iblk, V, idx t]

/-- One branch's contribution at the point is the branch's contribution of the array's row and column. -/
theorem part_eq (c : Dev nD) (t : Fin cfg0.N) (i : Fin 4) (g : FVec Ideal S1x2048x256 .bf16) (b : FVec Ideal S512x512 .bf16)
    (w : FVec Ideal S1x512x256 .bf16) (B : Fin 16384 → Fin 512 → EReal) (r : Fin 512) (n : Fin 256)
    (hg : ∀ k, g (ix3 0 k n) = (iblk m c 5 t : FVec Ideal S4x2048x256 .bf16) (ix3 i k n))
    (hb : ∀ j, b (ix2 r j) = B (row t r) j)
    (hw : ∀ j, w (ix3 0 j n) = (iblk m c 6 t : FVec Ideal S4x512x256 .bf16) (ix3 i j n)) :
    part (iblk m c 0 t) g b w r n = term (aU m c (row t r)) (B (row t r)) (aW m c) (aB m c) i (col t n) := by
  unfold part term sigm
  rw [zero_sub]
  exact congrArg₂ (fun a b : EReal => Ideal.div 1 (1 + Ideal.exp (-a)) * b)
    (Finset.sum_congr rfl fun k _ => congrArg₂ (· * ·) (blk0 m c t r k) ((hg k).trans (blk5 m c t i k n)))
    (Finset.sum_congr rfl fun j _ => congrArg₂ (· * ·) (hb j) ((hw j).trans (blk6 m c t i j n)))

/-- The merge, as an array. -/
def out (c : Dev nD) : FVec Ideal S16384x2048 .bf16 := fun i =>
  merged (aU m c ⟨(i 0).val, (i 0).isLt⟩) (a0 m c ⟨(i 0).val, (i 0).isLt⟩) (a1 m c ⟨(i 0).val, (i 0).isLt⟩) (a2 m c ⟨(i 0).val, (i 0).isLt⟩)
    (a3 m c ⟨(i 0).val, (i 0).isLt⟩) (aW m c) (aB m c) ⟨(i 1).val, (i 1).isLt⟩

/-- The array at a row and a column. -/
theorem out_at (c : Dev nD) (R : Fin 16384) (n : Fin 2048) :
    out m c (ix2 R n) = merged (aU m c R) (a0 m c R) (a1 m c R) (a2 m c R) (a3 m c R) (aW m c) (aB m c) n := rfl

/-- The place in the result array of the point's block at row `r`, column `n`. -/
theorem emb7 (t : Fin cfg0.N) (r : Fin 512) (n : Fin 256) : ((cfg0.win 7).blk t).view.emb (ix2 r n) = ix2 (row t r) (col t n) := by
  funext a
  match a with
  | ⟨0, _⟩ => apply Fin.ext; blk_simp [idx t]; show t.val / 8 * 512 + r.val = 512 * (t.val / 8) + r.val; omega
  | ⟨1, _⟩ => apply Fin.ext; blk_simp [idx t]; show t.val % 8 * 256 + n.val = 256 * (t.val % 8) + n.val; omega

/-- What a point leaves in its block of the result. -/
theorem point (c : Dev nD) (t : Fin cfg0.N) (r : Fin 512) (n : Fin 256) :
    out0_7 (iblk m c 0 t) (iblk m c 1 t) (iblk m c 2 t) (iblk m c 3 t) (iblk m c 4 t) (iblk m c 5 t) (iblk m c 6 t) (ix2 r n)
      = merged (aU m c (row t r)) (a0 m c (row t r)) (a1 m c (row t r)) (a2 m c (row t r)) (a3 m c (row t r)) (aW m c) (aB m c) (col t n) := by
  frame_out
  refine (pay _ _ _ _ _ _ _ _ _ _ _ _ _ r n).trans ?_
  unfold merged
  refine congrArg₂ (· + ·) (congrArg₂ (· + ·) (congrArg₂ (· + ·) ?_ ?_) ?_) ?_
  · exact part_eq m c t 0 _ _ _ (a0 m c) r n (fun k => by pointwise) (blk1 m c t r) (fun k => by pointwise)
  · exact part_eq m c t 1 _ _ _ (a1 m c) r n (fun k => by pointwise) (blk2 m c t r) (fun k => by pointwise)
  · exact part_eq m c t 2 _ _ _ (a2 m c) r n (fun k => by pointwise) (blk3 m c t r) (fun k => by pointwise)
  · exact part_eq m c t 3 _ _ _ (a3 m c) r n (fun k => by pointwise) (blk4 m c t r) (fun k => by pointwise)

/-- After the run the result array is the merge. -/
theorem final7 (c : Dev nD) : (dats m 0 c).arrAt 7 cfg0.N = out m c := by
  refine (dats m 0 c).arrAt_eq_of_covers 7 _ (by decide +kernel) fun t hf y => ?_
  blk_simp
  rw [after0_7]
  idx_vars y
  refine Eq.trans ?_ (congrArg (out m c) (emb7 t y0 y1).symm)
  rw [out_at]
  exact point m c t y0 y1

end Cert.Kernel3Ideal.Merge
-- ==== Proof.MergeClaim.lean ====
/-
  The merge's claims: the reference read at an index, its run, and the two programs' equal results.
-/
module

public import proofs.«01_k».proof.Defs
public import proofs.«01_k».proof.Proof.MergeArr
public import proofs.«01_k».proof.Proof.Gen.Reference3Ideal.Run
public import proofs.«01_k».proof.Proof.Gen.Reference3Ideal.Read
public import Idealize.ShloMosaic.Lib.Claim

@[expose] public section

set_option maxRecDepth 16384

noncomputable section

open Idealize.ShloMosaic Idealize.ShloMosaic.TcCoe Idealize.SL.Sem

namespace Cert.Proof.MergeClaim

open Cert.Reference3Ideal Cert.Reference3Ideal.Read Cert.MergeSpec

variable (u : FVec Ideal S16384x2048 .bf16) (b0 b1 b2 b3 : FVec Ideal S16384x512 .bf16) (W : FVec Ideal S2048x14864 .f32)
  (B : FVec Ideal S4x512x2048 .f32)

/-- The gates' products, all four branches side by side. -/
theorem v2 (R : Fin 16384) (n : Fin 8192) :
    val_main_v2 (F := Ideal) u W (ix2 R n) = ∑ k : Fin 2048, u (ix2 R k) * W (ix2 k ⟨6672 + n.val, by omega⟩) := by
  pointwise [val_main_v2, val_main_v1, val_main_v0]

/-- A gate. -/
theorem v9 (R : Fin 16384) (i : Fin 4) (n : Fin 2048) :
    val_main_v9 (F := Ideal) u W (ix3 R i n) = sigm (∑ k : Fin 2048, u (ix2 R k) * W (ix2 k (gcol i n))) := by
  have e : val_main_v3 (F := Ideal) u W (ix3 R i n) = ∑ k : Fin 2048, u (ix2 R k) * W (ix2 k (gcol i n)) := by
    rw [val_main_v3_apply]
    have h : idx_main_v3 (ix3 R i n) = ix2 R ⟨2048 * i.val + n.val, by omega⟩ := by
      funext a
      match a with
      | ⟨0, _⟩ => apply Fin.ext; show ((R.val * 4 + i.val) * 2048 + n.val) / 8192 = R.val; omega
      | ⟨1, _⟩ => apply Fin.ext; show ((R.val * 4 + i.val) * 2048 + n.val) % 8192 = 2048 * i.val + n.val; omega
    rw [h]
    exact v2 u W R ⟨2048 * i.val + n.val, by omega⟩
  pointwise [val_main_v9, val_main_v8, val_main_v7, val_main_v6, val_main_v5, val_main_v4, val_main_cst, val_main_cst_0]
  rw [e]
  rfl

/-- The reference read at an index: the merge. -/
theorem v43 (R : Fin 16384) (n : Fin 2048) :
    val_main_v43 (F := Ideal) u b0 b1 b2 b3 W B (ix2 R n)
      = merged (fun k => u (ix2 R k)) (fun j => b0 (ix2 R j)) (fun j => b1 (ix2 R j)) (fun j => b2 (ix2 R j)) (fun j => b3 (ix2 R j))
          (fun k n => W (ix2 k n)) (fun i j n => B (ix3 i j n)) n := by
  pointwise [val_main_v43, val_main_v42, val_main_v41, val_main_v40, val_main_v39, val_main_v38, val_main_v37, val_main_v36, val_main_v35,
    val_main_v34, val_main_v33, val_main_v32, val_main_v31, val_main_v30, val_main_v29, val_main_v28, val_main_v27, val_main_v26,
    val_main_v25, val_main_v24, val_main_v23, val_main_v22, val_main_v21, val_main_v20, val_main_v19, val_main_v18, val_main_v17,
    val_main_v16, val_main_v15, val_main_v14, val_main_v13, val_main_v12, val_main_v11, val_main_v10, val_main_cst_1]
  simp only [v9]
  rfl

/-- The reference leaves its arguments as launched and every counter at zero. -/
theorem frame_ref : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The kernel and the reference end with the same array. -/
theorem algebraic : Cert.algebraic_Kernel3Ideal_Reference3Ideal := by
  pair_intro
  · run_from Cert.Kernel3Ideal.Value.run_blocks m g
  · run_from Cert.Reference3Ideal.Value.run m' g'
    · obtain ⟨e0, e1, e2, e3, e4, e5, e6⟩ := hagree c
      rw [Cert.Kernel3Ideal.Merge.final7 m c, Cert.Reference3Ideal.Read.val_main_v43_eq, e0, e1, e2, e3, e4, e5, e6]
      funext i
      idx_vars i
      exact v43 _ _ _ _ _ _ _ i0 i1

end Cert.Proof.MergeClaim
-- ==== Proof.OutpArr.lean ====
/-
  The output projection's kernel: the residual plus the merged rows times the weights, a block of 512 by 512 at each
  grid point, and the result array after the run.
-/
module

public import proofs.«01_k».proof.Proof.Gen.Kernel4Ideal.Value
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel4Ideal.Outp

open Cert.Kernel4Ideal Cert.Kernel4Ideal.Gen

variable (m : (ℓ : Loc nD τ sig) → Buf (Elt Ideal) ℓ)

/-- The argument arrays as plain functions: the merged rows, the weights, the residual. -/
def aM (c : Dev nD) (R : Fin 16384) (k : Fin 2048) : EReal := (m ((c : Thread nD τ).loc main_arg0) : FVec Ideal S16384x2048 .bf16) (ix2 R k)
def aW (c : Dev nD) (k n : Fin 2048) : EReal := (m ((c : Thread nD τ).loc main_arg1) : FVec Ideal S2048x2048 .f32) (ix2 k n)
def aH (c : Dev nD) (R : Fin 16384) (n : Fin 2048) : EReal := (m ((c : Thread nD τ).loc main_arg2) : FVec Ideal S16384x2048 .f32) (ix2 R n)

/-- The stored block: the residual's block plus the product. -/
theorem pay (h : FVec Ideal S512x512 .f32) (a : FVec Ideal S512x2048 .bf16) (w : FVec Ideal S2048x512 .bf16) (r n : Fin 512) :
    k0_pay1 (F := Ideal) h a w (ix2 r n) = h (ix2 r n) + ∑ k, a (ix2 r k) * w (ix2 k n) := by
  pointwise [k0_pay1]

/-- Every window's block index, at every grid point. -/
theorem idx : ∀ t : Fin cfg0.N, win0_0.index t = ![t.val / 4, 0] ∧ win0_1.index t = ![0, t.val % 4]
    ∧ win0_2.index t = ![t.val / 4, t.val % 4] ∧ win0_3.index t = ![t.val / 4, t.val % 4] :=
  (by decide +kernel : ∀ t : Fin grid0.N, _)

/-- The array's row that row `r` of the point's block is. -/
abbrev row (t : Fin cfg0.N) (r : Fin 512) : Fin 16384 :=
  ⟨512 * (t.val / 4) + r.val, by have := lt_of_lt_of_eq t.isLt (show cfg0.N = 128 from N_0); omega⟩
/-- The array's column that column `n` of the point's block is. -/
abbrev col (t : Fin cfg0.N) (n : Fin 512) : Fin 2048 := ⟨512 * (t.val % 4) + n.val, by omega⟩

theorem blk0 (c : Dev nD) (t : Fin cfg0.N) (r : Fin 512) (k : Fin 2048) :
    (iblk m c 0 t : FVec Ideal S512x2048 .bf16) (ix2 r k) = aM m c (row t r) k := by
  unfold aM
  blk_ext [iblk, V, idx t]

theorem blk1 (c : Dev nD) (t : Fin cfg0.N) (k : Fin 2048) (n : Fin 512) :
    (iblk m c 1 t : FVec Ideal S2048x512 .bf16) (ix2 k n) = aW m c k (col t n) := by
  unfold aW
  blk_point [iblk, V, idx t]

theorem blk2 (c : Dev nD) (t : Fin cfg0.N) (r n : Fin 512) :
    (iblk m c 2 t : FVec Ideal S512x512 .f32) (ix2 r n) = aH m c (row t r) (col t n) := by
  unfold aH
  blk_ext [iblk, V, idx t]

/-- The projection added to the residual, as an array. -/
def out (c : Dev nD) : FVec Ideal S16384x2048 .f32 := fun i =>
  aH m c ⟨(i 0).val, (i 0).isLt⟩ ⟨(i 1).val, (i 1).isLt⟩ + ∑ k, aM m c ⟨(i 0).val, (i 0).isLt⟩ k * aW m c k ⟨(i 1).val, (i 1).isLt⟩

/-- The place in the result array of the point's block at row `r`, column `n`. -/
theorem emb3 (t : Fin cfg0.N) (r n : Fin 512) : ((cfg0.win 3).blk t).view.emb (ix2 r n) = ix2 (row t r) (col t n) := by
  funext a
  match a with
  | ⟨0, _⟩ => apply Fin.ext; blk_simp [idx t]; show t.val / 4 * 512 + r.val = 512 * (t.val / 4) + r.val; omega
  | ⟨1, _⟩ => apply Fin.ext; blk_simp [idx t]; show t.val % 4 * 512 + n.val = 512 * (t.val % 4) + n.val; omega

/-- What a point leaves in its block of the result. -/
theorem point (c : Dev nD) (t : Fin cfg0.N) (r n : Fin 512) :
    k0_pay1 (F := Ideal) (iblk m c 2 t) (iblk m c 0 t) (iblk m c 1 t) (ix2 r n)
      = aH m c (row t r) (col t n) + ∑ k, aM m c (row t r) k * aW m c k (col t n) :=
  (pay _ _ _ r n).trans (congrArg₂ (· + ·) (blk2 m c t r n)
    (Finset.sum_congr rfl fun k _ => congrArg₂ (· * ·) (blk0 m c t r k) (blk1 m c t k n)))

/-- After the run the result array is the projection added to the residual. -/
theorem final3 (c : Dev nD) : (dats m 0 c).arrAt 3 cfg0.N = out m c := by
  refine (dats m 0 c).arrAt_eq_of_covers 3 _ (by decide +kernel) fun t hf y => ?_
  blk_simp
  rw [after0_3]
  idx_vars y
  refine Eq.trans ?_ ((point m c t y0 y1).trans (congrArg (out m c) (emb3 t y0 y1).symm))
  frame_out

end Cert.Kernel4Ideal.Outp
-- ==== Proof.OutpClaim.lean ====
/-
  The output projection's claims: the reference's run, and the two programs' equal results.
-/
module

public import proofs.«01_k».proof.Defs
public import proofs.«01_k».proof.Proof.OutpArr
public import proofs.«01_k».proof.Proof.Gen.Reference4Ideal.Run
public import proofs.«01_k».proof.Proof.Gen.Reference4Ideal.Read
public import Idealize.ShloMosaic.Lib.Claim

@[expose] public section

set_option maxRecDepth 16384

noncomputable section

open Idealize.ShloMosaic Idealize.ShloMosaic.TcCoe Idealize.SL.Sem

namespace Cert.Proof.OutpClaim

open Cert.Reference4Ideal Cert.Reference4Ideal.Read

/-- The reference read at an index: the residual plus the product. -/
theorem ref_at (a : FVec Ideal S16384x2048 .bf16) (w : FVec Ideal S2048x2048 .f32) (h : FVec Ideal S16384x2048 .f32)
    (R : Fin 16384) (n : Fin 2048) :
    val_main_v2 (F := Ideal) a w h (ix2 R n) = h (ix2 R n) + ∑ k, a (ix2 R k) * w (ix2 k n) := by
  pointwise [val_main_v2, val_main_v1, val_main_v0]

/-- The reference leaves its arguments as launched and every counter at zero. -/
theorem frame_ref : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The kernel and the reference end with the same array. -/
theorem algebraic : Cert.algebraic_Kernel4Ideal_Reference4Ideal := by
  pair_intro
  · run_from Cert.Kernel4Ideal.Value.run_blocks m g
  · run_from Cert.Reference4Ideal.Value.run m' g'
    · rw [Cert.Kernel4Ideal.Outp.final3 m c, Cert.Reference4Ideal.Read.val_main_v2_eq]
      funext i
      idx_vars i
      exact ref_at _ _ _ i0 i1

end Cert.Proof.OutpClaim
-- ==== Proof.InpSpec.lean ====
/-
  The input projection's common form: one entry of the result, from a row of the argument and the
  weights, with the rotation of the query and key columns by their position.
-/
module

public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.InpSpec

/-- The angle of position 8192 at the `d`-th of 16 frequencies. -/
def ang16 (d : ℕ) : EReal :=
  FloatOps.sitofp (F := Ideal) FTy.f32 8192#32 *
    Ideal.div 1 (Ideal.pow (Ideal.ofBits FTy.f32 1223959552#32)
      (FloatOps.sitofp (F := Ideal) FTy.f32 (BitVec.ofNat 32 d) * Ideal.ofBits FTy.f32 1031798784#32))

/-- The angle of position 8192 at the `d`-th of 8 frequencies. -/
def ang8 (d : ℕ) : EReal :=
  FloatOps.sitofp (F := Ideal) FTy.f32 8192#32 *
    Ideal.div 1 (Ideal.pow (Ideal.ofBits FTy.f32 1223959552#32)
      (FloatOps.sitofp (F := Ideal) FTy.f32 (BitVec.ofNat 32 d) * Ideal.ofBits FTy.f32 1040187392#32))

/-- Column `n` of the projections' weights: the layer's weights with four runs of columns put in another order and
    zeros after them. -/
def wcol (W : Fin 2048 → Fin 14864 → EReal) (k : Fin 2048) (n : ℕ) : EReal :=
  if h : n < 6144 then W k ⟨n, by omega⟩
  else if h : n < 6656 then W k ⟨n + 8, by omega⟩
  else if h : n < 6664 then W k ⟨n - 512, by omega⟩
  else if h : n < 6672 then W k ⟨n, by omega⟩
  else 0

/-- One row's projection at column `n`. -/
def pr (U : Fin 2048 → EReal) (W : Fin 2048 → Fin 14864 → EReal) (n : ℕ) : EReal := ∑ k, U k * wcol W k n

/-- The rotation of the first `2 * half` of each `hd` columns of `y`, by the angles `a`. -/
def rope (hd half : ℕ) (a : ℕ → EReal) (y : ℕ → EReal) (n : ℕ) : EReal :=
  if n % hd < half then y n * Ideal.cos (a (n % hd)) - y (n + half) * Ideal.sin (a (n % hd))
  else if n % hd < 2 * half then y n * Ideal.cos (a (n % hd - half)) + y (n - half) * Ideal.sin (a (n % hd - half))
  else y n

/-- One row of the result: the projection, its queries and keys rotated. -/
def outp (U : Fin 2048 → EReal) (W : Fin 2048 → Fin 14864 → EReal) (n : ℕ) : EReal :=
  if n < 1024 then rope 128 16 ang16 (pr U W) n
  else if n < 1536 then pr U W n
  else if n < 2560 then rope 64 8 ang8 (pr U W) n
  else pr U W n

end Cert.InpSpec
-- ==== Proof.InpPay.lean ====
/-
  The input projection's kernel body: what one grid step writes to its block, for the rotated columns
  of heads 128 wide, of heads 64 wide, and for the columns that are only projected.
-/
module

public import proofs.«01_k».proof.Proof.Gen.Kernel5Ideal.Value
public import proofs.«01_k».proof.Proof.InpSpec
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel5Ideal.Inp

open Cert.Kernel5Ideal Cert.Kernel5Ideal.Gen

/-- The product of a row of `u` with a column of `w`. -/
def dotp (u : FVec Ideal S32x2048 .bf16) (w : FVec Ideal S2048x256 .bf16) (r : Fin 32) (n : Fin 256) : EReal :=
  ∑ k, u (ix2 r k) * w (ix2 k n)

/-- A table of 128 columns laid twice side by side. -/
def tile (v : FVec Ideal S32x128 .f32) (r : Fin 32) (n : Fin 256) : EReal :=
  if h : n.val < 128 then v (ix2 r ⟨n.val, h⟩) else v (ix2 r ⟨n.val - 128, by omega⟩)

/-- The columns of `y` times one table, the columns shifted by `s` either way times two others, added. -/
def roped (s : ℕ) (y : Fin 32 → Fin 256 → EReal) (vc v1 v2 : FVec Ideal S32x128 .f32) (r : Fin 32) (n : Fin 256) : EReal :=
  y r n * tile vc r n + y r ⟨(n.val + 256 - s) % 256, Nat.mod_lt _ (by decide)⟩ * tile v1 r n
    + y r ⟨(n.val + 256 - (256 - s)) % 256, Nat.mod_lt _ (by decide)⟩ * tile v2 r n

theorem plain3 (u : FVec Ideal S32x2048 .bf16) (w : FVec Ideal S2048x256 .bf16) (r : Fin 32) (n : Fin 256) :
    k0_pay3 (F := Ideal) u w (ix2 r n) = dotp u w r n := by
  unfold dotp
  pointwise [k0_pay3]

theorem plain4 (u : FVec Ideal S32x2048 .bf16) (w : FVec Ideal S2048x256 .bf16) (r : Fin 32) (n : Fin 256) :
    k0_pay4 (F := Ideal) u w (ix2 r n) = dotp u w r n := by
  unfold dotp
  pointwise [k0_pay4]

theorem plain7 (u : FVec Ideal S32x2048 .bf16) (w : FVec Ideal S2048x256 .bf16) (r : Fin 32) (n : Fin 256) :
    k0_pay7 (F := Ideal) u w (ix2 r n) = dotp u w r n := by
  unfold dotp
  pointwise [k0_pay7]

theorem plain8 (u : FVec Ideal S32x2048 .bf16) (w : FVec Ideal S2048x256 .bf16) (r : Fin 32) (n : Fin 256) :
    k0_pay8 (F := Ideal) u w (ix2 r n) = dotp u w r n := by
  unfold dotp
  pointwise [k0_pay8]

theorem plain9 (u : FVec Ideal S32x2048 .bf16) (w : FVec Ideal S2048x256 .bf16) (r : Fin 32) (n : Fin 256) :
    k0_pay9 (F := Ideal) u w (ix2 r n) = dotp u w r n := by
  unfold dotp
  pointwise [k0_pay9]

theorem plain10 (u : FVec Ideal S32x2048 .bf16) (w : FVec Ideal S2048x256 .bf16) (r : Fin 32) (n : Fin 256) :
    k0_pay10 (F := Ideal) u w (ix2 r n) = dotp u w r n := by
  unfold dotp
  pointwise [k0_pay10]

theorem left12 (u : FVec Ideal S32x2048 .bf16) (w : FVec Ideal S2048x256 .bf16) (vc v1 v2 : FVec Ideal S32x128 .f32)
    (r : Fin 32) (n : Fin 256) : k0_pay12 (F := Ideal) u w vc v1 v2 (ix2 r n) = roped 16 (dotp u w) vc v1 v2 r n := by
  unfold roped tile dotp
  pointwise [k0_pay12]

theorem left17 (u : FVec Ideal S32x2048 .bf16) (w : FVec Ideal S2048x256 .bf16) (vc v1 v2 : FVec Ideal S32x128 .f32)
    (r : Fin 32) (n : Fin 256) : k0_pay17 (F := Ideal) u w vc v1 v2 (ix2 r n) = roped 16 (dotp u w) vc v1 v2 r n := by
  unfold roped tile dotp
  pointwise [k0_pay17]

theorem left22 (u : FVec Ideal S32x2048 .bf16) (w : FVec Ideal S2048x256 .bf16) (vc v1 v2 : FVec Ideal S32x128 .f32)
    (r : Fin 32) (n : Fin 256) : k0_pay22 (F := Ideal) u w vc v1 v2 (ix2 r n) = roped 8 (dotp u w) vc v1 v2 r n := by
  unfold roped tile dotp
  pointwise [k0_pay22]

theorem left27 (u : FVec Ideal S32x2048 .bf16) (w : FVec Ideal S2048x256 .bf16) (vc v1 v2 : FVec Ideal S32x128 .f32)
    (r : Fin 32) (n : Fin 256) : k0_pay27 (F := Ideal) u w vc v1 v2 (ix2 r n) = roped 8 (dotp u w) vc v1 v2 r n := by
  unfold roped tile dotp
  pointwise [k0_pay27]

theorem right11 (u : FVec Ideal S32x2048 .bf16) (w : FVec Ideal S2048x256 .bf16) (vc v1 v2 : FVec Ideal S32x128 .f32)
    (r : Fin 32) (n : Fin 256) :
    k0_pay1 (F := Ideal) (k0_pay11 u w) (k0_pay13 v1) (k0_pay14 v2) (k0_pay15 u w vc) 16#32 (ix2 r n)
      = roped 16 (dotp u w) vc v1 v2 r n := by
  unfold roped tile dotp
  pointwise [k0_pay1, k0_pay11, k0_pay13, k0_pay14, k0_pay15]

theorem right16 (u : FVec Ideal S32x2048 .bf16) (w : FVec Ideal S2048x256 .bf16) (vc v1 v2 : FVec Ideal S32x128 .f32)
    (r : Fin 32) (n : Fin 256) :
    k0_pay2 (F := Ideal) (k0_pay16 u w) (k0_pay18 v1) (k0_pay19 v2) (k0_pay20 u w vc) 16#32 (ix2 r n)
      = roped 16 (dotp u w) vc v1 v2 r n := by
  unfold roped tile dotp
  pointwise [k0_pay2, k0_pay16, k0_pay18, k0_pay19, k0_pay20]

theorem right21 (u : FVec Ideal S32x2048 .bf16) (w : FVec Ideal S2048x256 .bf16) (vc v1 v2 : FVec Ideal S32x128 .f32)
    (r : Fin 32) (n : Fin 256) :
    k0_pay5 (F := Ideal) (k0_pay21 u w) (k0_pay23 v1) (k0_pay24 v2) (k0_pay25 u w vc) 8#32 (ix2 r n)
      = roped 8 (dotp u w) vc v1 v2 r n := by
  unfold roped tile dotp
  pointwise [k0_pay5, k0_pay21, k0_pay23, k0_pay24, k0_pay25]

theorem right26 (u : FVec Ideal S32x2048 .bf16) (w : FVec Ideal S2048x256 .bf16) (vc v1 v2 : FVec Ideal S32x128 .f32)
    (r : Fin 32) (n : Fin 256) :
    k0_pay6 (F := Ideal) (k0_pay26 u w) (k0_pay28 v1) (k0_pay29 v2) (k0_pay30 u w vc) 8#32 (ix2 r n)
      = roped 8 (dotp u w) vc v1 v2 r n := by
  unfold roped tile dotp
  pointwise [k0_pay6, k0_pay26, k0_pay28, k0_pay29, k0_pay30]

end Cert.Kernel5Ideal.Inp
-- ==== Proof.InpHost.lean ====
/-
  The input projection's host part: the regrouped weights and the six tables of cosines and sines that
  the call is given, read at an index.
-/
module

public import proofs.«01_k».proof.Proof.Gen.Kernel5Ideal.Value
public import proofs.«01_k».proof.Proof.InpSpec
public import Idealize.ShloMosaic.Lib.Pipeline.ValueKit
public import Idealize.ShloMosaic.Lib.Pipeline.ValueKit.Held
public import Idealize.ShloMosaic.Lib.Pipeline.ReadBack
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.Kernel5Ideal.Inp

open Cert.Kernel5Ideal Cert.Kernel5Ideal.Gen Cert.InpSpec

section
variable {τ : Topo} {sig : RefSig} {Val : EltTy → Type} {x a b c e y : Ref sig .tc}

/-- What an operation of three listed operands leaves in its result, each operand named. -/
theorem nary3
    (f : ((k : Fin 3) → ((![x, a, b] : Fin 3 → Ref sig .tc) k).ty.Contents Val) → y.ty.Contents Val) (hxs hy)
    (F : Valuation τ sig Val) :
    (StableHlo.nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [StableHlo.nary_result]; congr 1; funext k; fin_cases k <;> rfl

/-- The same of five listed operands. -/
theorem nary5
    (f : ((k : Fin 5) → ((![x, a, b, c, e] : Fin 5 → Ref sig .tc) k).ty.Contents Val) → y.ty.Contents Val) (hxs hy)
    (F : Valuation τ sig Val) :
    (StableHlo.nary (τ := τ) ![x, a, b, c, e] y f hxs hy).result F (no_index (Proc.devRef .tc y))
      = f (Fin.cons (F (Proc.devRef .tc x)) (Fin.cons (F (Proc.devRef .tc a)) (Fin.cons (F (Proc.devRef .tc b))
          (Fin.cons (F (Proc.devRef .tc c)) (Fin.cons (F (Proc.devRef .tc e)) (fun i => i.elim0)))))) := by
  rw [StableHlo.nary_result]; congr 1; funext k; fin_cases k <;> rfl
end

/-- The third of three listed operands. -/
theorem cons2 {α : Fin 3 → Type} (a : α 0) (b : α 1) (c : α 2) :
    (Fin.cons a (Fin.cons b (Fin.cons c fun i => i.elim0) : (i : Fin 2) → α i.succ) : (i : Fin 3) → α i) 2 = c := rfl

variable (m : (ℓ : Loc nD τ sig) → Buf (Elt Ideal) ℓ)

/-- The argument arrays as plain functions: the rows and the weights. -/
def aU (c : Dev nD) (R : Fin 32) (k : Fin 2048) : EReal := (m ((c : Thread nD τ).loc main_arg0) : FVec Ideal S32x2048 .bf16) (ix2 R k)
def aW (c : Dev nD) (k : Fin 2048) (n : Fin 14864) : EReal := (m ((c : Thread nD τ).loc main_arg1) : FVec Ideal S2048x14864 .f32) (ix2 k n)

/-- The kernel's three tables for one `hd` columns: of the cosines, and of the sines for either shift. -/
def tc (half : ℕ) (a : ℕ → EReal) (n : ℕ) : EReal := if n < half then Ideal.cos (a n) else if n < 2 * half then Ideal.cos (a (n - half)) else 1
def t1 (half : ℕ) (a : ℕ → EReal) (n : ℕ) : EReal := if n < half then 0 else if n < 2 * half then Ideal.sin (a (n - half)) else 0
def t2 (half : ℕ) (a : ℕ → EReal) (n : ℕ) : EReal := if n < half then -Ideal.sin (a n) else 0

theorem up6_v0 (c : Dev nD) (k : Fin 2048) (n : Fin 6144) :
    (StableHlo.upto hostOps0 (fun b => m (c, b)) 6 (Proc.tc.devRef main_v0) : FVec Ideal S2048x6144 .f32) (ix2 k n) = (aW m c k ⟨n.val, by omega⟩ : EReal) := by
  simp (disch := decide) only [StableHlo.readAfter, StableHlo.readUpto, StableHlo.nullary_result', StableHlo.unary_result', StableHlo.binary_result',
    StableHlo.ternary_result', StableHlo.reshape_result', nary3, nary5]
  pointwise
  rfl

theorem up6_v1 (c : Dev nD) (k : Fin 2048) (n : Fin 512) :
    (StableHlo.upto hostOps0 (fun b => m (c, b)) 6 (Proc.tc.devRef main_v1) : FVec Ideal S2048x512 .f32) (ix2 k n) = (aW m c k ⟨6152 + n.val, by omega⟩ : EReal) := by
  simp (disch := decide) only [StableHlo.readAfter, StableHlo.readUpto, StableHlo.nullary_result', StableHlo.unary_result', StableHlo.binary_result',
    StableHlo.ternary_result', StableHlo.reshape_result', nary3, nary5]
  pointwise
  rfl

theorem up6_v2 (c : Dev nD) (k : Fin 2048) (n : Fin 8) :
    (StableHlo.upto hostOps0 (fun b => m (c, b)) 6 (Proc.tc.devRef main_v2) : FVec Ideal S2048x8 .f32) (ix2 k n) = (aW m c k ⟨6144 + n.val, by omega⟩ : EReal) := by
  simp (disch := decide) only [StableHlo.readAfter, StableHlo.readUpto, StableHlo.nullary_result', StableHlo.unary_result', StableHlo.binary_result',
    StableHlo.ternary_result', StableHlo.reshape_result', nary3, nary5]
  pointwise
  rfl

theorem up6_v3 (c : Dev nD) (k : Fin 2048) (n : Fin 8) :
    (StableHlo.upto hostOps0 (fun b => m (c, b)) 6 (Proc.tc.devRef main_v3) : FVec Ideal S2048x8 .f32) (ix2 k n) = (aW m c k ⟨6664 + n.val, by omega⟩ : EReal) := by
  simp (disch := decide) only [StableHlo.readAfter, StableHlo.readUpto, StableHlo.nullary_result', StableHlo.unary_result', StableHlo.binary_result',
    StableHlo.ternary_result', StableHlo.reshape_result', nary3, nary5]
  pointwise
  rfl

theorem up6_v4 (c : Dev nD) (k : Fin 2048) (n : Fin 496) :
    (StableHlo.upto hostOps0 (fun b => m (c, b)) 6 (Proc.tc.devRef main_v4) : FVec Ideal S2048x496 .f32) (ix2 k n) = (0 : EReal) := by
  simp (disch := decide) only [StableHlo.readAfter, StableHlo.readUpto, StableHlo.nullary_result', StableHlo.unary_result', StableHlo.binary_result',
    StableHlo.ternary_result', StableHlo.reshape_result', nary3, nary5]
  pointwise

theorem up32_v21 (c : Dev nD) (k : Fin 32) (n : Fin 16) :
    (StableHlo.upto hostOps0 (fun b => m (c, b)) 32 (Proc.tc.devRef main_v21) : FVec Ideal S32x16 .f32) (ix2 k n) = (Ideal.cos (ang16 n.val) : EReal) := by
  simp (disch := decide) only [StableHlo.readAfter, StableHlo.readUpto, StableHlo.nullary_result', StableHlo.unary_result', StableHlo.binary_result',
    StableHlo.ternary_result', StableHlo.reshape_result', nary3, nary5]
  pointwise
  rfl

theorem up32_v24 (c : Dev nD) (k : Fin 32) (n : Fin 96) :
    (StableHlo.upto hostOps0 (fun b => m (c, b)) 32 (Proc.tc.devRef main_v24) : FVec Ideal S32x96 .f32) (ix2 k n) = (1 : EReal) := by
  simp (disch := decide) only [StableHlo.readAfter, StableHlo.readUpto, StableHlo.nullary_result', StableHlo.unary_result', StableHlo.binary_result',
    StableHlo.ternary_result', StableHlo.reshape_result', nary3, nary5]
  pointwise

theorem up35_v23 (c : Dev nD) (k : Fin 32) (n : Fin 16) :
    (StableHlo.upto hostOps0 (fun b => m (c, b)) 35 (Proc.tc.devRef main_v23) : FVec Ideal S32x16 .f32) (ix2 k n) = (0 : EReal) := by
  simp (disch := decide) only [StableHlo.readAfter, StableHlo.readUpto, StableHlo.nullary_result', StableHlo.unary_result', StableHlo.binary_result',
    StableHlo.ternary_result', StableHlo.reshape_result', nary3, nary5]
  pointwise

theorem up35_v22 (c : Dev nD) (k : Fin 32) (n : Fin 16) :
    (StableHlo.upto hostOps0 (fun b => m (c, b)) 35 (Proc.tc.devRef main_v22) : FVec Ideal S32x16 .f32) (ix2 k n) = (Ideal.sin (ang16 n.val) : EReal) := by
  simp (disch := decide) only [StableHlo.readAfter, StableHlo.readUpto, StableHlo.nullary_result', StableHlo.unary_result', StableHlo.binary_result',
    StableHlo.ternary_result', StableHlo.reshape_result', nary3, nary5]
  pointwise
  rfl

theorem up35_v26 (c : Dev nD) (k : Fin 32) (n : Fin 96) :
    (StableHlo.upto hostOps0 (fun b => m (c, b)) 35 (Proc.tc.devRef main_v26) : FVec Ideal S32x96 .f32) (ix2 k n) = (0 : EReal) := by
  simp (disch := decide) only [StableHlo.readAfter, StableHlo.readUpto, StableHlo.nullary_result', StableHlo.unary_result', StableHlo.binary_result',
    StableHlo.ternary_result', StableHlo.reshape_result', nary3, nary5]
  pointwise

theorem up39_v28 (c : Dev nD) (k : Fin 32) (n : Fin 16) :
    (StableHlo.upto hostOps0 (fun b => m (c, b)) 39 (Proc.tc.devRef main_v28) : FVec Ideal S32x16 .f32) (ix2 k n) = (-Ideal.sin (ang16 n.val) : EReal) := by
  simp (disch := decide) only [StableHlo.readAfter, StableHlo.readUpto, StableHlo.nullary_result', StableHlo.unary_result', StableHlo.binary_result',
    StableHlo.ternary_result', StableHlo.reshape_result', nary3, nary5]
  pointwise
  rfl

theorem up39_v23 (c : Dev nD) (k : Fin 32) (n : Fin 16) :
    (StableHlo.upto hostOps0 (fun b => m (c, b)) 39 (Proc.tc.devRef main_v23) : FVec Ideal S32x16 .f32) (ix2 k n) = (0 : EReal) := by
  simp (disch := decide) only [StableHlo.readAfter, StableHlo.readUpto, StableHlo.nullary_result', StableHlo.unary_result', StableHlo.binary_result',
    StableHlo.ternary_result', StableHlo.reshape_result', nary3, nary5]
  pointwise

theorem up39_v29 (c : Dev nD) (k : Fin 32) (n : Fin 96) :
    (StableHlo.upto hostOps0 (fun b => m (c, b)) 39 (Proc.tc.devRef main_v29) : FVec Ideal S32x96 .f32) (ix2 k n) = (0 : EReal) := by
  simp (disch := decide) only [StableHlo.readAfter, StableHlo.readUpto, StableHlo.nullary_result', StableHlo.unary_result', StableHlo.binary_result',
    StableHlo.ternary_result', StableHlo.reshape_result', nary3, nary5]
  pointwise

theorem up71_v53 (c : Dev nD) (k : Fin 32) (n : Fin 8) :
    (StableHlo.upto hostOps0 (fun b => m (c, b)) 71 (Proc.tc.devRef main_v53) : FVec Ideal S32x8 .f32) (ix2 k n) = (Ideal.cos (ang8 n.val) : EReal) := by
  simp (disch := decide) only [StableHlo.readAfter, StableHlo.readUpto, StableHlo.nullary_result', StableHlo.unary_result', StableHlo.binary_result',
    StableHlo.ternary_result', StableHlo.reshape_result', nary3, nary5]
  pointwise
  rfl

theorem up71_v56 (c : Dev nD) (k : Fin 32) (n : Fin 48) :
    (StableHlo.upto hostOps0 (fun b => m (c, b)) 71 (Proc.tc.devRef main_v56) : FVec Ideal S32x48 .f32) (ix2 k n) = (1 : EReal) := by
  simp (disch := decide) only [StableHlo.readAfter, StableHlo.readUpto, StableHlo.nullary_result', StableHlo.unary_result', StableHlo.binary_result',
    StableHlo.ternary_result', StableHlo.reshape_result', nary3, nary5]
  pointwise

theorem up74_v55 (c : Dev nD) (k : Fin 32) (n : Fin 8) :
    (StableHlo.upto hostOps0 (fun b => m (c, b)) 74 (Proc.tc.devRef main_v55) : FVec Ideal S32x8 .f32) (ix2 k n) = (0 : EReal) := by
  simp (disch := decide) only [StableHlo.readAfter, StableHlo.readUpto, StableHlo.nullary_result', StableHlo.unary_result', StableHlo.binary_result',
    StableHlo.ternary_result', StableHlo.reshape_result', nary3, nary5]
  pointwise

theorem up74_v54 (c : Dev nD) (k : Fin 32) (n : Fin 8) :
    (StableHlo.upto hostOps0 (fun b => m (c, b)) 74 (Proc.tc.devRef main_v54) : FVec Ideal S32x8 .f32) (ix2 k n) = (Ideal.sin (ang8 n.val) : EReal) := by
  simp (disch := decide) only [StableHlo.readAfter, StableHlo.readUpto, StableHlo.nullary_result', StableHlo.unary_result', StableHlo.binary_result',
    StableHlo.ternary_result', StableHlo.reshape_result', nary3, nary5]
  pointwise
  rfl

theorem up74_v58 (c : Dev nD) (k : Fin 32) (n : Fin 48) :
    (StableHlo.upto hostOps0 (fun b => m (c, b)) 74 (Proc.tc.devRef main_v58) : FVec Ideal S32x48 .f32) (ix2 k n) = (0 : EReal) := by
  simp (disch := decide) only [StableHlo.readAfter, StableHlo.readUpto, StableHlo.nullary_result', StableHlo.unary_result', StableHlo.binary_result',
    StableHlo.ternary_result', StableHlo.reshape_result', nary3, nary5]
  pointwise

theorem up78_v60 (c : Dev nD) (k : Fin 32) (n : Fin 8) :
    (StableHlo.upto hostOps0 (fun b => m (c, b)) 78 (Proc.tc.devRef main_v60) : FVec Ideal S32x8 .f32) (ix2 k n) = (-Ideal.sin (ang8 n.val) : EReal) := by
  simp (disch := decide) only [StableHlo.readAfter, StableHlo.readUpto, StableHlo.nullary_result', StableHlo.unary_result', StableHlo.binary_result',
    StableHlo.ternary_result', StableHlo.reshape_result', nary3, nary5]
  pointwise
  rfl

theorem up78_v55 (c : Dev nD) (k : Fin 32) (n : Fin 8) :
    (StableHlo.upto hostOps0 (fun b => m (c, b)) 78 (Proc.tc.devRef main_v55) : FVec Ideal S32x8 .f32) (ix2 k n) = (0 : EReal) := by
  simp (disch := decide) only [StableHlo.readAfter, StableHlo.readUpto, StableHlo.nullary_result', StableHlo.unary_result', StableHlo.binary_result',
    StableHlo.ternary_result', StableHlo.reshape_result', nary3, nary5]
  pointwise

theorem up78_v61 (c : Dev nD) (k : Fin 32) (n : Fin 48) :
    (StableHlo.upto hostOps0 (fun b => m (c, b)) 78 (Proc.tc.devRef main_v61) : FVec Ideal S32x48 .f32) (ix2 k n) = (0 : EReal) := by
  simp (disch := decide) only [StableHlo.readAfter, StableHlo.readUpto, StableHlo.nullary_result', StableHlo.unary_result', StableHlo.binary_result',
    StableHlo.ternary_result', StableHlo.reshape_result', nary3, nary5]
  pointwise

theorem V33 (c : Dev nD) (r : Fin 32) (n : Fin 128) :
    (V m c main_v33 : FVec Ideal S32x128 .f32) (ix2 r n) = tc 16 ang16 n.val := by
  have e0 := up32_v21 m c
  have e1 := up32_v21 m c
  have e2 := up32_v24 m c
  dsimp only [V]
  simp (disch := decide) only [StableHlo.readAfter, StableHlo.readUpto, StableHlo.nullary_result', StableHlo.unary_result', StableHlo.binary_result',
    StableHlo.ternary_result', StableHlo.reshape_result', nary3, nary5]
  revert e0 e1 e2
  generalize StableHlo.upto hostOps0 (fun b => m (c, b)) 32 (Proc.tc.devRef main_v21) = q_v21
  generalize StableHlo.upto hostOps0 (fun b => m (c, b)) 32 (Proc.tc.devRef main_v24) = q_v24
  intro e0 e1 e2
  pointwise
  unfold tc
  by_cases h1 : n.val < 16
  · refine (dif_pos h1).trans (Eq.trans ?_ (if_pos h1).symm)
    exact e0 r ⟨n.val, h1⟩
  refine (dif_neg h1).trans (Eq.trans ?_ (if_neg h1).symm)
  by_cases h2 : n.val - 16 < 16
  · refine (dif_pos h2).trans ?_
    refine Eq.trans ?_ (if_pos (by omega)).symm
    exact e1 r ⟨n.val - 16, h2⟩
  · refine (dif_neg h2).trans ?_
    refine Eq.trans ?_ (if_neg (by omega)).symm
    refine Eq.trans (congrFun (cons2 _ _ _) _) ?_
    exact e2 r _

theorem V36 (c : Dev nD) (r : Fin 32) (n : Fin 128) :
    (V m c main_v36 : FVec Ideal S32x128 .f32) (ix2 r n) = t1 16 ang16 n.val := by
  have e0 := up35_v23 m c
  have e1 := up35_v22 m c
  have e2 := up35_v26 m c
  dsimp only [V]
  simp (disch := decide) only [StableHlo.readAfter, StableHlo.readUpto, StableHlo.nullary_result', StableHlo.unary_result', StableHlo.binary_result',
    StableHlo.ternary_result', StableHlo.reshape_result', nary3, nary5]
  revert e0 e1 e2
  generalize StableHlo.upto hostOps0 (fun b => m (c, b)) 35 (Proc.tc.devRef main_v23) = q_v23
  generalize StableHlo.upto hostOps0 (fun b => m (c, b)) 35 (Proc.tc.devRef main_v22) = q_v22
  generalize StableHlo.upto hostOps0 (fun b => m (c, b)) 35 (Proc.tc.devRef main_v26) = q_v26
  intro e0 e1 e2
  pointwise
  unfold t1
  by_cases h1 : n.val < 16
  · refine (dif_pos h1).trans (Eq.trans ?_ (if_pos h1).symm)
    exact e0 r ⟨n.val, h1⟩
  refine (dif_neg h1).trans (Eq.trans ?_ (if_neg h1).symm)
  by_cases h2 : n.val - 16 < 16
  · refine (dif_pos h2).trans ?_
    refine Eq.trans ?_ (if_pos (by omega)).symm
    exact e1 r ⟨n.val - 16, h2⟩
  · refine (dif_neg h2).trans ?_
    refine Eq.trans ?_ (if_neg (by omega)).symm
    refine Eq.trans (congrFun (cons2 _ _ _) _) ?_
    exact e2 r _

theorem V39 (c : Dev nD) (r : Fin 32) (n : Fin 128) :
    (V m c main_v39 : FVec Ideal S32x128 .f32) (ix2 r n) = t2 16 ang16 n.val := by
  have e0 := up39_v28 m c
  have e1 := up39_v23 m c
  have e2 := up39_v29 m c
  dsimp only [V]
  simp (disch := decide) only [StableHlo.readAfter, StableHlo.readUpto, StableHlo.nullary_result', StableHlo.unary_result', StableHlo.binary_result',
    StableHlo.ternary_result', StableHlo.reshape_result', nary3, nary5]
  revert e0 e1 e2
  generalize StableHlo.upto hostOps0 (fun b => m (c, b)) 39 (Proc.tc.devRef main_v28) = q_v28
  generalize StableHlo.upto hostOps0 (fun b => m (c, b)) 39 (Proc.tc.devRef main_v23) = q_v23
  generalize StableHlo.upto hostOps0 (fun b => m (c, b)) 39 (Proc.tc.devRef main_v29) = q_v29
  intro e0 e1 e2
  pointwise
  unfold t2
  by_cases h1 : n.val < 16
  · refine (dif_pos h1).trans (Eq.trans ?_ (if_pos h1).symm)
    exact e0 r ⟨n.val, h1⟩
  refine (dif_neg h1).trans (Eq.trans ?_ (if_neg h1).symm)
  by_cases h2 : n.val - 16 < 16
  · refine (dif_pos h2).trans ?_

    exact e1 r ⟨n.val - 16, h2⟩
  · refine (dif_neg h2).trans ?_

    refine Eq.trans (congrFun (cons2 _ _ _) _) ?_
    exact e2 r _

theorem V65 (c : Dev nD) (r : Fin 32) (n : Fin 128) :
    (V m c main_v65 : FVec Ideal S32x128 .f32) (ix2 r n) = tc 8 ang8 (n.val % 64) := by
  have e0 := up71_v53 m c
  have e1 := up71_v53 m c
  have e2 := up71_v56 m c
  dsimp only [V]
  simp (disch := decide) only [StableHlo.readAfter, StableHlo.readUpto, StableHlo.nullary_result', StableHlo.unary_result', StableHlo.binary_result',
    StableHlo.ternary_result', StableHlo.reshape_result', nary3, nary5]
  revert e0 e1 e2
  generalize StableHlo.upto hostOps0 (fun b => m (c, b)) 71 (Proc.tc.devRef main_v53) = q_v53
  generalize StableHlo.upto hostOps0 (fun b => m (c, b)) 71 (Proc.tc.devRef main_v56) = q_v56
  intro e0 e1 e2
  pointwise
  unfold tc
  by_cases h1 : n.val % 64 < 8
  · refine (dif_pos h1).trans (Eq.trans ?_ (if_pos h1).symm)
    exact e0 r ⟨n.val % 64, h1⟩
  refine (dif_neg h1).trans (Eq.trans ?_ (if_neg h1).symm)
  by_cases h2 : n.val % 64 - 8 < 8
  · refine (dif_pos h2).trans ?_
    refine Eq.trans ?_ (if_pos (by omega)).symm
    exact e1 r ⟨n.val % 64 - 8, h2⟩
  · refine (dif_neg h2).trans ?_
    refine Eq.trans ?_ (if_neg (by omega)).symm
    refine Eq.trans (congrFun (cons2 _ _ _) _) ?_
    exact e2 r _

theorem V68 (c : Dev nD) (r : Fin 32) (n : Fin 128) :
    (V m c main_v68 : FVec Ideal S32x128 .f32) (ix2 r n) = t1 8 ang8 (n.val % 64) := by
  have e0 := up74_v55 m c
  have e1 := up74_v54 m c
  have e2 := up74_v58 m c
  dsimp only [V]
  simp (disch := decide) only [StableHlo.readAfter, StableHlo.readUpto, StableHlo.nullary_result', StableHlo.unary_result', StableHlo.binary_result',
    StableHlo.ternary_result', StableHlo.reshape_result', nary3, nary5]
  revert e0 e1 e2
  generalize StableHlo.upto hostOps0 (fun b => m (c, b)) 74 (Proc.tc.devRef main_v55) = q_v55
  generalize StableHlo.upto hostOps0 (fun b => m (c, b)) 74 (Proc.tc.devRef main_v54) = q_v54
  generalize StableHlo.upto hostOps0 (fun b => m (c, b)) 74 (Proc.tc.devRef main_v58) = q_v58
  intro e0 e1 e2
  pointwise
  unfold t1
  by_cases h1 : n.val % 64 < 8
  · refine (dif_pos h1).trans (Eq.trans ?_ (if_pos h1).symm)
    exact e0 r ⟨n.val % 64, h1⟩
  refine (dif_neg h1).trans (Eq.trans ?_ (if_neg h1).symm)
  by_cases h2 : n.val % 64 - 8 < 8
  · refine (dif_pos h2).trans ?_
    refine Eq.trans ?_ (if_pos (by omega)).symm
    exact e1 r ⟨n.val % 64 - 8, h2⟩
  · refine (dif_neg h2).trans ?_
    refine Eq.trans ?_ (if_neg (by omega)).symm
    refine Eq.trans (congrFun (cons2 _ _ _) _) ?_
    exact e2 r _

theorem V71 (c : Dev nD) (r : Fin 32) (n : Fin 128) :
    (V m c main_v71 : FVec Ideal S32x128 .f32) (ix2 r n) = t2 8 ang8 (n.val % 64) := by
  have e0 := up78_v60 m c
  have e1 := up78_v55 m c
  have e2 := up78_v61 m c
  dsimp only [V]
  simp (disch := decide) only [StableHlo.readAfter, StableHlo.readUpto, StableHlo.nullary_result', StableHlo.unary_result', StableHlo.binary_result',
    StableHlo.ternary_result', StableHlo.reshape_result', nary3, nary5]
  revert e0 e1 e2
  generalize StableHlo.upto hostOps0 (fun b => m (c, b)) 78 (Proc.tc.devRef main_v60) = q_v60
  generalize StableHlo.upto hostOps0 (fun b => m (c, b)) 78 (Proc.tc.devRef main_v55) = q_v55
  generalize StableHlo.upto hostOps0 (fun b => m (c, b)) 78 (Proc.tc.devRef main_v61) = q_v61
  intro e0 e1 e2
  pointwise
  unfold t2
  by_cases h1 : n.val % 64 < 8
  · refine (dif_pos h1).trans (Eq.trans ?_ (if_pos h1).symm)
    exact e0 r ⟨n.val % 64, h1⟩
  refine (dif_neg h1).trans (Eq.trans ?_ (if_neg h1).symm)
  by_cases h2 : n.val % 64 - 8 < 8
  · refine (dif_pos h2).trans ?_

    exact e1 r ⟨n.val % 64 - 8, h2⟩
  · refine (dif_neg h2).trans ?_

    refine Eq.trans (congrFun (cons2 _ _ _) _) ?_
    exact e2 r _

theorem V6 (c : Dev nD) (k : Fin 2048) (n : Fin 7168) :
    (V m c main_v6 : FVec Ideal S2048x7168 .bf16) (ix2 k n) = wcol (aW m c) k n.val := by
  have e0 := up6_v0 m c
  have e1 := up6_v1 m c
  have e2 := up6_v2 m c
  have e3 := up6_v3 m c
  have e4 := up6_v4 m c
  dsimp only [V]
  simp (disch := decide) only [StableHlo.readAfter, StableHlo.readUpto, StableHlo.nullary_result', StableHlo.unary_result', StableHlo.binary_result',
    StableHlo.ternary_result', StableHlo.reshape_result', nary3, nary5]
  revert e0 e1 e2 e3 e4
  generalize StableHlo.upto hostOps0 (fun b => m (c, b)) 6 (Proc.tc.devRef main_v0) = q0
  generalize StableHlo.upto hostOps0 (fun b => m (c, b)) 6 (Proc.tc.devRef main_v1) = q1
  generalize StableHlo.upto hostOps0 (fun b => m (c, b)) 6 (Proc.tc.devRef main_v2) = q2
  generalize StableHlo.upto hostOps0 (fun b => m (c, b)) 6 (Proc.tc.devRef main_v3) = q3
  generalize StableHlo.upto hostOps0 (fun b => m (c, b)) 6 (Proc.tc.devRef main_v4) = q4
  intro e0 e1 e2 e3 e4
  pointwise
  unfold wcol
  by_cases h1 : n.val < 6144
  · rw [dif_pos h1]
    refine (dif_pos h1).trans ?_
    exact e0 k ⟨n.val, h1⟩
  rw [dif_neg h1]
  refine (dif_neg h1).trans ?_
  by_cases h2 : n.val - 6144 < 512
  · rw [dif_pos (show n.val < 6656 by omega)]
    refine (dif_pos h2).trans ?_
    exact (e1 k ⟨n.val - 6144, h2⟩).trans (congrArg (aW m c k) (Fin.ext (show 6152 + (n.val - 6144) = n.val + 8 by omega)))
  rw [dif_neg (show ¬n.val < 6656 by omega)]
  refine (dif_neg h2).trans ?_
  by_cases h3 : n.val - 6144 - 512 < 8
  · rw [dif_pos (show n.val < 6664 by omega)]
    refine (dif_pos h3).trans ?_
    exact (e2 k ⟨n.val - 6144 - 512, h3⟩).trans
      (congrArg (aW m c k) (Fin.ext (show 6144 + (n.val - 6144 - 512) = n.val - 512 by omega)))
  rw [dif_neg (show ¬n.val < 6664 by omega)]
  refine (dif_neg h3).trans ?_
  by_cases h4 : n.val - 6144 - 512 - 8 < 8
  · rw [dif_pos (show n.val < 6672 by omega)]
    refine (dif_pos h4).trans ?_
    exact (e3 k ⟨n.val - 6144 - 512 - 8, h4⟩).trans
      (congrArg (aW m c k) (Fin.ext (show 6664 + (n.val - 6144 - 512 - 8) = n.val by omega)))
  rw [dif_neg (show ¬n.val < 6672 by omega)]
  refine (dif_neg h4).trans ?_
  exact e4 k ⟨n.val - 6144 - 512 - 8 - 8, by omega⟩

/-- Every window's block index, at every grid point. -/
theorem idx : ∀ t : Fin cfg0.N, win0_0.index t = ![0, 0] ∧ win0_1.index t = ![0, t.val]
    ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![0, t.val] :=
  (by decide +kernel : ∀ t : Fin grid0.N, _)

/-- The array's column that column `n` of the point's block is. -/
abbrev col (t : Fin cfg0.N) (n : Fin 512) : Fin 7168 :=
  ⟨512 * t.val + n.val, by have := lt_of_lt_of_eq t.isLt (show cfg0.N = 14 from N_0); omega⟩

theorem blk0 (c : Dev nD) (t : Fin cfg0.N) (r : Fin 32) (k : Fin 2048) :
    (iblk m c 0 t : FVec Ideal S32x2048 .bf16) (ix2 r k) = aU m c r k := by
  unfold aU
  blk_ext [iblk, V, idx t]

theorem blk1 (c : Dev nD) (t : Fin cfg0.N) (k : Fin 2048) (n : Fin 512) :
    (iblk m c 1 t : FVec Ideal S2048x512 .bf16) (ix2 k n) = wcol (aW m c) k (512 * t.val + n.val) := by
  refine Eq.trans ?_ (V6 m c k (col t n))
  blk_ext [iblk, idx t]

theorem blk2 (c : Dev nD) (t : Fin cfg0.N) (r : Fin 32) (n : Fin 128) :
    (iblk m c 2 t : FVec Ideal S32x128 .f32) (ix2 r n) = tc 16 ang16 n.val := by
  refine Eq.trans ?_ (V33 m c r n)
  blk_ext [iblk, idx t]

theorem blk3 (c : Dev nD) (t : Fin cfg0.N) (r : Fin 32) (n : Fin 128) :
    (iblk m c 3 t : FVec Ideal S32x128 .f32) (ix2 r n) = t1 16 ang16 n.val := by
  refine Eq.trans ?_ (V36 m c r n)
  blk_ext [iblk, idx t]

theorem blk4 (c : Dev nD) (t : Fin cfg0.N) (r : Fin 32) (n : Fin 128) :
    (iblk m c 4 t : FVec Ideal S32x128 .f32) (ix2 r n) = t2 16 ang16 n.val := by
  refine Eq.trans ?_ (V39 m c r n)
  blk_ext [iblk, idx t]

theorem blk5 (c : Dev nD) (t : Fin cfg0.N) (r : Fin 32) (n : Fin 128) :
    (iblk m c 5 t : FVec Ideal S32x128 .f32) (ix2 r n) = tc 8 ang8 (n.val % 64) := by
  refine Eq.trans ?_ (V65 m c r n)
  blk_ext [iblk, idx t]

theorem blk6 (c : Dev nD) (t : Fin cfg0.N) (r : Fin 32) (n : Fin 128) :
    (iblk m c 6 t : FVec Ideal S32x128 .f32) (ix2 r n) = t1 8 ang8 (n.val % 64) := by
  refine Eq.trans ?_ (V68 m c r n)
  blk_ext [iblk, idx t]

theorem blk7 (c : Dev nD) (t : Fin cfg0.N) (r : Fin 32) (n : Fin 128) :
    (iblk m c 7 t : FVec Ideal S32x128 .f32) (ix2 r n) = t2 8 ang8 (n.val % 64) := by
  refine Eq.trans ?_ (V71 m c r n)
  blk_ext [iblk, idx t]

end Cert.Kernel5Ideal.Inp
-- ==== Proof.InpArr.lean ====
/-
  The input projection's result array: the blocks of all grid steps put together give the common form.
-/
module

public import proofs.«01_k».proof.Proof.InpPay
public import proofs.«01_k».proof.Proof.InpHost
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel5Ideal.Inp

open Cert.Kernel5Ideal Cert.Kernel5Ideal.Gen Cert.InpSpec

variable (m : (ℓ : Loc nD τ sig) → Buf (Elt Ideal) ℓ)

/-- Two stored halves of a block, read back at an index. -/
theorem halves (a b : FVec Ideal S32x256 .f32) (f : Fin 32 → ℕ → EReal)
    (ha : ∀ (r : Fin 32) (n : Fin 256), a (ix2 r n) = f r n.val)
    (hb : ∀ (r : Fin 32) (n : Fin 256), b (ix2 r n) = f r (256 + n.val)) (r : Fin 32) (n : Fin 512) :
    View.canon (Val := Elt Ideal) (e := .f32) (s := S32x512)
      [⟨Rect.unit ![0, 256] ![32, 256] inb_S32x512_S32x256_0_256, b⟩, ⟨Rect.unit ![0, 0] ![32, 256] inb_S32x512_S32x256_0_0, a⟩] (ix2 r n)
      = f r n.val := by
  refine View.canon_apply_of_pieces (Val := Elt Ideal) (e := .f32) (fun y : S32x512.Idx => f ⟨(y 0).val, (y 0).isLt⟩ (y 1).val) _ ?_ (ix2 r n) ?_
  · intro pc hpc x
    rcases List.mem_cons.mp hpc with rfl | hpc
    · refine Eq.trans ?_ ((hb ⟨(x 0).val, (x 0).isLt⟩ ⟨(x 1).val, (x 1).isLt⟩).trans ?_)
      · show b x = _
        congr 1; funext a
        match a with
        | ⟨0, _⟩ => rfl
        | ⟨1, _⟩ => rfl
      · refine congrArg₂ f (Fin.ext ?_) ?_
        · show (x 0).val = 0 + 1 * (x 0).val; omega
        · show 256 + (x 1).val = 256 + 1 * (x 1).val; omega
    rcases List.mem_cons.mp hpc with rfl | hpc
    · refine Eq.trans ?_ ((ha ⟨(x 0).val, (x 0).isLt⟩ ⟨(x 1).val, (x 1).isLt⟩).trans ?_)
      · show a x = _
        congr 1; funext a
        match a with
        | ⟨0, _⟩ => rfl
        | ⟨1, _⟩ => rfl
      · refine congrArg₂ f (Fin.ext ?_) ?_
        · show (x 0).val = 0 + 1 * (x 0).val; omega
        · show (x 1).val = 0 + 1 * (x 1).val; omega
    nomatch hpc
  · by_cases h : n.val < 256
    · refine ⟨_, List.mem_cons_of_mem _ List.mem_cons_self, ?_⟩
      rw [Rect.mem_set_unit]
      intro a
      match a with
      | ⟨0, _⟩ => show 0 ≤ r.val ∧ r.val < 0 + 32; omega
      | ⟨1, _⟩ => show 0 ≤ n.val ∧ n.val < 0 + 256; omega
    · refine ⟨_, List.mem_cons_self, ?_⟩
      rw [Rect.mem_set_unit]
      intro a
      match a with
      | ⟨0, _⟩ => show 0 ≤ r.val ∧ r.val < 0 + 32; omega
      | ⟨1, _⟩ => show 256 ≤ n.val ∧ n.val < 256 + 256; omega

/-- The three tables' products are the rotation, 128 columns at a time. -/
theorem rot16 (B n : ℕ) (a f : ℕ → EReal) (hn : n < 256) (hB : B % 128 = 0) :
    f (B + n) * tc 16 a (n % 128) + f (B + (n + 256 - 16) % 256) * t1 16 a (n % 128)
      + f (B + (n + 256 - (256 - 16)) % 256) * t2 16 a (n % 128) = rope 128 16 a f (B + n) := by
  have e : (B + n) % 128 = n % 128 := by omega
  unfold tc t1 t2 rope
  rw [e]
  by_cases h1 : n % 128 < 16
  · rw [if_pos h1, if_pos h1, if_pos h1, if_pos h1, mul_zero, add_zero, mul_neg, ← sub_eq_add_neg,
      show (n + 256 - (256 - 16)) % 256 = n + 16 by omega, ← Nat.add_assoc]
  rw [if_neg h1, if_neg h1, if_neg h1, if_neg h1, mul_zero, add_zero]
  by_cases h2 : n % 128 < 2 * 16
  · rw [if_pos h2, if_pos h2, if_pos h2, show B + (n + 256 - 16) % 256 = B + n - 16 by omega]
  · rw [if_neg h2, if_neg h2, if_neg h2, mul_zero, add_zero, mul_one]

/-- The three tables' products are the rotation, 64 columns at a time. -/
theorem rot8 (B n : ℕ) (a f : ℕ → EReal) (hn : n < 256) (hB : B % 64 = 0) :
    f (B + n) * tc 8 a (n % 64) + f (B + (n + 256 - 8) % 256) * t1 8 a (n % 64)
      + f (B + (n + 256 - (256 - 8)) % 256) * t2 8 a (n % 64) = rope 64 8 a f (B + n) := by
  have e : (B + n) % 64 = n % 64 := by omega
  unfold tc t1 t2 rope
  rw [e]
  by_cases h1 : n % 64 < 8
  · rw [if_pos h1, if_pos h1, if_pos h1, if_pos h1, mul_zero, add_zero, mul_neg, ← sub_eq_add_neg,
      show (n + 256 - (256 - 8)) % 256 = n + 8 by omega, ← Nat.add_assoc]
  rw [if_neg h1, if_neg h1, if_neg h1, if_neg h1, mul_zero, add_zero]
  by_cases h2 : n % 64 < 2 * 8
  · rw [if_pos h2, if_pos h2, if_pos h2, show B + (n + 256 - 8) % 256 = B + n - 8 by omega]
  · rw [if_neg h2, if_neg h2, if_neg h2, mul_zero, add_zero, mul_one]

theorem dotL (c : Dev nD) (t : Fin cfg0.N) (r : Fin 32) (n : Fin 256) :
    dotp (iblk m c 0 t) (View.ld (iblk m c 1 t) (Rect.unit ![0, 0] ![2048, 256] inb_S2048x512_S2048x256_0_0)) r n
      = pr (aU m c r) (aW m c) (512 * t.val + 0 + n.val) := by
  unfold dotp pr
  refine Finset.sum_congr rfl fun k _ => congrArg₂ (· * ·) (blk0 m c t r k) ?_
  refine (View.ld_unit_apply_of (Val := Elt Ideal) (e := .bf16) (iblk m c 1 t : FVec Ideal S2048x512 .bf16) ![0, 0] ![2048, 256]
    inb_S2048x512_S2048x256_0_0 (ix2 k n) (ix2 k (⟨n.val, by omega⟩ : Fin 512)) ?_).trans
    ((blk1 m c t k ⟨n.val, by omega⟩).trans (congrArg (wcol (aW m c) k) (show 512 * t.val + n.val = 512 * t.val + 0 + n.val by omega)))
  intro a
  match a with
  | ⟨0, _⟩ => show k.val = 0 + k.val; omega
  | ⟨1, _⟩ => show n.val = 0 + n.val; omega

theorem dotR (c : Dev nD) (t : Fin cfg0.N) (r : Fin 32) (n : Fin 256) :
    dotp (iblk m c 0 t) (View.ld (iblk m c 1 t) (Rect.unit ![0, 256] ![2048, 256] inb_S2048x512_S2048x256_0_256)) r n
      = pr (aU m c r) (aW m c) (512 * t.val + 256 + n.val) := by
  unfold dotp pr
  refine Finset.sum_congr rfl fun k _ => congrArg₂ (· * ·) (blk0 m c t r k) ?_
  refine (View.ld_unit_apply_of _ _ _ _ (ix2 k n) (ix2 k (⟨256 + n.val, by omega⟩ : Fin 512)) ?_).trans
    ((blk1 m c t k ⟨256 + n.val, by omega⟩).trans (congrArg (wcol (aW m c) k) (show 512 * t.val + (256 + n.val) = 512 * t.val + 256 + n.val by omega)))
  intro a
  match a with
  | ⟨0, _⟩ => show k.val = 0 + k.val; omega
  | ⟨1, _⟩ => show 256 + n.val = 256 + n.val; omega

theorem tile2 (c : Dev nD) (t : Fin cfg0.N) (r : Fin 32) (n : Fin 256) :
    tile (iblk m c 2 t) r n = tc 16 ang16 (n.val % 128) := by
  unfold tile
  by_cases h : n.val < 128
  · rw [dif_pos h]
    exact (blk2 m c t r ⟨n.val, h⟩).trans (congrArg (tc 16 ang16) (by show n.val = n.val % 128; omega))
  · rw [dif_neg h]
    exact (blk2 m c t r ⟨n.val - 128, by omega⟩).trans (congrArg (tc 16 ang16) (by show n.val - 128 = n.val % 128; omega))

theorem tile3 (c : Dev nD) (t : Fin cfg0.N) (r : Fin 32) (n : Fin 256) :
    tile (iblk m c 3 t) r n = t1 16 ang16 (n.val % 128) := by
  unfold tile
  by_cases h : n.val < 128
  · rw [dif_pos h]
    exact (blk3 m c t r ⟨n.val, h⟩).trans (congrArg (t1 16 ang16) (by show n.val = n.val % 128; omega))
  · rw [dif_neg h]
    exact (blk3 m c t r ⟨n.val - 128, by omega⟩).trans (congrArg (t1 16 ang16) (by show n.val - 128 = n.val % 128; omega))

theorem tile4 (c : Dev nD) (t : Fin cfg0.N) (r : Fin 32) (n : Fin 256) :
    tile (iblk m c 4 t) r n = t2 16 ang16 (n.val % 128) := by
  unfold tile
  by_cases h : n.val < 128
  · rw [dif_pos h]
    exact (blk4 m c t r ⟨n.val, h⟩).trans (congrArg (t2 16 ang16) (by show n.val = n.val % 128; omega))
  · rw [dif_neg h]
    exact (blk4 m c t r ⟨n.val - 128, by omega⟩).trans (congrArg (t2 16 ang16) (by show n.val - 128 = n.val % 128; omega))

theorem tile5 (c : Dev nD) (t : Fin cfg0.N) (r : Fin 32) (n : Fin 256) :
    tile (iblk m c 5 t) r n = tc 8 ang8 (n.val % 64) := by
  unfold tile
  by_cases h : n.val < 128
  · rw [dif_pos h]
    exact (blk5 m c t r ⟨n.val, h⟩).trans (congrArg (tc 8 ang8) (by show n.val % 64 = n.val % 64; omega))
  · rw [dif_neg h]
    exact (blk5 m c t r ⟨n.val - 128, by omega⟩).trans (congrArg (tc 8 ang8) (by show (n.val - 128) % 64 = n.val % 64; omega))

theorem tile6 (c : Dev nD) (t : Fin cfg0.N) (r : Fin 32) (n : Fin 256) :
    tile (iblk m c 6 t) r n = t1 8 ang8 (n.val % 64) := by
  unfold tile
  by_cases h : n.val < 128
  · rw [dif_pos h]
    exact (blk6 m c t r ⟨n.val, h⟩).trans (congrArg (t1 8 ang8) (by show n.val % 64 = n.val % 64; omega))
  · rw [dif_neg h]
    exact (blk6 m c t r ⟨n.val - 128, by omega⟩).trans (congrArg (t1 8 ang8) (by show (n.val - 128) % 64 = n.val % 64; omega))

theorem tile7 (c : Dev nD) (t : Fin cfg0.N) (r : Fin 32) (n : Fin 256) :
    tile (iblk m c 7 t) r n = t2 8 ang8 (n.val % 64) := by
  unfold tile
  by_cases h : n.val < 128
  · rw [dif_pos h]
    exact (blk7 m c t r ⟨n.val, h⟩).trans (congrArg (t2 8 ang8) (by show n.val % 64 = n.val % 64; omega))
  · rw [dif_neg h]
    exact (blk7 m c t r ⟨n.val - 128, by omega⟩).trans (congrArg (t2 8 ang8) (by show (n.val - 128) % 64 = n.val % 64; omega))

theorem roped16 (c : Dev nD) (t : Fin cfg0.N) (y : Fin 32 → Fin 256 → EReal) (B : ℕ) (hB : B % 128 = 0) (f : ℕ → EReal)
    (r : Fin 32) (hy : ∀ n : Fin 256, y r n = f (B + n.val)) (n : Fin 256) :
    roped 16 y (iblk m c 2 t) (iblk m c 3 t) (iblk m c 4 t) r n = rope 128 16 ang16 f (B + n.val) := by
  refine Eq.trans ?_ (rot16 B n.val ang16 f n.isLt hB)
  unfold roped
  rw [tile2 m c t r n, tile3 m c t r n, tile4 m c t r n, hy, hy, hy]

theorem roped8 (c : Dev nD) (t : Fin cfg0.N) (y : Fin 32 → Fin 256 → EReal) (B : ℕ) (hB : B % 64 = 0) (f : ℕ → EReal)
    (r : Fin 32) (hy : ∀ n : Fin 256, y r n = f (B + n.val)) (n : Fin 256) :
    roped 8 y (iblk m c 5 t) (iblk m c 6 t) (iblk m c 7 t) r n = rope 64 8 ang8 f (B + n.val) := by
  refine Eq.trans ?_ (rot8 B n.val ang8 f n.isLt hB)
  unfold roped
  rw [tile5 m c t r n, tile6 m c t r n, tile7 m c t r n, hy, hy, hy]

/-- One row of the result at a column, as a point computes it. -/
abbrev res (c : Dev nD) (t : Fin cfg0.N) (r : Fin 32) (n : ℕ) : EReal := outp (aU m c r) (aW m c) (512 * t.val + n)

theorem caseA (c : Dev nD) (t : Fin cfg0.N) (h0 : t.val % 14 = 0) (h1 : ¬t.val % 14 = 1) (h2 : ¬t.val % 14 = 2) (h3 : ¬t.val % 14 = 3) (h4 : ¬t.val % 14 = 4) (h5 : ¬t.val % 14 = 5) (h6 : ¬6 ≤ t.val)
    (r : Fin 32) (n : Fin 512) : outsAt0 m c t.val t.isLt (ix2 r n) = res m c t r n.val := by
  have hN : t.val < 14 := lt_of_lt_of_eq t.isLt (show cfg0.N = 14 from N_0)
  rw [outsAt0_A m c t h0 h1 h2 h3 h4 h5 h6]
  frame_out
  refine halves _ _ (res m c t) (fun r n => ?_) (fun r n => ?_) r n
  · refine (left12 _ _ _ _ _ r n).trans ?_
    refine (roped16 m c t _ (512 * t.val + 0) (by omega) (pr (aU m c r) (aW m c)) r (dotL m c t r) n).trans ?_
    rw [show 512 * t.val + 0 + n.val = 512 * t.val + n.val by omega]
    unfold res
    unfold outp
    rw [if_pos (show 512 * t.val + n.val < 1024 by omega)]
  · refine (right11 _ _ _ _ _ r n).trans ?_
    refine (roped16 m c t _ (512 * t.val + 256) (by omega) (pr (aU m c r) (aW m c)) r (dotR m c t r) n).trans ?_
    rw [show 512 * t.val + 256 + n.val = 512 * t.val + (256 + n.val) by omega]
    unfold res
    unfold outp
    rw [if_pos (show 512 * t.val + (256 + n.val) < 1024 by omega)]

theorem caseB (c : Dev nD) (t : Fin cfg0.N) (h0 : ¬t.val % 14 = 0) (h1 : t.val % 14 = 1) (h2 : ¬t.val % 14 = 2) (h3 : ¬t.val % 14 = 3) (h4 : ¬t.val % 14 = 4) (h5 : ¬t.val % 14 = 5) (h6 : ¬6 ≤ t.val)
    (r : Fin 32) (n : Fin 512) : outsAt0 m c t.val t.isLt (ix2 r n) = res m c t r n.val := by
  have hN : t.val < 14 := lt_of_lt_of_eq t.isLt (show cfg0.N = 14 from N_0)
  rw [outsAt0_B m c t h0 h1 h2 h3 h4 h5 h6]
  frame_out
  refine halves _ _ (res m c t) (fun r n => ?_) (fun r n => ?_) r n
  · refine (left17 _ _ _ _ _ r n).trans ?_
    refine (roped16 m c t _ (512 * t.val + 0) (by omega) (pr (aU m c r) (aW m c)) r (dotL m c t r) n).trans ?_
    rw [show 512 * t.val + 0 + n.val = 512 * t.val + n.val by omega]
    unfold res
    unfold outp
    rw [if_pos (show 512 * t.val + n.val < 1024 by omega)]
  · refine (right16 _ _ _ _ _ r n).trans ?_
    refine (roped16 m c t _ (512 * t.val + 256) (by omega) (pr (aU m c r) (aW m c)) r (dotR m c t r) n).trans ?_
    rw [show 512 * t.val + 256 + n.val = 512 * t.val + (256 + n.val) by omega]
    unfold res
    unfold outp
    rw [if_pos (show 512 * t.val + (256 + n.val) < 1024 by omega)]

theorem caseC (c : Dev nD) (t : Fin cfg0.N) (h0 : ¬t.val % 14 = 0) (h1 : ¬t.val % 14 = 1) (h2 : t.val % 14 = 2) (h3 : ¬t.val % 14 = 3) (h4 : ¬t.val % 14 = 4) (h5 : ¬t.val % 14 = 5) (h6 : ¬6 ≤ t.val)
    (r : Fin 32) (n : Fin 512) : outsAt0 m c t.val t.isLt (ix2 r n) = res m c t r n.val := by
  have hN : t.val < 14 := lt_of_lt_of_eq t.isLt (show cfg0.N = 14 from N_0)
  rw [outsAt0_C m c t h0 h1 h2 h3 h4 h5 h6]
  frame_out
  refine halves _ _ (res m c t) (fun r n => ?_) (fun r n => ?_) r n
  · refine (plain3 _ _ r n).trans ?_
    refine (dotL m c t r n).trans ?_
    rw [show 512 * t.val + 0 + n.val = 512 * t.val + n.val by omega]
    unfold res
    unfold outp
    rw [if_neg (show ¬512 * t.val + n.val < 1024 by omega), if_pos (show 512 * t.val + n.val < 1536 by omega)]
  · refine (plain4 _ _ r n).trans ?_
    refine (dotR m c t r n).trans ?_
    rw [show 512 * t.val + 256 + n.val = 512 * t.val + (256 + n.val) by omega]
    unfold res
    unfold outp
    rw [if_neg (show ¬512 * t.val + (256 + n.val) < 1024 by omega), if_pos (show 512 * t.val + (256 + n.val) < 1536 by omega)]

theorem caseD (c : Dev nD) (t : Fin cfg0.N) (h0 : ¬t.val % 14 = 0) (h1 : ¬t.val % 14 = 1) (h2 : ¬t.val % 14 = 2) (h3 : t.val % 14 = 3) (h4 : ¬t.val % 14 = 4) (h5 : ¬t.val % 14 = 5) (h6 : ¬6 ≤ t.val)
    (r : Fin 32) (n : Fin 512) : outsAt0 m c t.val t.isLt (ix2 r n) = res m c t r n.val := by
  have hN : t.val < 14 := lt_of_lt_of_eq t.isLt (show cfg0.N = 14 from N_0)
  rw [outsAt0_D m c t h0 h1 h2 h3 h4 h5 h6]
  frame_out
  refine halves _ _ (res m c t) (fun r n => ?_) (fun r n => ?_) r n
  · refine (left22 _ _ _ _ _ r n).trans ?_
    refine (roped8 m c t _ (512 * t.val + 0) (by omega) (pr (aU m c r) (aW m c)) r (dotL m c t r) n).trans ?_
    rw [show 512 * t.val + 0 + n.val = 512 * t.val + n.val by omega]
    unfold res
    unfold outp
    rw [if_neg (show ¬512 * t.val + n.val < 1024 by omega), if_neg (show ¬512 * t.val + n.val < 1536 by omega), if_pos (show 512 * t.val + n.val < 2560 by omega)]
  · refine (right21 _ _ _ _ _ r n).trans ?_
    refine (roped8 m c t _ (512 * t.val + 256) (by omega) (pr (aU m c r) (aW m c)) r (dotR m c t r) n).trans ?_
    rw [show 512 * t.val + 256 + n.val = 512 * t.val + (256 + n.val) by omega]
    unfold res
    unfold outp
    rw [if_neg (show ¬512 * t.val + (256 + n.val) < 1024 by omega), if_neg (show ¬512 * t.val + (256 + n.val) < 1536 by omega), if_pos (show 512 * t.val + (256 + n.val) < 2560 by omega)]

theorem caseE (c : Dev nD) (t : Fin cfg0.N) (h0 : ¬t.val % 14 = 0) (h1 : ¬t.val % 14 = 1) (h2 : ¬t.val % 14 = 2) (h3 : ¬t.val % 14 = 3) (h4 : t.val % 14 = 4) (h5 : ¬t.val % 14 = 5) (h6 : ¬6 ≤ t.val)
    (r : Fin 32) (n : Fin 512) : outsAt0 m c t.val t.isLt (ix2 r n) = res m c t r n.val := by
  have hN : t.val < 14 := lt_of_lt_of_eq t.isLt (show cfg0.N = 14 from N_0)
  rw [outsAt0_E m c t h0 h1 h2 h3 h4 h5 h6]
  frame_out
  refine halves _ _ (res m c t) (fun r n => ?_) (fun r n => ?_) r n
  · refine (left27 _ _ _ _ _ r n).trans ?_
    refine (roped8 m c t _ (512 * t.val + 0) (by omega) (pr (aU m c r) (aW m c)) r (dotL m c t r) n).trans ?_
    rw [show 512 * t.val + 0 + n.val = 512 * t.val + n.val by omega]
    unfold res
    unfold outp
    rw [if_neg (show ¬512 * t.val + n.val < 1024 by omega), if_neg (show ¬512 * t.val + n.val < 1536 by omega), if_pos (show 512 * t.val + n.val < 2560 by omega)]
  · refine (right26 _ _ _ _ _ r n).trans ?_
    refine (roped8 m c t _ (512 * t.val + 256) (by omega) (pr (aU m c r) (aW m c)) r (dotR m c t r) n).trans ?_
    rw [show 512 * t.val + 256 + n.val = 512 * t.val + (256 + n.val) by omega]
    unfold res
    unfold outp
    rw [if_neg (show ¬512 * t.val + (256 + n.val) < 1024 by omega), if_neg (show ¬512 * t.val + (256 + n.val) < 1536 by omega), if_pos (show 512 * t.val + (256 + n.val) < 2560 by omega)]

theorem caseF (c : Dev nD) (t : Fin cfg0.N) (h0 : ¬t.val % 14 = 0) (h1 : ¬t.val % 14 = 1) (h2 : ¬t.val % 14 = 2) (h3 : ¬t.val % 14 = 3) (h4 : ¬t.val % 14 = 4) (h5 : t.val % 14 = 5) (h6 : ¬6 ≤ t.val)
    (r : Fin 32) (n : Fin 512) : outsAt0 m c t.val t.isLt (ix2 r n) = res m c t r n.val := by
  have hN : t.val < 14 := lt_of_lt_of_eq t.isLt (show cfg0.N = 14 from N_0)
  rw [outsAt0_F m c t h0 h1 h2 h3 h4 h5 h6]
  frame_out
  refine halves _ _ (res m c t) (fun r n => ?_) (fun r n => ?_) r n
  · refine (plain7 _ _ r n).trans ?_
    refine (dotL m c t r n).trans ?_
    rw [show 512 * t.val + 0 + n.val = 512 * t.val + n.val by omega]
    unfold res
    unfold outp
    rw [if_neg (show ¬512 * t.val + n.val < 1024 by omega), if_neg (show ¬512 * t.val + n.val < 1536 by omega), if_neg (show ¬512 * t.val + n.val < 2560 by omega)]
  · refine (plain8 _ _ r n).trans ?_
    refine (dotR m c t r n).trans ?_
    rw [show 512 * t.val + 256 + n.val = 512 * t.val + (256 + n.val) by omega]
    unfold res
    unfold outp
    rw [if_neg (show ¬512 * t.val + (256 + n.val) < 1024 by omega), if_neg (show ¬512 * t.val + (256 + n.val) < 1536 by omega), if_neg (show ¬512 * t.val + (256 + n.val) < 2560 by omega)]

theorem caseG (c : Dev nD) (t : Fin cfg0.N) (h0 : ¬t.val % 14 = 0) (h1 : ¬t.val % 14 = 1) (h2 : ¬t.val % 14 = 2) (h3 : ¬t.val % 14 = 3) (h4 : ¬t.val % 14 = 4) (h5 : ¬t.val % 14 = 5) (h6 : 6 ≤ t.val)
    (r : Fin 32) (n : Fin 512) : outsAt0 m c t.val t.isLt (ix2 r n) = res m c t r n.val := by
  have hN : t.val < 14 := lt_of_lt_of_eq t.isLt (show cfg0.N = 14 from N_0)
  rw [outsAt0_G m c t h0 h1 h2 h3 h4 h5 h6]
  frame_out
  refine halves _ _ (res m c t) (fun r n => ?_) (fun r n => ?_) r n
  · refine (plain9 _ _ r n).trans ?_
    refine (dotL m c t r n).trans ?_
    rw [show 512 * t.val + 0 + n.val = 512 * t.val + n.val by omega]
    unfold res
    unfold outp
    rw [if_neg (show ¬512 * t.val + n.val < 1024 by omega), if_neg (show ¬512 * t.val + n.val < 1536 by omega), if_neg (show ¬512 * t.val + n.val < 2560 by omega)]
  · refine (plain10 _ _ r n).trans ?_
    refine (dotR m c t r n).trans ?_
    rw [show 512 * t.val + 256 + n.val = 512 * t.val + (256 + n.val) by omega]
    unfold res
    unfold outp
    rw [if_neg (show ¬512 * t.val + (256 + n.val) < 1024 by omega), if_neg (show ¬512 * t.val + (256 + n.val) < 1536 by omega), if_neg (show ¬512 * t.val + (256 + n.val) < 2560 by omega)]

/-- What a point leaves in its block of the result. -/
theorem point (c : Dev nD) (t : Fin cfg0.N) (r : Fin 32) (n : Fin 512) :
    outsAt0 m c t.val t.isLt (ix2 r n) = res m c t r n.val := by
  have hN : t.val < 14 := lt_of_lt_of_eq t.isLt (show cfg0.N = 14 from N_0)
  by_cases h6 : 6 ≤ t.val
  · exact caseG m c t (by omega) (by omega) (by omega) (by omega) (by omega) (by omega) h6 r n
  by_cases h0 : t.val = 0
  · exact caseA m c t (by omega) (by omega) (by omega) (by omega) (by omega) (by omega) h6 r n
  by_cases h1 : t.val = 1
  · exact caseB m c t (by omega) (by omega) (by omega) (by omega) (by omega) (by omega) h6 r n
  by_cases h2 : t.val = 2
  · exact caseC m c t (by omega) (by omega) (by omega) (by omega) (by omega) (by omega) h6 r n
  by_cases h3 : t.val = 3
  · exact caseD m c t (by omega) (by omega) (by omega) (by omega) (by omega) (by omega) h6 r n
  by_cases h4 : t.val = 4
  · exact caseE m c t (by omega) (by omega) (by omega) (by omega) (by omega) (by omega) h6 r n
  · exact caseF m c t (by omega) (by omega) (by omega) (by omega) (by omega) (by omega) h6 r n

/-- The projections, as an array. -/
def out (c : Dev nD) : FVec Ideal S32x7168 .f32 := fun i => outp (aU m c ⟨(i 0).val, (i 0).isLt⟩) (aW m c) (i 1).val

theorem out_at (c : Dev nD) (r : Fin 32) (n : Fin 7168) : out m c (ix2 r n) = outp (aU m c r) (aW m c) n.val := rfl

/-- The place in the result array of the point's block at row `r`, column `n`. -/
theorem emb8 (t : Fin cfg0.N) (r : Fin 32) (n : Fin 512) : ((cfg0.win 8).blk t).view.emb (ix2 r n) = ix2 r (col t n) := by
  funext a
  match a with
  | ⟨0, _⟩ => apply Fin.ext; blk_simp [idx t]
  | ⟨1, _⟩ => apply Fin.ext; blk_simp [idx t]; show t.val * 512 + n.val = 512 * t.val + n.val; omega

/-- After the run the result array is the projections. -/
theorem final8 (c : Dev nD) : (dats m 0 c).arrAt 8 cfg0.N = out m c := by
  refine (dats m 0 c).arrAt_eq_of_covers 8 _ (by decide +kernel) fun t hf y => ?_
  blk_simp
  rw [after0_8]
  idx_vars y
  refine Eq.trans ?_ (congrArg (out m c) (emb8 t y0 y1).symm)
  rw [out_at]
  exact point m c t y0 y1

end Cert.Kernel5Ideal.Inp
-- ==== Proof.InpRef.lean ====
/-
  The input projection's reference read at an index: the rotated and the plain columns, each piece of
  the final concatenation, and the whole row as the common form.
-/
module

public import proofs.«01_k».proof.Proof.Gen.Reference5Ideal.Run
public import proofs.«01_k».proof.Proof.Gen.Reference5Ideal.Read
public import proofs.«01_k».proof.Proof.InpSpec
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Reference5Ideal.Inp

open Cert.Reference5Ideal Cert.Reference5Ideal.Read Cert.InpSpec

variable (u : FVec Ideal S32x2048 .bf16) (w : FVec Ideal S2048x14864 .f32)

/-- The product of a row with a column of the weights. -/
def pj (r : Fin 32) (n : Fin 14864) : EReal := ∑ k, u (ix2 r k) * w (ix2 k n)

/-- A row's projection at a column of the result. -/
abbrev row (r : Fin 32) (n : ℕ) : EReal := pr (fun k => u (ix2 r k)) (fun k n => w (ix2 k n)) n

theorem v2_at (r : Fin 32) (z : Fin 1) (n : Fin 14864) : val_main_v2 (F := Ideal) u w (ix3 r z n) = pj u w r n := by
  unfold pj
  pointwise [val_main_v2, val_main_v1, val_main_v0]

theorem pj_lo (r : Fin 32) (n : ℕ) (h : n < 6144) : pj u w r ⟨n, by omega⟩ = row u w r n :=
  Finset.sum_congr rfl fun k _ => congrArg (u (ix2 r k) * ·) (by unfold wcol; rw [dif_pos h])

theorem pj_z (r : Fin 32) (n : ℕ) (h : 6144 ≤ n) (h' : n < 6656) : pj u w r ⟨n + 8, by omega⟩ = row u w r n :=
  Finset.sum_congr rfl fun k _ => congrArg (u (ix2 r k) * ·)
    ((dif_neg (show ¬n < 6144 by omega)).trans (dif_pos h')).symm

theorem pj_b (r : Fin 32) (n : ℕ) (h : 6656 ≤ n) (h' : n < 6664) : pj u w r ⟨n - 512, by omega⟩ = row u w r n :=
  Finset.sum_congr rfl fun k _ => congrArg (u (ix2 r k) * ·)
    ((dif_neg (show ¬n < 6144 by omega)).trans ((dif_neg (show ¬n < 6656 by omega)).trans (dif_pos h'))).symm

theorem pj_t (r : Fin 32) (n : ℕ) (h : 6664 ≤ n) (h' : n < 6672) : pj u w r ⟨n, by omega⟩ = row u w r n :=
  Finset.sum_congr rfl fun k _ => congrArg (u (ix2 r k) * ·)
    ((dif_neg (show ¬n < 6144 by omega)).trans ((dif_neg (show ¬n < 6656 by omega)).trans
      ((dif_neg (show ¬n < 6664 by omega)).trans (dif_pos h')))).symm

theorem pj_0 (r : Fin 32) (n : ℕ) (h : 6672 ≤ n) : 0 = row u w r n := by
  refine (Finset.sum_eq_zero fun k _ => ?_).symm
  refine (congrArg (u (ix2 r k) * ·) ((dif_neg (show ¬n < 6144 by omega)).trans ((dif_neg (show ¬n < 6656 by omega)).trans
      ((dif_neg (show ¬n < 6664 by omega)).trans (dif_neg (show ¬n < 6672 by omega)))))).trans ?_
  exact mul_zero _

theorem v20_at (z : Fin 1) (d : Fin 16) : val_main_v20 (F := Ideal) (ix2 z d) = Ideal.cos (ang16 d.val) := by
  pointwise [val_main_v20, val_main_v8, val_main_v9, val_main_v10, val_main_v11, val_main_v12, val_main_v13, val_main_v14, val_main_v15, val_main_v16, val_main_v17, val_main_v18, val_main_v19, val_main_v3, val_main_v4, val_main_v5, val_main_c, val_main_cst, val_main_cst_0, val_main_cst_1]
  rfl

theorem v22_at (z : Fin 1) (d : Fin 16) : val_main_v22 (F := Ideal) (ix2 z d) = Ideal.sin (ang16 d.val) := by
  pointwise [val_main_v22, val_main_v8, val_main_v9, val_main_v10, val_main_v11, val_main_v12, val_main_v13, val_main_v14, val_main_v15, val_main_v16, val_main_v17, val_main_v18, val_main_v19, val_main_v3, val_main_v4, val_main_v5, val_main_c, val_main_cst, val_main_cst_0, val_main_cst_1]
  rfl

theorem v7_at (r : Fin 32) (z : Fin 1) (h : Fin 4) (d : Fin 128) :
    val_main_v7 (F := Ideal) u w (ix4 r z h d) = row u w r (h.val * 128 + d.val) := by
  pointwise [val_main_v7, val_main_v6]
  refine (v2_at u w r _ _).trans (Eq.trans (congrArg (pj u w r) (Fin.ext ?_)) (pj_lo u w r (h.val * 128 + d.val) (by omega)))
  dsimp only

theorem v37_at (r : Fin 32) (z : Fin 1) (h : Fin 4) (d : Fin 128) :
    val_main_v37 (F := Ideal) u w (ix4 r z h d) = rope 128 16 ang16 (row u w r) (h.val * 128 + d.val) := by
  pointwise [val_main_v37, val_main_v36, val_main_v35, val_main_v34, val_main_v33, val_main_v32, val_main_v31, val_main_v30, val_main_v29, val_main_v28, val_main_v27, val_main_v26, val_main_v25, val_main_v24, val_main_v23, val_main_v21]
  unfold rope
  rw [show (h.val * 128 + d.val) % 128 = d.val by omega]
  by_cases h1 : d.val < 16
  · rw [dif_pos h1, if_pos h1, show h.val * 128 + d.val + 16 = h.val * 128 + (16 + d.val) by omega]
    exact congrArg₂ (· - ·) (congrArg₂ (· * ·) (v7_at u w r _ h _) (v20_at _ _)) (congrArg₂ (· * ·) (v7_at u w r _ h _) (v22_at _ _))
  rw [dif_neg h1, if_neg h1]
  by_cases h2 : d.val - 16 < 16
  · rw [dif_pos h2, if_pos (show d.val < 2 * 16 by omega)]
    refine congrArg₂ (· + ·) (congrArg₂ (· * ·) ((v7_at u w r _ h _).trans (congrArg (row u w r) ?_)) (v20_at _ _))
      (congrArg₂ (· * ·) ((v7_at u w r _ h _).trans (congrArg (row u w r) ?_)) (v22_at _ _))
    · show h.val * 128 + (16 + (d.val - 16)) = h.val * 128 + d.val; omega
    · show h.val * 128 + (d.val - 16) = h.val * 128 + d.val - 16; omega
  · rw [dif_neg h2, if_neg (show ¬d.val < 2 * 16 by omega)]
    refine (v7_at u w r _ h _).trans (congrArg (row u w r) ?_)
    show h.val * 128 + (32 + (d.val - 16 - 16)) = h.val * 128 + d.val; omega

theorem v143_at (r : Fin 32) (n : Fin 512) :
    val_main_v143 (F := Ideal) u w (ix2 r n) = rope 128 16 ang16 (row u w r) (0 + n.val) := by
  pointwise [val_main_v143]
  refine (v37_at u w r _ _ _).trans (congrArg (rope 128 16 ang16 (row u w r)) ?_)
  show n.val / 128 * 128 + n.val % 128 = n.val; omega

theorem v52_at (z : Fin 1) (d : Fin 16) : val_main_v52 (F := Ideal) (ix2 z d) = Ideal.cos (ang16 d.val) := by
  pointwise [val_main_v52, val_main_v40, val_main_v41, val_main_v42, val_main_v43, val_main_v44, val_main_v45, val_main_v46, val_main_v47, val_main_v48, val_main_v49, val_main_v50, val_main_v51, val_main_v3, val_main_v4, val_main_v5, val_main_c, val_main_cst_2, val_main_cst_3, val_main_cst_4]
  rfl

theorem v54_at (z : Fin 1) (d : Fin 16) : val_main_v54 (F := Ideal) (ix2 z d) = Ideal.sin (ang16 d.val) := by
  pointwise [val_main_v54, val_main_v40, val_main_v41, val_main_v42, val_main_v43, val_main_v44, val_main_v45, val_main_v46, val_main_v47, val_main_v48, val_main_v49, val_main_v50, val_main_v51, val_main_v3, val_main_v4, val_main_v5, val_main_c, val_main_cst_2, val_main_cst_3, val_main_cst_4]
  rfl

theorem v39_at (r : Fin 32) (z : Fin 1) (h : Fin 4) (d : Fin 128) :
    val_main_v39 (F := Ideal) u w (ix4 r z h d) = row u w r (512 + (h.val * 128 + d.val)) := by
  pointwise [val_main_v39, val_main_v38]
  refine (v2_at u w r _ _).trans (Eq.trans (congrArg (pj u w r) (Fin.ext ?_)) (pj_lo u w r (512 + (h.val * 128 + d.val)) (by omega)))
  dsimp only

theorem v69_at (r : Fin 32) (z : Fin 1) (h : Fin 4) (d : Fin 128) :
    val_main_v69 (F := Ideal) u w (ix4 r z h d) = rope 128 16 ang16 (row u w r) (512 + (h.val * 128 + d.val)) := by
  pointwise [val_main_v69, val_main_v68, val_main_v67, val_main_v66, val_main_v65, val_main_v64, val_main_v63, val_main_v62, val_main_v61, val_main_v60, val_main_v59, val_main_v58, val_main_v57, val_main_v56, val_main_v55, val_main_v53]
  unfold rope
  rw [show (512 + (h.val * 128 + d.val)) % 128 = d.val by omega]
  by_cases h1 : d.val < 16
  · rw [dif_pos h1, if_pos h1, show 512 + (h.val * 128 + d.val) + 16 = 512 + (h.val * 128 + (16 + d.val)) by omega]
    exact congrArg₂ (· - ·) (congrArg₂ (· * ·) (v39_at u w r _ h _) (v52_at _ _)) (congrArg₂ (· * ·) (v39_at u w r _ h _) (v54_at _ _))
  rw [dif_neg h1, if_neg h1]
  by_cases h2 : d.val - 16 < 16
  · rw [dif_pos h2, if_pos (show d.val < 2 * 16 by omega)]
    refine congrArg₂ (· + ·) (congrArg₂ (· * ·) ((v39_at u w r _ h _).trans (congrArg (row u w r) ?_)) (v52_at _ _))
      (congrArg₂ (· * ·) ((v39_at u w r _ h _).trans (congrArg (row u w r) ?_)) (v54_at _ _))
    · show 512 + (h.val * 128 + (16 + (d.val - 16))) = 512 + (h.val * 128 + d.val); omega
    · show 512 + (h.val * 128 + (d.val - 16)) = 512 + (h.val * 128 + d.val) - 16; omega
  · rw [dif_neg h2, if_neg (show ¬d.val < 2 * 16 by omega)]
    refine (v39_at u w r _ h _).trans (congrArg (row u w r) ?_)
    show 512 + (h.val * 128 + (32 + (d.val - 16 - 16))) = 512 + (h.val * 128 + d.val); omega

theorem v144_at (r : Fin 32) (n : Fin 512) :
    val_main_v144 (F := Ideal) u w (ix2 r n) = rope 128 16 ang16 (row u w r) (512 + n.val) := by
  pointwise [val_main_v144]
  refine (v69_at u w r _ _ _).trans (congrArg (rope 128 16 ang16 (row u w r)) ?_)
  show 512 + (n.val / 128 * 128 + n.val % 128) = 512 + n.val; omega

theorem v85_at (z : Fin 1) (d : Fin 8) : val_main_v85 (F := Ideal) (ix2 z d) = Ideal.cos (ang8 d.val) := by
  pointwise [val_main_v85, val_main_v73, val_main_v74, val_main_v75, val_main_v76, val_main_v77, val_main_v78, val_main_v79, val_main_v80, val_main_v81, val_main_v82, val_main_v83, val_main_v84, val_main_v3, val_main_v4, val_main_v5, val_main_c, val_main_cst_5, val_main_cst_6, val_main_cst_7]
  rfl

theorem v87_at (z : Fin 1) (d : Fin 8) : val_main_v87 (F := Ideal) (ix2 z d) = Ideal.sin (ang8 d.val) := by
  pointwise [val_main_v87, val_main_v73, val_main_v74, val_main_v75, val_main_v76, val_main_v77, val_main_v78, val_main_v79, val_main_v80, val_main_v81, val_main_v82, val_main_v83, val_main_v84, val_main_v3, val_main_v4, val_main_v5, val_main_c, val_main_cst_5, val_main_cst_6, val_main_cst_7]
  rfl

theorem v72_at (r : Fin 32) (z : Fin 1) (h : Fin 4) (e : Fin 2) (d : Fin 64) :
    val_main_v72 (F := Ideal) u w (ix5 r z h e d) = row u w r (1536 + ((h.val * 2 + e.val) * 64 + d.val)) := by
  pointwise [val_main_v72, val_main_v71]
  refine (v2_at u w r _ _).trans (Eq.trans (congrArg (pj u w r) (Fin.ext ?_)) (pj_lo u w r (1536 + ((h.val * 2 + e.val) * 64 + d.val)) (by omega)))
  dsimp only
  omega

theorem v102_at (r : Fin 32) (z : Fin 1) (h : Fin 4) (e : Fin 2) (d : Fin 64) :
    val_main_v102 (F := Ideal) u w (ix5 r z h e d) = rope 64 8 ang8 (row u w r) (1536 + ((h.val * 2 + e.val) * 64 + d.val)) := by
  pointwise [val_main_v102, val_main_v101, val_main_v100, val_main_v99, val_main_v98, val_main_v97, val_main_v96, val_main_v95, val_main_v94, val_main_v93, val_main_v92, val_main_v91, val_main_v90, val_main_v89, val_main_v88, val_main_v86]
  unfold rope
  rw [show (1536 + ((h.val * 2 + e.val) * 64 + d.val)) % 64 = d.val by omega]
  by_cases h1 : d.val < 8
  · rw [dif_pos h1, if_pos h1, show 1536 + ((h.val * 2 + e.val) * 64 + d.val) + 8 = 1536 + ((h.val * 2 + e.val) * 64 + (8 + d.val)) by omega]
    exact congrArg₂ (· - ·) (congrArg₂ (· * ·) (v72_at u w r _ h e _) (v85_at _ _)) (congrArg₂ (· * ·) (v72_at u w r _ h e _) (v87_at _ _))
  rw [dif_neg h1, if_neg h1]
  by_cases h2 : d.val - 8 < 8
  · rw [dif_pos h2, if_pos (show d.val < 2 * 8 by omega)]
    refine congrArg₂ (· + ·) (congrArg₂ (· * ·) ((v72_at u w r _ h e _).trans (congrArg (row u w r) ?_)) (v85_at _ _))
      (congrArg₂ (· * ·) ((v72_at u w r _ h e _).trans (congrArg (row u w r) ?_)) (v87_at _ _))
    · show 1536 + ((h.val * 2 + e.val) * 64 + (8 + (d.val - 8))) = 1536 + ((h.val * 2 + e.val) * 64 + d.val); omega
    · show 1536 + ((h.val * 2 + e.val) * 64 + (d.val - 8)) = 1536 + ((h.val * 2 + e.val) * 64 + d.val) - 8; omega
  · rw [dif_neg h2, if_neg (show ¬d.val < 2 * 8 by omega)]
    refine (v72_at u w r _ h e _).trans (congrArg (row u w r) ?_)
    show 1536 + ((h.val * 2 + e.val) * 64 + (16 + (d.val - 8 - 8))) = 1536 + ((h.val * 2 + e.val) * 64 + d.val); omega

theorem v146_at (r : Fin 32) (n : Fin 512) :
    val_main_v146 (F := Ideal) u w (ix2 r n) = rope 64 8 ang8 (row u w r) (1536 + n.val) := by
  pointwise [val_main_v146]
  refine (v102_at u w r _ _ _ _).trans (congrArg (rope 64 8 ang8 (row u w r)) ?_)
  dsimp only
  omega

theorem v117_at (z : Fin 1) (d : Fin 8) : val_main_v117 (F := Ideal) (ix2 z d) = Ideal.cos (ang8 d.val) := by
  pointwise [val_main_v117, val_main_v105, val_main_v106, val_main_v107, val_main_v108, val_main_v109, val_main_v110, val_main_v111, val_main_v112, val_main_v113, val_main_v114, val_main_v115, val_main_v116, val_main_v3, val_main_v4, val_main_v5, val_main_c, val_main_cst_8, val_main_cst_9, val_main_cst_10]
  rfl

theorem v119_at (z : Fin 1) (d : Fin 8) : val_main_v119 (F := Ideal) (ix2 z d) = Ideal.sin (ang8 d.val) := by
  pointwise [val_main_v119, val_main_v105, val_main_v106, val_main_v107, val_main_v108, val_main_v109, val_main_v110, val_main_v111, val_main_v112, val_main_v113, val_main_v114, val_main_v115, val_main_v116, val_main_v3, val_main_v4, val_main_v5, val_main_c, val_main_cst_8, val_main_cst_9, val_main_cst_10]
  rfl

theorem v104_at (r : Fin 32) (z : Fin 1) (h : Fin 4) (e : Fin 2) (d : Fin 64) :
    val_main_v104 (F := Ideal) u w (ix5 r z h e d) = row u w r (2048 + ((h.val * 2 + e.val) * 64 + d.val)) := by
  pointwise [val_main_v104, val_main_v103]
  refine (v2_at u w r _ _).trans (Eq.trans (congrArg (pj u w r) (Fin.ext ?_)) (pj_lo u w r (2048 + ((h.val * 2 + e.val) * 64 + d.val)) (by omega)))
  dsimp only
  omega

theorem v134_at (r : Fin 32) (z : Fin 1) (h : Fin 4) (e : Fin 2) (d : Fin 64) :
    val_main_v134 (F := Ideal) u w (ix5 r z h e d) = rope 64 8 ang8 (row u w r) (2048 + ((h.val * 2 + e.val) * 64 + d.val)) := by
  pointwise [val_main_v134, val_main_v133, val_main_v132, val_main_v131, val_main_v130, val_main_v129, val_main_v128, val_main_v127, val_main_v126, val_main_v125, val_main_v124, val_main_v123, val_main_v122, val_main_v121, val_main_v120, val_main_v118]
  unfold rope
  rw [show (2048 + ((h.val * 2 + e.val) * 64 + d.val)) % 64 = d.val by omega]
  by_cases h1 : d.val < 8
  · rw [dif_pos h1, if_pos h1, show 2048 + ((h.val * 2 + e.val) * 64 + d.val) + 8 = 2048 + ((h.val * 2 + e.val) * 64 + (8 + d.val)) by omega]
    exact congrArg₂ (· - ·) (congrArg₂ (· * ·) (v104_at u w r _ h e _) (v117_at _ _)) (congrArg₂ (· * ·) (v104_at u w r _ h e _) (v119_at _ _))
  rw [dif_neg h1, if_neg h1]
  by_cases h2 : d.val - 8 < 8
  · rw [dif_pos h2, if_pos (show d.val < 2 * 8 by omega)]
    refine congrArg₂ (· + ·) (congrArg₂ (· * ·) ((v104_at u w r _ h e _).trans (congrArg (row u w r) ?_)) (v117_at _ _))
      (congrArg₂ (· * ·) ((v104_at u w r _ h e _).trans (congrArg (row u w r) ?_)) (v119_at _ _))
    · show 2048 + ((h.val * 2 + e.val) * 64 + (8 + (d.val - 8))) = 2048 + ((h.val * 2 + e.val) * 64 + d.val); omega
    · show 2048 + ((h.val * 2 + e.val) * 64 + (d.val - 8)) = 2048 + ((h.val * 2 + e.val) * 64 + d.val) - 8; omega
  · rw [dif_neg h2, if_neg (show ¬d.val < 2 * 8 by omega)]
    refine (v104_at u w r _ h e _).trans (congrArg (row u w r) ?_)
    show 2048 + ((h.val * 2 + e.val) * 64 + (16 + (d.val - 8 - 8))) = 2048 + ((h.val * 2 + e.val) * 64 + d.val); omega

theorem v147_at (r : Fin 32) (n : Fin 512) :
    val_main_v147 (F := Ideal) u w (ix2 r n) = rope 64 8 ang8 (row u w r) (2048 + n.val) := by
  pointwise [val_main_v147]
  refine (v134_at u w r _ _ _ _).trans (congrArg (rope 64 8 ang8 (row u w r)) ?_)
  dsimp only
  omega

theorem v145_at (r : Fin 32) (n : Fin 512) : val_main_v145 (F := Ideal) u w (ix2 r n) = row u w r (1024 + n.val) := by
  pointwise [val_main_v145, val_main_v70]
  refine (v2_at u w r _ _).trans (Eq.trans (congrArg (pj u w r) (Fin.ext ?_)) (pj_lo u w r (1024 + n.val) (by omega)))
  show 1024 + n.val = 1024 + n.val; omega

theorem v148_at (r : Fin 32) (n : Fin 512) : val_main_v148 (F := Ideal) u w (ix2 r n) = row u w r (2560 + n.val) := by
  pointwise [val_main_v148, val_main_v135]
  refine (v2_at u w r _ _).trans (Eq.trans (congrArg (pj u w r) (Fin.ext ?_)) (pj_lo u w r (2560 + n.val) (by omega)))
  show 2560 + n.val = 2560 + n.val; omega

theorem v149_at (r : Fin 32) (n : Fin 2560) : val_main_v149 (F := Ideal) u w (ix2 r n) = row u w r (3072 + n.val) := by
  pointwise [val_main_v149, val_main_v136]
  refine (v2_at u w r _ _).trans (Eq.trans (congrArg (pj u w r) (Fin.ext ?_)) (pj_lo u w r (3072 + n.val) (by omega)))
  show 3072 + n.val = 3072 + n.val; omega

theorem v150_at (r : Fin 32) (n : Fin 512) : val_main_v150 (F := Ideal) u w (ix2 r n) = row u w r (5632 + n.val) := by
  pointwise [val_main_v150, val_main_v137]
  refine (v2_at u w r _ _).trans (Eq.trans (congrArg (pj u w r) (Fin.ext ?_)) (pj_lo u w r (5632 + n.val) (by omega)))
  show 5632 + n.val = 5632 + n.val; omega

theorem v151_at (r : Fin 32) (n : Fin 512) : val_main_v151 (F := Ideal) u w (ix2 r n) = row u w r (6144 + n.val) := by
  pointwise [val_main_v151, val_main_v140]
  refine (v2_at u w r _ _).trans (Eq.trans (congrArg (pj u w r) (Fin.ext ?_)) (pj_z u w r (6144 + n.val) (by omega) (by omega)))
  show 6152 + n.val = 6144 + n.val + 8; omega

theorem v152_at (r : Fin 32) (n : Fin 4) : val_main_v152 (F := Ideal) u w (ix2 r n) = row u w r (6656 + n.val) := by
  pointwise [val_main_v152, val_main_v138]
  refine (v2_at u w r _ _).trans (Eq.trans (congrArg (pj u w r) (Fin.ext ?_)) (pj_b u w r (6656 + n.val) (by omega) (by omega)))
  show 6144 + n.val = 6656 + n.val - 512; omega

theorem v153_at (r : Fin 32) (n : Fin 4) : val_main_v153 (F := Ideal) u w (ix2 r n) = row u w r (6660 + n.val) := by
  pointwise [val_main_v153, val_main_v139]
  refine (v2_at u w r _ _).trans (Eq.trans (congrArg (pj u w r) (Fin.ext ?_)) (pj_b u w r (6660 + n.val) (by omega) (by omega)))
  show 6148 + n.val = 6660 + n.val - 512; omega

theorem v154_at (r : Fin 32) (n : Fin 8) : val_main_v154 (F := Ideal) u w (ix2 r n) = row u w r (6664 + n.val) := by
  pointwise [val_main_v154, val_main_v141]
  refine (v2_at u w r _ _).trans (Eq.trans (congrArg (pj u w r) (Fin.ext ?_)) (pj_t u w r (6664 + n.val) (by omega) (by omega)))
  show 6664 + n.val = 6664 + n.val; omega

theorem v155_at (r : Fin 32) (n : Fin 496) : val_main_v155 (F := Ideal) (ix2 r n) = row u w r (6672 + n.val) := by
  refine Eq.trans ?_ (pj_0 u w r (6672 + n.val) (by omega))
  pointwise [val_main_v155, val_main_v142, val_main_cst_11]

set_option maxHeartbeats 2000000 in
/-- The reference read at an index. -/
theorem ref_at (r : Fin 32) (n : Fin 7168) :
    val_main_v156 (F := Ideal) u w (ix2 r n) = outp (fun k => u (ix2 r k)) (fun k n => w (ix2 k n)) n.val := by
  pointwise [val_main_v156]
  unfold outp
  by_cases h0 : n.val < 512
  · rw [dif_pos h0, if_pos (show n.val < 1024 by omega)]
    refine (v143_at u w r _).trans (congrArg (rope 128 16 ang16 (row u w r)) ?_)
    show 0 + (n.val) = n.val; omega
  rw [dif_neg h0]
  by_cases h1 : n.val - 512 < 512
  · rw [dif_pos h1, if_pos (show n.val < 1024 by omega)]
    refine (v144_at u w r _).trans (congrArg (rope 128 16 ang16 (row u w r)) ?_)
    show 512 + (n.val - 512) = n.val; omega
  rw [dif_neg h1]
  by_cases h2 : n.val - 512 - 512 < 512
  · rw [dif_pos h2, if_neg (show ¬n.val < 1024 by omega), if_pos (show n.val < 1536 by omega)]
    refine (v145_at u w r _).trans (congrArg (row u w r) ?_)
    show 1024 + (n.val - 512 - 512) = n.val; omega
  rw [dif_neg h2]
  by_cases h3 : n.val - 512 - 512 - 512 < 512
  · rw [dif_pos h3, if_neg (show ¬n.val < 1024 by omega), if_neg (show ¬n.val < 1536 by omega), if_pos (show n.val < 2560 by omega)]
    refine (v146_at u w r _).trans (congrArg (rope 64 8 ang8 (row u w r)) ?_)
    show 1536 + (n.val - 512 - 512 - 512) = n.val; omega
  rw [dif_neg h3]
  by_cases h4 : n.val - 512 - 512 - 512 - 512 < 512
  · rw [dif_pos h4, if_neg (show ¬n.val < 1024 by omega), if_neg (show ¬n.val < 1536 by omega), if_pos (show n.val < 2560 by omega)]
    refine (v147_at u w r _).trans (congrArg (rope 64 8 ang8 (row u w r)) ?_)
    show 2048 + (n.val - 512 - 512 - 512 - 512) = n.val; omega
  rw [dif_neg h4]
  by_cases h5 : n.val - 512 - 512 - 512 - 512 - 512 < 512
  · rw [dif_pos h5, if_neg (show ¬n.val < 1024 by omega), if_neg (show ¬n.val < 1536 by omega), if_neg (show ¬n.val < 2560 by omega)]
    refine (v148_at u w r _).trans (congrArg (row u w r) ?_)
    show 2560 + (n.val - 512 - 512 - 512 - 512 - 512) = n.val; omega
  rw [dif_neg h5]
  by_cases h6 : n.val - 512 - 512 - 512 - 512 - 512 - 512 < 2560
  · rw [dif_pos h6, if_neg (show ¬n.val < 1024 by omega), if_neg (show ¬n.val < 1536 by omega), if_neg (show ¬n.val < 2560 by omega)]
    refine (v149_at u w r _).trans (congrArg (row u w r) ?_)
    show 3072 + (n.val - 512 - 512 - 512 - 512 - 512 - 512) = n.val; omega
  rw [dif_neg h6]
  by_cases h7 : n.val - 512 - 512 - 512 - 512 - 512 - 512 - 2560 < 512
  · rw [dif_pos h7, if_neg (show ¬n.val < 1024 by omega), if_neg (show ¬n.val < 1536 by omega), if_neg (show ¬n.val < 2560 by omega)]
    refine (v150_at u w r _).trans (congrArg (row u w r) ?_)
    show 5632 + (n.val - 512 - 512 - 512 - 512 - 512 - 512 - 2560) = n.val; omega
  rw [dif_neg h7]
  by_cases h8 : n.val - 512 - 512 - 512 - 512 - 512 - 512 - 2560 - 512 < 512
  · rw [dif_pos h8, if_neg (show ¬n.val < 1024 by omega), if_neg (show ¬n.val < 1536 by omega), if_neg (show ¬n.val < 2560 by omega)]
    refine (v151_at u w r _).trans (congrArg (row u w r) ?_)
    show 6144 + (n.val - 512 - 512 - 512 - 512 - 512 - 512 - 2560 - 512) = n.val; omega
  rw [dif_neg h8]
  by_cases h9 : n.val - 512 - 512 - 512 - 512 - 512 - 512 - 2560 - 512 - 512 < 4
  · rw [dif_pos h9, if_neg (show ¬n.val < 1024 by omega), if_neg (show ¬n.val < 1536 by omega), if_neg (show ¬n.val < 2560 by omega)]
    refine (v152_at u w r _).trans (congrArg (row u w r) ?_)
    show 6656 + (n.val - 512 - 512 - 512 - 512 - 512 - 512 - 2560 - 512 - 512) = n.val; omega
  rw [dif_neg h9]
  by_cases h10 : n.val - 512 - 512 - 512 - 512 - 512 - 512 - 2560 - 512 - 512 - 4 < 4
  · rw [dif_pos h10, if_neg (show ¬n.val < 1024 by omega), if_neg (show ¬n.val < 1536 by omega), if_neg (show ¬n.val < 2560 by omega)]
    refine (v153_at u w r _).trans (congrArg (row u w r) ?_)
    show 6660 + (n.val - 512 - 512 - 512 - 512 - 512 - 512 - 2560 - 512 - 512 - 4) = n.val; omega
  rw [dif_neg h10]
  by_cases h11 : n.val - 512 - 512 - 512 - 512 - 512 - 512 - 2560 - 512 - 512 - 4 - 4 < 8
  · rw [dif_pos h11, if_neg (show ¬n.val < 1024 by omega), if_neg (show ¬n.val < 1536 by omega), if_neg (show ¬n.val < 2560 by omega)]
    refine (v154_at u w r _).trans (congrArg (row u w r) ?_)
    show 6664 + (n.val - 512 - 512 - 512 - 512 - 512 - 512 - 2560 - 512 - 512 - 4 - 4) = n.val; omega
  rw [dif_neg h11]
  rw [if_neg (show ¬n.val < 1024 by omega), if_neg (show ¬n.val < 1536 by omega), if_neg (show ¬n.val < 2560 by omega)]
  refine (v155_at u w r _).trans (congrArg (row u w r) ?_)
  show 6672 + (n.val - 512 - 512 - 512 - 512 - 512 - 512 - 2560 - 512 - 512 - 4 - 4 - 8) = n.val; omega

end Cert.Reference5Ideal.Inp
-- ==== Proof.InpClaim.lean ====
/-
  The input projection's claims: the reference's run, and the two programs' equal results.
-/
module

public import proofs.«01_k».proof.Defs
public import proofs.«01_k».proof.Proof.InpArr
public import proofs.«01_k».proof.Proof.InpRef
public import Idealize.ShloMosaic.Lib.Claim

@[expose] public section

set_option maxRecDepth 16384

noncomputable section

open Idealize.ShloMosaic Idealize.ShloMosaic.TcCoe Idealize.SL.Sem

namespace Cert.Proof.InpClaim

/-- The reference leaves its arguments as launched and every counter at zero. -/
theorem frame_ref : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The kernel and the reference end with the same array. -/
theorem algebraic : Cert.algebraic_Kernel5Ideal_Reference5Ideal := by
  pair_intro
  · run_from Cert.Kernel5Ideal.Value.run_blocks m g
  · run_from Cert.Reference5Ideal.Value.run m' g'
    · obtain ⟨e0, e1⟩ := hagree c
      rw [Cert.Kernel5Ideal.Inp.final8 m c, Cert.Reference5Ideal.Read.val_main_v156_eq, e0, e1]
      funext i
      idx_vars i
      exact (Cert.Reference5Ideal.Inp.ref_at _ _ i0 i1).trans (Cert.Kernel5Ideal.Inp.out_at m c i0 i1).symm

end Cert.Proof.InpClaim
-- ==== Proof.ConvSpec.lean ====
/-
  The short convolution with its activation and the normalisation of the query and key heads, as plain mathematics over
  the extended reals.
-/
module

public import proofs.«01_k».proof.Proof.MergeSpec

@[expose] public section

set_option maxRecDepth 16384

noncomputable section

open Idealize.ShloMosaic

namespace Cert.ConvSpec

open Cert.MergeSpec

/-- The four taps of one column: three earlier rows and the row itself, each by its weight, added to the bias. -/
def taps (p0 p1 p2 x w0 w1 w2 w3 b : EReal) : EReal := b + w0 * p0 + w1 * p1 + w2 * p2 + w3 * x

/-- A value times its logistic function. -/
def act (a : EReal) : EReal := a * sigm a

/-- One row after the convolution and the activation, by its column. -/
def conv (p0 p1 p2 x : Fin 2560 → EReal) (w : Fin 4 → Fin 2560 → EReal) (b : Fin 2560 → EReal) (n : ℕ) : EReal :=
  if h : n < 2560 then
    act (taps (p0 ⟨n, h⟩) (p1 ⟨n, h⟩) (p2 ⟨n, h⟩) (x ⟨n, h⟩) (w 0 ⟨n, h⟩) (w 1 ⟨n, h⟩) (w 2 ⟨n, h⟩) (w 3 ⟨n, h⟩) (b ⟨n, h⟩))
  else 0

/-- A column divided by the length of its head, which begins at column `o`. -/
def hd (y : ℕ → EReal) (o n : ℕ) : EReal :=
  y n * Ideal.rsqrt (∑ k : Fin 128, y (o + k.val) * y (o + k.val) + Ideal.ofBits FTy.f32 897988541#32)

/-- The query and key columns normalised head by head, the others as they are. -/
def nrm (y : ℕ → EReal) (n : ℕ) : EReal := if n < 1024 then hd y (n / 128 * 128) n else y n

end Cert.ConvSpec
-- ==== Proof.ConvArr.lean ====
/-
  The convolution's kernel for one token of every sample: the stored row, the stored buffer, and both result arrays after
  the run.
-/
module

public import proofs.«01_k».proof.Proof.Gen.Kernel6Ideal.Value
public import proofs.«01_k».proof.Proof.ConvSpec
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel6Ideal.Conv

open Cert.Kernel6Ideal Cert.Kernel6Ideal.Gen Cert.MergeSpec Cert.ConvSpec

variable (m : (ℓ : Loc nD τ sig) → Buf (Elt Ideal) ℓ)

/-- The activated convolution at an index. -/
theorem pay1 (x : FVec Ideal S32x2560 .f32) (w : FVec Ideal S4x2560 .f32) (b : FVec Ideal S1x2560 .f32)
    (p q s : FVec Ideal S1x32x2560 .f32) (r : Fin 32) (n : Fin 2560) :
    k0_pay1 (F := Ideal) x w b p q s (ix2 r n)
      = act (taps (p (ix3 0 r n)) (q (ix3 0 r n)) (s (ix3 0 r n)) (x (ix2 r n)) (w (ix2 0 n)) (w (ix2 1 n)) (w (ix2 2 n)) (w (ix2 3 n))
          (b (ix2 0 n))) := by
  pointwise [k0_pay1]
  unfold act taps sigm
  rw [zero_sub, show b (ix2 0 n) + w (ix2 3 n) * x (ix2 r n) + w (ix2 0 n) * p (ix3 0 r n) + w (ix2 1 n) * q (ix3 0 r n) + w (ix2 2 n) * s (ix3 0 r n)
    = b (ix2 0 n) + w (ix2 0 n) * p (ix3 0 r n) + w (ix2 1 n) * q (ix3 0 r n) + w (ix2 2 n) * s (ix3 0 r n) + w (ix2 3 n) * x (ix2 r n) by abel]

theorem pay6 (y : FVec Ideal S32x1024 .f32) (Y : ℕ → EReal) (r : Fin 32) (hy : ∀ n : Fin 1024, y (ix2 r n) = Y n.val)
    (n : Fin 128) : k0_pay6 (F := Ideal) y (ix2 r n) = hd Y 128 (128 + n.val) := by
  pointwise [k0_pay6]
  simp only [hy]
  rfl

theorem pay7 (y : FVec Ideal S32x1024 .f32) (Y : ℕ → EReal) (r : Fin 32) (hy : ∀ n : Fin 1024, y (ix2 r n) = Y n.val)
    (n : Fin 128) : k0_pay7 (F := Ideal) y (ix2 r n) = hd Y 256 (256 + n.val) := by
  pointwise [k0_pay7]
  simp only [hy]
  rfl

theorem pay8 (y : FVec Ideal S32x1024 .f32) (Y : ℕ → EReal) (r : Fin 32) (hy : ∀ n : Fin 1024, y (ix2 r n) = Y n.val)
    (n : Fin 128) : k0_pay8 (F := Ideal) y (ix2 r n) = hd Y 384 (384 + n.val) := by
  pointwise [k0_pay8]
  simp only [hy]
  rfl

theorem pay9 (y : FVec Ideal S32x1024 .f32) (Y : ℕ → EReal) (r : Fin 32) (hy : ∀ n : Fin 1024, y (ix2 r n) = Y n.val)
    (n : Fin 128) : k0_pay9 (F := Ideal) y (ix2 r n) = hd Y 512 (512 + n.val) := by
  pointwise [k0_pay9]
  simp only [hy]
  rfl

theorem pay10 (y : FVec Ideal S32x1024 .f32) (Y : ℕ → EReal) (r : Fin 32) (hy : ∀ n : Fin 1024, y (ix2 r n) = Y n.val)
    (n : Fin 128) : k0_pay10 (F := Ideal) y (ix2 r n) = hd Y 640 (640 + n.val) := by
  pointwise [k0_pay10]
  simp only [hy]
  rfl

/-- What the body stores, at an index, from the activated row. -/
theorem body (x : FVec Ideal S32x2560 .f32) (w : FVec Ideal S4x2560 .f32) (b : FVec Ideal S1x2560 .f32)
    (p q s : FVec Ideal S1x32x2560 .f32) (Y : ℕ → EReal) (r : Fin 32)
    (hy : ∀ n : Fin 2560, k0_pay1 (F := Ideal) x w b p q s (ix2 r n) = Y n.val) (n : Fin 2560) :
    k0_pay11 (F := Ideal) (k0_pay1 x w b p q s) (k0_pay2 x w b p q s) (k0_pay5 (k0_pay3 x w b p q s) (k0_pay4 x w b p q s) (FloatOps.ofBits FTy.f32 897988541#32))
      (k0_pay6 (k0_pay2 x w b p q s)) (k0_pay7 (k0_pay2 x w b p q s)) (k0_pay8 (k0_pay2 x w b p q s)) (k0_pay9 (k0_pay2 x w b p q s)) (k0_pay10 (k0_pay2 x w b p q s))
      (ix2 r n) = nrm Y n.val := by
  have h2 : ∀ n : Fin 1024, k0_pay2 (F := Ideal) x w b p q s (ix2 r n) = Y n.val := by
    intro n
    pointwise [k0_pay2]
    exact hy _
  have h5 : ∀ n : Fin 128, k0_pay5 (F := Ideal) (k0_pay3 x w b p q s) (k0_pay4 x w b p q s) (FloatOps.ofBits FTy.f32 897988541#32) (ix2 r n) = hd Y 0 n.val := by
    intro n
    pointwise [k0_pay5, k0_pay4, k0_pay3]
    simp only [h2]
    unfold hd
    simp only [Nat.zero_add]
  have h6 := pay6 (k0_pay2 (F := Ideal) x w b p q s) Y r h2
  have h7 := pay7 (k0_pay2 (F := Ideal) x w b p q s) Y r h2
  have h8 := pay8 (k0_pay2 (F := Ideal) x w b p q s) Y r h2
  have h9 := pay9 (k0_pay2 (F := Ideal) x w b p q s) Y r h2
  have h10 := pay10 (k0_pay2 (F := Ideal) x w b p q s) Y r h2
  generalize k0_pay5 (F := Ideal) (k0_pay3 x w b p q s) (k0_pay4 x w b p q s) (FloatOps.ofBits FTy.f32 897988541#32) = a5 at h5 ⊢
  generalize k0_pay6 (F := Ideal) (k0_pay2 x w b p q s) = a6 at h6 ⊢
  generalize k0_pay7 (F := Ideal) (k0_pay2 x w b p q s) = a7 at h7 ⊢
  generalize k0_pay8 (F := Ideal) (k0_pay2 x w b p q s) = a8 at h8 ⊢
  generalize k0_pay9 (F := Ideal) (k0_pay2 x w b p q s) = a9 at h9 ⊢
  generalize k0_pay10 (F := Ideal) (k0_pay2 x w b p q s) = a10 at h10 ⊢
  generalize k0_pay2 (F := Ideal) x w b p q s = a2 at h2 ⊢
  generalize k0_pay1 (F := Ideal) x w b p q s = a1 at hy ⊢
  pointwise [k0_pay11]
  unfold nrm
  by_cases c0 : n.val < 1024
  · rw [dif_pos c0, if_pos c0]
    by_cases g0 : n.val < 128
    · rw [dif_pos g0, show n.val / 128 * 128 = 0 by omega]
      exact h5 _
    rw [dif_neg g0]
    by_cases g1 : n.val - 128 < 128
    · rw [dif_pos g1, show n.val / 128 * 128 = 128 by omega]
      refine (h6 _).trans (congrArg (hd Y 128) ?_)
      show 128 + (n.val - 128) = n.val; omega
    rw [dif_neg g1]
    by_cases g2 : n.val - 128 - 128 < 128
    · rw [dif_pos g2, show n.val / 128 * 128 = 256 by omega]
      refine (h7 _).trans (congrArg (hd Y 256) ?_)
      show 256 + (n.val - 128 - 128) = n.val; omega
    rw [dif_neg g2]
    by_cases g3 : n.val - 128 - 128 - 128 < 128
    · rw [dif_pos g3, show n.val / 128 * 128 = 384 by omega]
      refine (h8 _).trans (congrArg (hd Y 384) ?_)
      show 384 + (n.val - 128 - 128 - 128) = n.val; omega
    rw [dif_neg g3]
    by_cases g4 : n.val - 128 - 128 - 128 - 128 < 128
    · rw [dif_pos g4, show n.val / 128 * 128 = 512 by omega]
      refine (h9 _).trans (congrArg (hd Y 512) ?_)
      show 512 + (n.val - 128 - 128 - 128 - 128) = n.val; omega
    rw [dif_neg g4]
    by_cases g5 : n.val - 128 - 128 - 128 - 128 - 128 < 128
    · rw [dif_pos g5, show n.val / 128 * 128 = 640 by omega]
      refine (h10 _).trans (congrArg (hd Y 640) ?_)
      show 640 + (n.val - 128 - 128 - 128 - 128 - 128) = n.val; omega
    rw [dif_neg g5]
    by_cases g6 : n.val - 128 - 128 - 128 - 128 - 128 - 128 < 128
    · rw [dif_pos g6, show n.val / 128 * 128 = 768 by omega]
      simp only [h2]
      unfold hd
      rw [show 768 + (n.val - 128 - 128 - 128 - 128 - 128 - 128) = n.val by omega]
    rw [dif_neg g6]
    rw [show n.val / 128 * 128 = 896 by omega]
    simp only [h2]
    unfold hd
    rw [show 896 + (n.val - 128 - 128 - 128 - 128 - 128 - 128 - 128) = n.val by omega]
  · rw [dif_neg c0, if_neg c0]
    refine (hy _).trans (congrArg Y ?_)
    show 1024 + (n.val - 1024) = n.val; omega

theorem pay12 (y : FVec Ideal S1x32x2560 .f32) (z : Fin 1) (r : Fin 32) (n : Fin 2560) :
    k0_pay12 (F := Ideal) y (ix3 z r n) = y (ix3 z r n) := by
  pointwise [k0_pay12]

theorem pay13 (y : FVec Ideal S1x32x2560 .f32) (z : Fin 1) (r : Fin 32) (n : Fin 2560) :
    k0_pay13 (F := Ideal) y (ix3 z r n) = y (ix3 z r n) := by
  pointwise [k0_pay13]

theorem pay14 (y : FVec Ideal S32x2560 .f32) (z : Fin 1) (r : Fin 32) (n : Fin 2560) :
    k0_pay14 (F := Ideal) y (ix3 z r n) = y (ix2 r n) := by
  pointwise [k0_pay14]

/-- Every window's block index: the grid has one point. -/
theorem idx : ∀ t : Fin cfg0.N, win0_0.index t = ![0, 0] ∧ win0_1.index t = ![0, 0, 0]
    ∧ win0_2.index t = ![0, 0] ∧ win0_3.index t = ![0, 0] ∧ win0_4.index t = ![0, 0] ∧ win0_5.index t = ![0, 0, 0] :=
  (by decide +kernel : ∀ t : Fin grid0.N, _)

/-- The argument arrays as plain functions: the token's rows, the three earlier rows, the weights, the bias. -/
def aX (c : Dev nD) (r : Fin 32) (n : Fin 2560) : EReal := (m ((c : Thread nD τ).loc main_arg0) : FVec Ideal S32x2560 .f32) (ix2 r n)
def aS (c : Dev nD) (r : Fin 32) (j : Fin 3) (n : Fin 2560) : EReal := (m ((c : Thread nD τ).loc main_arg1) : FVec Ideal S32x3x2560 .f32) (ix3 r j n)
def aW (c : Dev nD) (j : Fin 4) (n : Fin 2560) : EReal := (m ((c : Thread nD τ).loc main_arg2) : FVec Ideal S4x2560 .f32) (ix2 j n)
def aB (c : Dev nD) (n : Fin 2560) : EReal := (m ((c : Thread nD τ).loc main_arg3) : FVec Ideal S2560 .f32) (ix1 n)

theorem blk0 (c : Dev nD) (t : Fin cfg0.N) (r : Fin 32) (n : Fin 2560) :
    (iblk m c 0 t : FVec Ideal S32x2560 .f32) (ix2 r n) = aX m c r n := by
  unfold aX
  blk_ext [iblk, V, idx t]

theorem blk1 (c : Dev nD) (t : Fin cfg0.N) (j : Fin 3) (r : Fin 32) (n : Fin 2560) :
    (iblk m c 1 t : FVec Ideal S3x32x2560 .f32) (ix3 j r n) = aS m c r j n := by
  unfold aS
  blk_point [iblk, V, idx t]

theorem blk2 (c : Dev nD) (t : Fin cfg0.N) (j : Fin 4) (n : Fin 2560) :
    (iblk m c 2 t : FVec Ideal S4x2560 .f32) (ix2 j n) = aW m c j n := by
  unfold aW
  blk_ext [iblk, V, idx t]

theorem blk3 (c : Dev nD) (t : Fin cfg0.N) (z : Fin 1) (n : Fin 2560) :
    (iblk m c 3 t : FVec Ideal S1x2560 .f32) (ix2 z n) = aB m c n := by
  unfold aB
  blk_point [iblk, V, idx t]

/-- Row 0 of the earlier rows' block, loaded alone. -/
theorem ld0 (x : FVec Ideal S3x32x2560 .f32) (z : Fin 1) (r : Fin 32) (n : Fin 2560) :
    View.ld (Val := Elt Ideal) (e' := .f32) x r0_3 (ix3 z r n) = x (ix3 0 r n) := by
  refine View.ld_unit_apply_of (Val := Elt Ideal) (e := .f32) x ![0, 0, 0] S1x32x2560.size inb_S3x32x2560_S1x32x2560_0_0_0 (ix3 z r n) (ix3 0 r n) ?_
  intro a
  match a with
  | ⟨0, _⟩ => show 0 = 0 + z.val; omega
  | ⟨1, _⟩ => show r.val = 0 + r.val; omega
  | ⟨2, _⟩ => show n.val = 0 + n.val; omega

/-- Row 1 of the earlier rows' block, loaded alone. -/
theorem ld1 (x : FVec Ideal S3x32x2560 .f32) (z : Fin 1) (r : Fin 32) (n : Fin 2560) :
    View.ld (Val := Elt Ideal) (e' := .f32) x r0_4 (ix3 z r n) = x (ix3 1 r n) := by
  refine View.ld_unit_apply_of (Val := Elt Ideal) (e := .f32) x ![1, 0, 0] S1x32x2560.size inb_S3x32x2560_S1x32x2560_1_0_0 (ix3 z r n) (ix3 1 r n) ?_
  intro a
  match a with
  | ⟨0, _⟩ => show 1 = 1 + z.val; omega
  | ⟨1, _⟩ => show r.val = 0 + r.val; omega
  | ⟨2, _⟩ => show n.val = 0 + n.val; omega

/-- Row 2 of the earlier rows' block, loaded alone. -/
theorem ld2 (x : FVec Ideal S3x32x2560 .f32) (z : Fin 1) (r : Fin 32) (n : Fin 2560) :
    View.ld (Val := Elt Ideal) (e' := .f32) x r0_5 (ix3 z r n) = x (ix3 2 r n) := by
  refine View.ld_unit_apply_of (Val := Elt Ideal) (e := .f32) x ![2, 0, 0] S1x32x2560.size inb_S3x32x2560_S1x32x2560_2_0_0 (ix3 z r n) (ix3 2 r n) ?_
  intro a
  match a with
  | ⟨0, _⟩ => show 2 = 2 + z.val; omega
  | ⟨1, _⟩ => show r.val = 0 + r.val; omega
  | ⟨2, _⟩ => show n.val = 0 + n.val; omega

/-- One sample's activated row. -/
abbrev row (c : Dev nD) (r : Fin 32) (n : ℕ) : EReal := conv (aS m c r 0) (aS m c r 1) (aS m c r 2) (aX m c r) (aW m c) (aB m c) n

/-- The convolution's rows, as an array. -/
def out (c : Dev nD) : FVec Ideal S32x2560 .f32 := fun i => nrm (row m c ⟨(i 0).val, (i 0).isLt⟩) (i 1).val

theorem out_at (c : Dev nD) (r : Fin 32) (n : Fin 2560) : out m c (ix2 r n) = nrm (row m c r) n.val := rfl

/-- The row that follows in the buffer: the next earlier one, or the token's own. -/
def nb (c : Dev nD) (j : Fin 3) (r : Fin 32) (n : Fin 2560) : EReal := if h : 1 + j.val < 3 then aS m c r ⟨1 + j.val, h⟩ n else aX m c r n

/-- The next buffer, as an array. -/
def buf (c : Dev nD) : FVec Ideal S3x32x2560 .f32 := fun i => nb m c ⟨(i 0).val, (i 0).isLt⟩ ⟨(i 1).val, (i 1).isLt⟩ ⟨(i 2).val, (i 2).isLt⟩

theorem buf_at (c : Dev nD) (j : Fin 3) (r : Fin 32) (n : Fin 2560) : buf m c (ix3 j r n) = nb m c j r n := rfl

/-- What the point leaves in the block of the rows. -/
theorem point4 (c : Dev nD) (t : Fin cfg0.N) (r : Fin 32) (n : Fin 2560) :
    out0_4 (F := Ideal) (iblk m c 0 t) (iblk m c 1 t) (iblk m c 2 t) (iblk m c 3 t) (ix2 r n) = nrm (row m c r) n.val := by
  unfold_out out0_4
  frame_out
  refine body _ _ _ _ _ _ (row m c r) r (fun n => ?_) n
  refine (pay1 _ _ _ _ _ _ r n).trans ?_
  unfold row conv
  rw [dif_pos n.isLt, blk0 m c t r n, blk2 m c t 0 n, blk2 m c t 1 n, blk2 m c t 2 n, blk2 m c t 3 n, blk3 m c t 0 n]
  refine congrArg act ?_
  unfold taps
  refine congrArg₂ (· + ·) (congrArg₂ (· + ·) (congrArg₂ (· + ·) (congrArg₂ (· + ·) rfl (congrArg (aW m c 0 n * ·) ?_)) (congrArg (aW m c 1 n * ·) ?_))
    (congrArg (aW m c 2 n * ·) ?_)) rfl
  · exact (ld0 (iblk m c 1 t) 0 r n).trans (blk1 m c t 0 r n)
  · exact (ld1 (iblk m c 1 t) 0 r n).trans (blk1 m c t 1 r n)
  · exact (ld2 (iblk m c 1 t) 0 r n).trans (blk1 m c t 2 r n)

/-- Three stored rows of a buffer, read back at an index. -/
theorem three (a0 a1 a2 : FVec Ideal S1x32x2560 .f32) (f : Fin 3 → Fin 32 → Fin 2560 → EReal)
    (h0 : ∀ z r n, a0 (ix3 z r n) = f 0 r n) (h1 : ∀ z r n, a1 (ix3 z r n) = f 1 r n) (h2 : ∀ z r n, a2 (ix3 z r n) = f 2 r n)
    (j : Fin 3) (r : Fin 32) (n : Fin 2560) :
    View.canon (Val := Elt Ideal) (e := .f32) (s := S3x32x2560) [⟨r0_5, a2⟩, ⟨r0_4, a1⟩, ⟨r0_3, a0⟩] (ix3 j r n) = f j r n := by
  refine View.canon_apply_of_pieces (Val := Elt Ideal) (e := .f32)
    (fun y : S3x32x2560.Idx => f ⟨(y 0).val, (y 0).isLt⟩ ⟨(y 1).val, (y 1).isLt⟩ ⟨(y 2).val, (y 2).isLt⟩) _ ?_ (ix3 j r n) ?_
  · intro pc hpc x
    rcases List.mem_cons.mp hpc with rfl | hpc
    · have hx : x = ix3 (⟨(x 0).val, (x 0).isLt⟩ : Fin 1) (⟨(x 1).val, (x 1).isLt⟩ : Fin 32) (⟨(x 2).val, (x 2).isLt⟩ : Fin 2560) := by
        funext a
        match a with
        | ⟨0, _⟩ => rfl
        | ⟨1, _⟩ => rfl
        | ⟨2, _⟩ => rfl
      have hz : (x 0).val < 1 := (x 0).isLt
      refine (congrArg a2 hx).trans ((h2 _ _ _).trans ?_)
      refine congr (congr (congrArg f (Fin.ext ?_)) (Fin.ext ?_)) (Fin.ext ?_)
      · show 2 = 2 + 1 * (x 0).val; omega
      · show (x 1).val = 0 + 1 * (x 1).val; omega
      · show (x 2).val = 0 + 1 * (x 2).val; omega
    rcases List.mem_cons.mp hpc with rfl | hpc
    · have hx : x = ix3 (⟨(x 0).val, (x 0).isLt⟩ : Fin 1) (⟨(x 1).val, (x 1).isLt⟩ : Fin 32) (⟨(x 2).val, (x 2).isLt⟩ : Fin 2560) := by
        funext a
        match a with
        | ⟨0, _⟩ => rfl
        | ⟨1, _⟩ => rfl
        | ⟨2, _⟩ => rfl
      have hz : (x 0).val < 1 := (x 0).isLt
      refine (congrArg a1 hx).trans ((h1 _ _ _).trans ?_)
      refine congr (congr (congrArg f (Fin.ext ?_)) (Fin.ext ?_)) (Fin.ext ?_)
      · show 1 = 1 + 1 * (x 0).val; omega
      · show (x 1).val = 0 + 1 * (x 1).val; omega
      · show (x 2).val = 0 + 1 * (x 2).val; omega
    rcases List.mem_cons.mp hpc with rfl | hpc
    · have hx : x = ix3 (⟨(x 0).val, (x 0).isLt⟩ : Fin 1) (⟨(x 1).val, (x 1).isLt⟩ : Fin 32) (⟨(x 2).val, (x 2).isLt⟩ : Fin 2560) := by
        funext a
        match a with
        | ⟨0, _⟩ => rfl
        | ⟨1, _⟩ => rfl
        | ⟨2, _⟩ => rfl
      have hz : (x 0).val < 1 := (x 0).isLt
      refine (congrArg a0 hx).trans ((h0 _ _ _).trans ?_)
      refine congr (congr (congrArg f (Fin.ext ?_)) (Fin.ext ?_)) (Fin.ext ?_)
      · show 0 = 0 + 1 * (x 0).val; omega
      · show (x 1).val = 0 + 1 * (x 1).val; omega
      · show (x 2).val = 0 + 1 * (x 2).val; omega
    nomatch hpc
  · have hj := j.isLt
    by_cases g2 : j.val = 2
    · refine ⟨_, List.mem_cons_self, ?_⟩
      rw [Rect.mem_set_unit]
      intro a
      match a with
      | ⟨0, _⟩ => show 2 ≤ j.val ∧ j.val < 2 + 1; omega
      | ⟨1, _⟩ => show 0 ≤ r.val ∧ r.val < 0 + 32; omega
      | ⟨2, _⟩ => show 0 ≤ n.val ∧ n.val < 0 + 2560; omega
    by_cases g1 : j.val = 1
    · refine ⟨_, List.mem_cons_of_mem _ List.mem_cons_self, ?_⟩
      rw [Rect.mem_set_unit]
      intro a
      match a with
      | ⟨0, _⟩ => show 1 ≤ j.val ∧ j.val < 1 + 1; omega
      | ⟨1, _⟩ => show 0 ≤ r.val ∧ r.val < 0 + 32; omega
      | ⟨2, _⟩ => show 0 ≤ n.val ∧ n.val < 0 + 2560; omega
    · refine ⟨_, List.mem_cons_of_mem _ (List.mem_cons_of_mem _ List.mem_cons_self), ?_⟩
      rw [Rect.mem_set_unit]
      intro a
      match a with
      | ⟨0, _⟩ => show 0 ≤ j.val ∧ j.val < 0 + 1; omega
      | ⟨1, _⟩ => show 0 ≤ r.val ∧ r.val < 0 + 32; omega
      | ⟨2, _⟩ => show 0 ≤ n.val ∧ n.val < 0 + 2560; omega

/-- What the point leaves in the block of the buffer. -/
theorem point5 (c : Dev nD) (t : Fin cfg0.N) (j : Fin 3) (r : Fin 32) (n : Fin 2560) :
    out0_5 (F := Ideal) (iblk m c 0 t) (iblk m c 1 t) (iblk m c 2 t) (iblk m c 3 t) (ix3 j r n) = nb m c j r n := by
  unfold out0_5
  refine three _ _ _ (nb m c) (fun z r n => ?_) (fun z r n => ?_) (fun z r n => ?_) j r n
  · exact (pay12 _ z r n).trans ((ld1 (iblk m c 1 t) z r n).trans (blk1 m c t 1 r n))
  · exact (pay13 _ z r n).trans ((ld2 (iblk m c 1 t) z r n).trans (blk1 m c t 2 r n))
  · refine (pay14 _ z r n).trans (Eq.trans ?_ (blk0 m c t r n))
    refine View.ld_unit_apply_of (Val := Elt Ideal) (e := .f32) (iblk m c 0 t : FVec Ideal S32x2560 .f32) ![0, 0] S32x2560.size
      inb_S32x2560_S32x2560_0_0 (ix2 r n) (ix2 r n) ?_
    intro a
    match a with
    | ⟨0, _⟩ => show r.val = 0 + r.val; omega
    | ⟨1, _⟩ => show n.val = 0 + n.val; omega

theorem emb4 (t : Fin cfg0.N) (r : Fin 32) (n : Fin 2560) : ((cfg0.win 4).blk t).view.emb (ix2 r n) = ix2 r n := by
  funext a
  match a with
  | ⟨0, _⟩ => apply Fin.ext; blk_simp [idx t]
  | ⟨1, _⟩ => apply Fin.ext; blk_simp [idx t]

theorem emb5 (t : Fin cfg0.N) (j : Fin 3) (r : Fin 32) (n : Fin 2560) : ((cfg0.win 5).blk t).view.emb (ix3 j r n) = ix3 j r n := by
  funext a
  match a with
  | ⟨0, _⟩ => apply Fin.ext; blk_simp [idx t]
  | ⟨1, _⟩ => apply Fin.ext; blk_simp [idx t]
  | ⟨2, _⟩ => apply Fin.ext; blk_simp [idx t]

/-- After the run the first result array is the convolution's rows. -/
theorem final4 (c : Dev nD) : (dats m 0 c).arrAt 4 cfg0.N = out m c := by
  refine (dats m 0 c).arrAt_eq_of_covers 4 _ (by decide +kernel) fun t hf y => ?_
  blk_simp
  rw [after0_4]
  idx_vars y
  refine Eq.trans ?_ (congrArg (out m c) (emb4 t y0 y1).symm)
  exact point4 m c t y0 y1

/-- After the run the second result array is the next buffer. -/
theorem final5 (c : Dev nD) : (dats m 0 c).arrAt 5 cfg0.N = buf m c := by
  refine (dats m 0 c).arrAt_eq_of_covers 5 _ (by decide +kernel) fun t hf y => ?_
  blk_simp
  rw [after0_5]
  idx_vars y
  refine Eq.trans ?_ (congrArg (buf m c) (emb5 t y0 y1 y2).symm)
  exact point5 m c t y0 y1 y2

end Cert.Kernel6Ideal.Conv
-- ==== Proof.ConvRef.lean ====
/-
  The convolution's reference read at an index: the taps, the activation, the normalised heads and the next buffer.
-/
module

public import proofs.«01_k».proof.Proof.Gen.Reference6Ideal.Run
public import proofs.«01_k».proof.Proof.Gen.Reference6Ideal.Read
public import proofs.«01_k».proof.Proof.ConvSpec
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Reference6Ideal.Conv

open Cert.Reference6Ideal Cert.Reference6Ideal.Read Cert.MergeSpec Cert.ConvSpec

variable (x : FVec Ideal S32x2560 .f32) (s : FVec Ideal S32x3x2560 .f32) (w : FVec Ideal S4x2560 .f32) (b : FVec Ideal S2560 .f32)

/-- One sample's activated row, from the arrays. -/
abbrev row (r : Fin 32) (n : ℕ) : EReal :=
  conv (fun n => s (ix3 r 0 n)) (fun n => s (ix3 r 1 n)) (fun n => s (ix3 r 2 n)) (fun n => x (ix2 r n)) (fun j n => w (ix2 j n)) (fun n => b (ix1 n)) n

theorem v31_at (r : Fin 32) (z : Fin 1) (n : Fin 2560) : val_main_v31 (F := Ideal) x s w b (ix3 r z n)
    = taps (s (ix3 r 0 n)) (s (ix3 r 1 n)) (s (ix3 r 2 n)) (x (ix2 r n)) (w (ix2 0 n)) (w (ix2 1 n)) (w (ix2 2 n)) (w (ix2 3 n)) (b (ix1 n)) := by
  pointwise [val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0]
  rfl

theorem v32_at (r : Fin 32) (z : Fin 1) (n : Fin 2560) : val_main_v32 (F := Ideal) x s w b (ix3 r z n) = row x s w b r n.val := by
  pointwise [val_main_v32, val_main_call0_v5, val_main_call0_v4, val_main_call0_v3, val_main_call0_v2, val_main_call0_v1, val_main_call0_v0, val_main_call0_cst, val_main_call0_cst_0]
  rw [v31_at x s w b r z n]
  unfold row conv
  rw [dif_pos n.isLt]
  rfl

theorem v42_at (r : Fin 32) (z : Fin 1) (h : Fin 8) (d : Fin 128) : val_main_v42 (F := Ideal) x s w b (ix4 r z h d)
    = hd (row x s w b r) (h.val * 128) (h.val * 128 + d.val) := by
  pointwise [val_main_v42, val_main_v41, val_main_v40, val_main_v39, val_main_v38, val_main_v37, val_main_v36, val_main_v35, val_main_v34, val_main_v33, val_main_cst, val_main_cst_0]
  simp only [v32_at]
  rfl

/-- The reference's rows at an index. -/
theorem v46_at (r : Fin 32) (n : Fin 2560) : val_main_v46 (F := Ideal) x s w b (ix2 r n) = nrm (row x s w b r) n.val := by
  pointwise [val_main_v46, val_main_v45, val_main_v44, val_main_v43]
  unfold nrm
  by_cases c0 : n.val < 1024
  · rw [dif_pos c0, if_pos c0]
    refine (v42_at x s w b r _ _ _).trans (congrArg (hd (row x s w b r) (n.val / 128 * 128)) ?_)
    show n.val / 128 * 128 + n.val % 128 = n.val; omega
  · rw [dif_neg c0, if_neg c0]
    refine (v32_at x s w b r _ _).trans (congrArg (row x s w b r) ?_)
    show 1024 + (n.val - 1024) = n.val; omega

/-- The reference's next buffer at an index. -/
theorem v48_at (j : Fin 3) (r : Fin 32) (n : Fin 2560) : val_main_v48 (F := Ideal) x s (ix3 j r n)
    = if h : 1 + j.val < 3 then s (ix3 r ⟨1 + j.val, h⟩ n) else x (ix2 r n) := by
  pointwise [val_main_v48, val_main_v47, val_main_v1, val_main_v0]

end Cert.Reference6Ideal.Conv
-- ==== Proof.ConvClaim.lean ====
/-
  The convolution's claims: the reference's run, and the two programs' equal arrays.
-/
module

public import proofs.«01_k».proof.Defs
public import proofs.«01_k».proof.Proof.ConvArr
public import proofs.«01_k».proof.Proof.ConvRef
public import Idealize.ShloMosaic.Lib.Claim

@[expose] public section

set_option maxRecDepth 16384

noncomputable section

open Idealize.ShloMosaic Idealize.ShloMosaic.TcCoe Idealize.SL.Sem

namespace Cert.Proof.ConvClaim

/-- The reference leaves its arguments as launched and every counter at zero. -/
theorem frame_ref : Cert.quiescent_Reference6Ideal := fun m ρ _ =>
  (θ_run Cert.Reference6Ideal.defs _ _).mono (fun r h => ⟨fun c => (h c).2.2, sem_eq_zero_of_no_sems (by decide) r.2⟩)
    (Cert.Reference6Ideal.Value.run (F := Ideal) m ρ)

/-- The kernel and the reference end with the same two arrays. -/
theorem algebraic : Cert.algebraic_Kernel6Ideal_Reference6Ideal := by
  pair_intro
  · run_from Cert.Kernel6Ideal.Value.run_blocks m g
  · run_from Cert.Reference6Ideal.Value.run m' g'
    · obtain ⟨e0, e1, e2, e3⟩ := hagree c
      rw [Cert.Kernel6Ideal.Conv.final4 m c, Cert.Reference6Ideal.Read.val_main_v46_eq, e0, e1, e2, e3]
      funext i
      idx_vars i
      exact (Cert.Reference6Ideal.Conv.v46_at _ _ _ _ i0 i1).trans (Cert.Kernel6Ideal.Conv.out_at m c i0 i1).symm
    · rw [Cert.Kernel6Ideal.Conv.final5 m c, Cert.Reference6Ideal.Read.val_main_v48_eq]
      funext i
      idx_vars i
      exact (Cert.Reference6Ideal.Conv.v48_at _ _ i0 i1 i2).trans (Cert.Kernel6Ideal.Conv.buf_at m c i0 i1 i2).symm

end Cert.Proof.ConvClaim
-- ==== Proof.CpSpec.lean ====
/-
  The short convolution along a whole sequence, as plain mathematics over the extended reals.
-/
module

public import proofs.«01_k».proof.Proof.ConvSpec

@[expose] public section

set_option maxRecDepth 16384

noncomputable section

open Idealize.ShloMosaic

namespace Cert.CpSpec

open Cert.ConvSpec

/-- The row `d` before row `r` of a sequence, zero where the sequence has not begun. -/
def prev (X : Fin 2048 → Fin 2560 → EReal) (d : ℕ) (r : Fin 2048) (n : Fin 2560) : EReal :=
  if d ≤ r.val then X ⟨r.val - d, lt_of_le_of_lt (Nat.sub_le _ _) r.isLt⟩ n else 0

/-- Row `r` of a sequence after the convolution and the activation, by its column. -/
def row (X : Fin 2048 → Fin 2560 → EReal) (w : Fin 4 → Fin 2560 → EReal) (b : Fin 2560 → EReal) (r : Fin 2048) (n : ℕ) : EReal :=
  conv (prev X 3 r) (prev X 2 r) (prev X 1 r) (X r) w b n

end Cert.CpSpec
-- ==== Proof.CpArr.lean ====
/-
  The prompt convolution's kernel: the activated rows, the normalised heads, the last rows, and both result arrays after
  the run.
-/
module

public import proofs.«01_k».proof.Proof.Gen.Kernel7Ideal.Value
public import proofs.«01_k».proof.Proof.CpSpec
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel7Ideal.Cp

open Cert.Kernel7Ideal Cert.Kernel7Ideal.Gen Cert.MergeSpec Cert.ConvSpec Cert.CpSpec

/-- The block's row `d` before row `r`, zero where there is none. -/
def sh (x : FVec Ideal S2048x512 .f32) (d : ℕ) (r : Fin 2048) (n : Fin 512) : EReal :=
  if d ≤ r.val then x (ix2 ⟨r.val - d, lt_of_le_of_lt (Nat.sub_le _ _) r.isLt⟩ n) else 0

/-- The kernel's shifted row: rotated, and masked where the rotation wraps. -/
theorem selrow (x : FVec Ideal S2048x512 .f32) (v : EReal) (d : ℕ) (h0 : 0 < d) (hd : d < 2048) (r : Fin 2048) (n : Fin 512)
    (hlt : (r.val + 2048 - d) % 2048 < 2048) :
    Scalar.select (IntOp.cmpi .sge (BitVec.ofNat 32 r.val) (BitVec.ofNat 32 d)) (v * x (ix2 ⟨(r.val + 2048 - d) % 2048, hlt⟩ n)) 0
      = v * sh x d r n := by
  have hr := r.isLt
  rw [WordCmp.cmpi_sge_ofNat (by omega) (by omega)]
  unfold sh
  by_cases h : d ≤ r.val
  · rw [if_pos h, decide_eq_true h]
    refine congrArg (fun k => v * x (ix2 k n)) (Fin.ext ?_)
    show (r.val + 2048 - d) % 2048 = r.val - d
    omega
  · rw [if_neg h, decide_eq_false h, mul_zero]
    rfl

theorem pay4 (x : FVec Ideal S2048x512 .f32) (w : FVec Ideal S4x512 .f32) (b : FVec Ideal S1x512 .f32) (r : Fin 2048) (n : Fin 512) :
    k0_pay4 (F := Ideal) x w b (ix2 r n) = taps (sh x 3 r n) (sh x 2 r n) (sh x 1 r n) (x (ix2 r n)) (w (ix2 0 n)) (w (ix2 1 n))
      (w (ix2 2 n)) (w (ix2 3 n)) (b (ix2 0 n)) := by
  pointwise [k0_pay4]
  rw [selrow x _ 1 (by decide) (by decide) r n, selrow x _ 2 (by decide) (by decide) r n, selrow x _ 3 (by decide) (by decide) r n]
  unfold taps
  abel

theorem pay1 (x : FVec Ideal S2048x512 .f32) (w : FVec Ideal S4x512 .f32) (b : FVec Ideal S1x512 .f32) (r : Fin 2048) (n : Fin 512) :
    k0_pay1 (F := Ideal) (k0_pay4 x w b) (k0_pay5 x w b) k0_pay6 (ix2 r n) = act (k0_pay4 (F := Ideal) x w b (ix2 r n)) := by
  pointwise [k0_pay1, k0_pay5, k0_pay6]
  unfold act sigm
  rw [zero_sub]

theorem pay2 (x : FVec Ideal S2048x512 .f32) (z : Fin 1) (j : Fin 3) (n : Fin 512) :
    k0_pay2 (F := Ideal) x (ix3 z j n) = x (ix2 ⟨2045 + j.val, by omega⟩ n) := by
  pointwise [k0_pay2]

/-- The heads of one block divided by their length; the block's columns begin at column `B`. -/
theorem pay3 (x y z : FVec Ideal S2048x512 .f32) (Y : ℕ → EReal) (B : ℕ) (hB : B % 128 = 0) (r : Fin 2048)
    (hy : ∀ n : Fin 512, k0_pay1 (F := Ideal) x y z (ix2 r n) = Y (B + n.val)) (n : Fin 512) :
    k0_pay3 (F := Ideal) x y z (ix2 r n) = hd Y ((B + n.val) / 128 * 128) (B + n.val) := by
  have hn := n.isLt
  pointwise [k0_pay3]
  simp only [hy]
  by_cases g0 : n.val < 128
  · rw [dif_pos g0, show (B + n.val) / 128 * 128 = B by omega]
    rfl
  rw [dif_neg g0]
  by_cases g1 : n.val - 128 < 128
  · rw [dif_pos g1, show (B + n.val) / 128 * 128 = B + 128 by omega, show 128 + (n.val - 128) = n.val by omega]
    unfold hd
    simp only [Nat.add_assoc]
  rw [dif_neg g1]
  by_cases g2 : n.val - 128 - 128 < 128
  · rw [dif_pos g2, show (B + n.val) / 128 * 128 = B + 256 by omega, show 256 + (n.val - 128 - 128) = n.val by omega]
    unfold hd
    simp only [Nat.add_assoc]
  · rw [dif_neg g2, show (B + n.val) / 128 * 128 = B + 384 by omega, show 384 + (n.val - 128 - 128 - 128) = n.val by omega]
    unfold hd
    simp only [Nat.add_assoc]

variable (m : (ℓ : Loc nD τ sig) → Buf (Elt Ideal) ℓ)

/-- Every window's block index: the sequence and the tile of 512 columns. -/
theorem idx : ∀ t : Fin cfg0.N, win0_0.index t = ![t.val / 5, 6 + t.val % 5] ∧ win0_1.index t = ![0, t.val % 5]
    ∧ win0_2.index t = ![0, t.val % 5] ∧ win0_3.index t = ![t.val / 5, t.val % 5] ∧ win0_4.index t = ![t.val / 5, 0, t.val % 5] :=
  (by decide +kernel : ∀ t : Fin grid0.N, _)

theorem lt40 (t : Fin cfg0.N) : t.val < 40 := lt_of_lt_of_eq t.isLt (show cfg0.N = 40 from N_0)

/-- The point's sequence. -/
def bat (t : Fin cfg0.N) : Fin 8 := ⟨t.val / 5, by have := lt40 t; omega⟩

/-- Column `n` of the point's tile, among all. -/
def col (t : Fin cfg0.N) (n : Fin 512) : Fin 2560 := ⟨512 * (t.val % 5) + n.val, by have := n.isLt; omega⟩

/-- The argument arrays as plain functions: the sequences' columns of the projection, the weights, the bias. -/
def aX (c : Dev nD) (s : Fin 8) (r : Fin 2048) (n : Fin 2560) : EReal :=
  (m ((c : Thread nD τ).loc main_arg0) : FVec Ideal S16384x7168 .f32) (ix2 ⟨s.val * 2048 + r.val, by omega⟩ ⟨3072 + n.val, by omega⟩)
def aW (c : Dev nD) (j : Fin 4) (n : Fin 2560) : EReal := (m ((c : Thread nD τ).loc main_arg1) : FVec Ideal S4x2560 .f32) (ix2 j n)
def aB (c : Dev nD) (n : Fin 2560) : EReal := (m ((c : Thread nD τ).loc main_arg2) : FVec Ideal S2560 .f32) (ix1 n)

theorem blk0 (c : Dev nD) (t : Fin cfg0.N) (r : Fin 2048) (n : Fin 512) :
    (iblk m c 0 t : FVec Ideal S2048x512 .f32) (ix2 r n) = aX m c (bat t) r (col t n) := by
  unfold aX
  blk_ext [iblk, V, idx t]
  · show t.val / 5 * 2048 + r.val = t.val / 5 * 2048 + r.val; omega
  · show (6 + t.val % 5) * 512 + n.val = 3072 + (512 * (t.val % 5) + n.val); omega

theorem blk1 (c : Dev nD) (t : Fin cfg0.N) (j : Fin 4) (n : Fin 512) :
    (iblk m c 1 t : FVec Ideal S4x512 .f32) (ix2 j n) = aW m c j (col t n) := by
  unfold aW
  blk_ext [iblk, V, idx t]
  · show t.val % 5 * 512 + n.val = 512 * (t.val % 5) + n.val; omega

theorem blk2 (c : Dev nD) (t : Fin cfg0.N) (z : Fin 1) (n : Fin 512) :
    (iblk m c 2 t : FVec Ideal S1x512 .f32) (ix2 z n) = aB m c (col t n) := by
  unfold aB
  blk_point [iblk, V, idx t]
  all_goals (show t.val % 5 * 512 + n.val = 512 * (t.val % 5) + n.val; omega)

theorem shb (c : Dev nD) (t : Fin cfg0.N) (d : ℕ) (r : Fin 2048) (n : Fin 512) :
    sh (iblk m c 0 t) d r n = prev (aX m c (bat t)) d r (col t n) := by
  unfold sh prev
  by_cases h : d ≤ r.val
  · rw [if_pos h, if_pos h]
    exact blk0 m c t _ n
  · rw [if_neg h, if_neg h]

/-- One activated row of a sequence. -/
abbrev arow (c : Dev nD) (s : Fin 8) (r : Fin 2048) (n : ℕ) : EReal := row (aX m c s) (aW m c) (aB m c) r n

theorem act_at (c : Dev nD) (t : Fin cfg0.N) (r : Fin 2048) (n : Fin 512) :
    k0_pay1 (F := Ideal) (k0_pay4 (iblk m c 0 t) (iblk m c 1 t) (iblk m c 2 t)) (k0_pay5 (iblk m c 0 t) (iblk m c 1 t) (iblk m c 2 t)) k0_pay6 (ix2 r n)
      = arow m c (bat t) r (512 * (t.val % 5) + n.val) := by
  refine (pay1 _ _ _ r n).trans ?_
  rw [pay4, shb m c t 3 r n, shb m c t 2 r n, shb m c t 1 r n, blk0 m c t r n, blk1 m c t 0 n, blk1 m c t 1 n, blk1 m c t 2 n, blk1 m c t 3 n,
    blk2 m c t 0 n]
  unfold arow row conv
  rw [dif_pos (show 512 * (t.val % 5) + n.val < 2560 from (col t n).isLt)]
  rfl

/-- What a point leaves in its block of the rows. -/
theorem point3 (c : Dev nD) (t : Fin cfg0.N) (r : Fin 2048) (n : Fin 512) :
    (outsAt0 m c t.val t.isLt).1 (ix2 r n) = nrm (arow m c (bat t) r) (512 * (t.val % 5) + n.val) := by
  have hn := n.isLt
  unfold nrm
  by_cases h : t.val % 5 ≤ 1
  · rw [outsAt0_A m c t h (by omega)]
    frame_out
    rw [if_pos (show 512 * (t.val % 5) + n.val < 1024 by omega)]
    exact pay3 _ _ _ (arow m c (bat t) r) (512 * (t.val % 5)) (by omega) r (act_at m c t r) n
  · rw [outsAt0_B m c t h (by omega)]
    frame_out
    rw [if_neg (show ¬512 * (t.val % 5) + n.val < 1024 by omega)]
    exact act_at m c t r n

/-- What a point leaves in its block of the last rows. -/
theorem point4 (c : Dev nD) (t : Fin cfg0.N) (z : Fin 1) (j : Fin 3) (n : Fin 512) :
    (outsAt0 m c t.val t.isLt).2 (ix3 z j n) = aX m c (bat t) ⟨2045 + j.val, by omega⟩ (col t n) := by
  by_cases h : t.val % 5 ≤ 1
  · rw [outsAt0_A m c t h (by omega)]
    frame_out
    exact (pay2 _ z j n).trans (blk0 m c t _ n)
  · rw [outsAt0_B m c t h (by omega)]
    frame_out
    exact (pay2 _ z j n).trans (blk0 m c t _ n)

/-- The convolution's rows, as an array. -/
def out (c : Dev nD) : FVec Ideal S16384x2560 .f32 := fun i =>
  nrm (arow m c ⟨(i 0).val / 2048, by have h : (i 0).val < 16384 := (i 0).isLt; omega⟩ ⟨(i 0).val % 2048, Nat.mod_lt _ (by decide)⟩) (i 1).val

theorem out_at (c : Dev nD) (r : Fin 16384) (n : Fin 2560) :
    out m c (ix2 r n) = nrm (arow m c ⟨r.val / 2048, by omega⟩ ⟨r.val % 2048, Nat.mod_lt _ (by decide)⟩) n.val := rfl

/-- Each sequence's last three rows, as an array. -/
def tail (c : Dev nD) : FVec Ideal S8x3x2560 .f32 := fun i =>
  aX m c ⟨(i 0).val, (i 0).isLt⟩ ⟨2045 + (i 1).val, by have h : (i 1).val < 3 := (i 1).isLt; omega⟩ ⟨(i 2).val, (i 2).isLt⟩

theorem tail_at (c : Dev nD) (s : Fin 8) (j : Fin 3) (n : Fin 2560) : tail m c (ix3 s j n) = aX m c s ⟨2045 + j.val, by omega⟩ n := rfl

theorem emb3 (t : Fin cfg0.N) (r : Fin 2048) (n : Fin 512) :
    ((cfg0.win 3).blk t).view.emb (ix2 r n) = ix2 (⟨(bat t).val * 2048 + r.val, by omega⟩ : Fin 16384) (col t n) := by
  funext a
  match a with
  | ⟨0, _⟩ => apply Fin.ext; blk_simp [idx t]; show t.val / 5 * 2048 + r.val = t.val / 5 * 2048 + r.val; omega
  | ⟨1, _⟩ => apply Fin.ext; blk_simp [idx t]; show t.val % 5 * 512 + n.val = 512 * (t.val % 5) + n.val; omega

theorem emb4 (t : Fin cfg0.N) (z : Fin 1) (j : Fin 3) (n : Fin 512) : ((cfg0.win 4).blk t).view.emb (ix3 z j n) = ix3 (bat t) j (col t n) := by
  have hz := z.isLt
  funext a
  match a with
  | ⟨0, _⟩ => apply Fin.ext; blk_simp [idx t]; rfl
  | ⟨1, _⟩ => apply Fin.ext; blk_simp [idx t]
  | ⟨2, _⟩ => apply Fin.ext; blk_simp [idx t]; show t.val % 5 * 512 + n.val = 512 * (t.val % 5) + n.val; omega

/-- After the run the first result array is the convolution's rows. -/
theorem final3 (c : Dev nD) : (dats m 0 c).arrAt 3 cfg0.N = out m c := by
  refine (dats m 0 c).arrAt_eq_of_covers 3 _ (by decide +kernel) fun t hf y => ?_
  blk_simp
  rw [after0_3]
  idx_vars y
  refine Eq.trans ?_ (congrArg (out m c) (emb3 t y0 y1).symm)
  rw [out_at]
  refine (point3 m c t y0 y1).trans ?_
  have e0 : (⟨((bat t).val * 2048 + y0.val) / 2048, by omega⟩ : Fin 8) = bat t := Fin.ext (by show ((bat t).val * 2048 + y0.val) / 2048 = (bat t).val; omega)
  have e1 : (⟨((bat t).val * 2048 + y0.val) % 2048, Nat.mod_lt _ (by decide)⟩ : Fin 2048) = y0 :=
    Fin.ext (by show ((bat t).val * 2048 + y0.val) % 2048 = y0.val; omega)
  show _ = nrm (arow m c ⟨((bat t).val * 2048 + y0.val) / 2048, by omega⟩ ⟨((bat t).val * 2048 + y0.val) % 2048, _⟩) (col t y1).val
  rw [e0, e1]
  rfl

/-- After the run the second result array is the last rows. -/
theorem final4 (c : Dev nD) : (dats m 0 c).arrAt 4 cfg0.N = tail m c := by
  refine (dats m 0 c).arrAt_eq_of_covers 4 _ (by decide +kernel) fun t hf y => ?_
  blk_simp
  rw [after0_4]
  idx_vars y
  refine Eq.trans ?_ (congrArg (tail m c) (emb4 t y0 y1 y2).symm)
  exact point4 m c t y0 y1 y2

end Cert.Kernel7Ideal.Cp
-- ==== Proof.CpRef.lean ====
/-
  The prompt convolution's reference read at an index: the taps, the activation, the normalised heads and the last rows.
-/
module

public import proofs.«01_k».proof.Proof.Gen.Reference7Ideal.Run
public import proofs.«01_k».proof.Proof.Gen.Reference7Ideal.Read
public import proofs.«01_k».proof.Proof.CpSpec
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Reference7Ideal.Cp

open Cert.Reference7Ideal Cert.Reference7Ideal.Read Cert.MergeSpec Cert.ConvSpec Cert.CpSpec

variable (x : FVec Ideal S16384x7168 .f32) (w : FVec Ideal S4x2560 .f32) (b : FVec Ideal S2560 .f32)

/-- One sequence's columns of the projection. -/
def X (s : Fin 8) (r : Fin 2048) (n : Fin 2560) : EReal := x (ix2 ⟨s.val * 2048 + r.val, by omega⟩ ⟨3072 + n.val, by omega⟩)

/-- The columns cut out of the projection. -/
theorem v1_at (s : Fin 8) (r : Fin 2048) (n : Fin 2560) : val_main_v1 (F := Ideal) x (ix3 s r n) = X x s r n := by
  have h0 := s.isLt
  have h1 := r.isLt
  have h2 := n.isLt
  unfold X
  pointwise [val_main_v1, val_main_v0]

/-- The sequence behind three zero rows. -/
theorem v3_at (s : Fin 8) (k : Fin 2051) (n : Fin 2560) : val_main_v3 (F := Ideal) x (ix3 s k n)
    = if h : k.val < 3 then 0 else X x s ⟨k.val - 3, by omega⟩ n := by
  pointwise [val_main_v3, val_main_v2, val_main_cst]
  simp only [v1_at]

theorem v3_prev (s : Fin 8) (r : Fin 2048) (n : Fin 2560) (e d : ℕ) (he : e + d = 3) (k : Fin 2051) (hk : k.val = e + r.val) :
    val_main_v3 (F := Ideal) x (ix3 s k n) = prev (X x s) d r n := by
  have hr := r.isLt
  rw [v3_at]
  unfold prev
  by_cases h : k.val < 3
  · rw [dif_pos h, if_neg (by omega)]
  · rw [dif_neg h, if_pos (by omega)]
    exact congrArg (fun q => X x s q n) (Fin.ext (by show k.val - 3 = r.val - d; omega))

/-- One activated row of a sequence, from the arrays. -/
abbrev arow (s : Fin 8) (r : Fin 2048) (n : ℕ) : EReal := row (X x s) (fun j n => w (ix2 j n)) (fun n => b (ix1 n)) r n

theorem v33_at (s : Fin 8) (r : Fin 2048) (n : Fin 2560) : val_main_v33 (F := Ideal) x w b (ix3 s r n)
    = taps (prev (X x s) 3 r n) (prev (X x s) 2 r n) (prev (X x s) 1 r n) (prev (X x s) 0 r n) (w (ix2 0 n)) (w (ix2 1 n)) (w (ix2 2 n)) (w (ix2 3 n)) (b (ix1 n)) := by
  pointwise [val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4]
  rw [v3_prev x s r n 0 3 rfl _ (by simp), v3_prev x s r n 1 2 rfl _ rfl, v3_prev x s r n 2 1 rfl _ rfl, v3_prev x s r n 3 0 rfl _ rfl]
  rfl

theorem v34_at (s : Fin 8) (r : Fin 2048) (n : Fin 2560) : val_main_v34 (F := Ideal) x w b (ix3 s r n) = arow x w b s r n.val := by
  pointwise [val_main_v34, val_main_call0_v5, val_main_call0_v4, val_main_call0_v3, val_main_call0_v2, val_main_call0_v1, val_main_call0_v0, val_main_call0_cst, val_main_call0_cst_0]
  rw [v33_at x w b s r n]
  unfold arow row conv
  rw [dif_pos n.isLt]
  rfl

theorem v44_at (s : Fin 8) (r : Fin 2048) (h : Fin 8) (d : Fin 128) : val_main_v44 (F := Ideal) x w b (ix4 s r h d)
    = hd (arow x w b s r) (h.val * 128) (h.val * 128 + d.val) := by
  pointwise [val_main_v44, val_main_v43, val_main_v42, val_main_v41, val_main_v40, val_main_v39, val_main_v38, val_main_v37, val_main_v36, val_main_v35, val_main_cst_0, val_main_cst_1]
  simp only [v34_at]
  rfl

/-- The rows, sequence by sequence. -/
theorem v47_at (s : Fin 8) (r : Fin 2048) (n : Fin 2560) : val_main_v47 (F := Ideal) x w b (ix3 s r n) = nrm (arow x w b s r) n.val := by
  pointwise [val_main_v47, val_main_v46, val_main_v45]
  unfold nrm
  by_cases c0 : n.val < 1024
  · rw [dif_pos c0, if_pos c0]
    refine (v44_at x w b s r _ _).trans (congrArg (hd (arow x w b s r) (n.val / 128 * 128)) ?_)
    show n.val / 128 * 128 + n.val % 128 = n.val; omega
  · rw [dif_neg c0, if_neg c0]
    refine (v34_at x w b s r _).trans (congrArg (arow x w b s r) ?_)
    show 1024 + (n.val - 1024) = n.val; omega

/-- The reference's rows at an index. -/
theorem v48_at (r : Fin 16384) (n : Fin 2560) : val_main_v48 (F := Ideal) x w b (ix2 r n)
    = nrm (arow x w b ⟨r.val / 2048, by omega⟩ ⟨r.val % 2048, Nat.mod_lt _ (by decide)⟩) n.val := by
  refine Eq.trans ?_ (v47_at x w b ⟨r.val / 2048, by omega⟩ ⟨r.val % 2048, Nat.mod_lt _ (by decide)⟩ n)
  pointwise [val_main_v48]

/-- The reference's last rows at an index. -/
theorem v49_at (s : Fin 8) (j : Fin 3) (n : Fin 2560) : val_main_v49 (F := Ideal) x (ix3 s j n) = X x s ⟨2045 + j.val, by omega⟩ n := by
  pointwise [val_main_v49]
  rw [v3_at]
  rw [dif_neg (by show ¬2048 + j.val < 3; omega)]
  exact congrArg (fun q => X x s q n) (Fin.ext (by show 2048 + j.val - 3 = 2045 + j.val; omega))

end Cert.Reference7Ideal.Cp
-- ==== Proof.CpClaim.lean ====
/-
  The prompt convolution's claims: the reference's run, and the two programs' equal arrays.
-/
module

public import proofs.«01_k».proof.Defs
public import proofs.«01_k».proof.Proof.CpArr
public import proofs.«01_k».proof.Proof.CpRef
public import Idealize.ShloMosaic.Lib.Claim

@[expose] public section

set_option maxRecDepth 16384

noncomputable section

open Idealize.ShloMosaic Idealize.ShloMosaic.TcCoe Idealize.SL.Sem

namespace Cert.Proof.CpClaim

/-- The reference leaves its arguments as launched and every counter at zero. -/
theorem frame_ref : Cert.quiescent_Reference7Ideal := fun m ρ _ =>
  (θ_run Cert.Reference7Ideal.defs _ _).mono (fun r h => ⟨fun c => (h c).2.2, sem_eq_zero_of_no_sems (by decide) r.2⟩)
    (Cert.Reference7Ideal.Value.run (F := Ideal) m ρ)

/-- The kernel and the reference end with the same two arrays. -/
theorem algebraic : Cert.algebraic_Kernel7Ideal_Reference7Ideal := by
  pair_intro
  · run_from Cert.Kernel7Ideal.Value.run_blocks m g
  · run_from Cert.Reference7Ideal.Value.run m' g'
    · obtain ⟨e0, e1, e2⟩ := hagree c
      rw [Cert.Kernel7Ideal.Cp.final3 m c, Cert.Reference7Ideal.Read.val_main_v48_eq, e0, e1, e2]
      funext i
      idx_vars i
      exact (Cert.Reference7Ideal.Cp.v48_at _ _ _ i0 i1).trans (Cert.Kernel7Ideal.Cp.out_at m c i0 i1).symm
    · rw [Cert.Kernel7Ideal.Cp.final4 m c, Cert.Reference7Ideal.Read.val_main_v49_eq]
      funext i
      idx_vars i
      exact (Cert.Reference7Ideal.Cp.v49_at _ i0 i1 i2).trans (Cert.Kernel7Ideal.Cp.tail_at m c i0 i1 i2).symm

end Cert.Proof.CpClaim
-- ==== Proof.FsOpen.lean ====
/-
  One grid point of the feed-forward kernel of the sample batch, read at an index: the body's stored values over its input blocks, and the
  blocks as places of the argument arrays.
-/
module

public import proofs.«01_k».proof.Proof.FfnSpec
public import proofs.«01_k».proof.Proof.Gen.Kernel8Ideal.Frame
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel8Ideal.Fs

open Cert.Kernel8Ideal Cert.Kernel8Ideal.Gen Cert.FfnSpec

variable (m : (ℓ : Loc nD τ sig) → Buf (Elt Ideal) ℓ)

/-- The argument arrays as plain functions: the residual's row `R`, the gain, the two weight matrices, the last gain. -/
def aX (c : Dev nD) (R : Fin 32) (k : Fin 2048) : EReal := (m ((c : Thread nD τ).loc main_arg0) : FVec Ideal S32x2048 .f32) (ix2 R k)
def aG (c : Dev nD) (k : Fin 2048) : EReal := (m ((c : Thread nD τ).loc main_arg1) : FVec Ideal S2048 .f32) (ix1 k)
def aW (c : Dev nD) (k : Fin 2048) (n : Fin 11264) : EReal := (m ((c : Thread nD τ).loc main_arg2) : FVec Ideal S2048x11264 .f32) (ix2 k n)
def aD (c : Dev nD) (j : Fin 5632) (d : Fin 2048) : EReal := (m ((c : Thread nD τ).loc main_arg3) : FVec Ideal S5632x2048 .f32) (ix2 j d)
def aP (c : Dev nD) (k : Fin 2048) : EReal := (m ((c : Thread nD τ).loc main_arg4) : FVec Ideal S2048 .f32) (ix1 k)

/-- The eleven-step accumulation's one step, over the point's pieces of the weights. -/
theorem pay_acc (xn : FVec Ideal S32x2048 .bf16) (g1 g2 u1 u2 : FVec Ideal S2048x256 .bf16) (d1 d2 : FVec Ideal S256x2048 .bf16)
    (acc : FVec Ideal S32x2048 .f32) (r : Fin 32) (d : Fin 2048) :
    k0_pay1 (F := Ideal) (k0_pay4 xn g2) (k0_pay5 xn u2) (k0_pay6 xn g1 u1 d1) (k0_pay7 xn g2) d2 acc (ix2 r d)
      = acc (ix2 r d) + (∑ j, half * ((∑ k, xn (ix2 r k) * g1 (ix2 k j)) * Ideal.div 1 (1 + Ideal.exp (0 - ∑ k, xn (ix2 r k) * g1 (ix2 k j)))) * (∑ k, xn (ix2 r k) * u1 (ix2 k j)) * d1 (ix2 j d)
        + ∑ j, half * ((∑ k, xn (ix2 r k) * g2 (ix2 k j)) * Ideal.div 1 (1 + Ideal.exp (0 - ∑ k, xn (ix2 r k) * g2 (ix2 k j)))) * (∑ k, xn (ix2 r k) * u2 (ix2 k j)) * d2 (ix2 j d)) := by
  pointwise [k0_pay1, k0_pay4, k0_pay5, k0_pay6, k0_pay7]
  rfl

/-- The normalised block stored at a run's first point. -/
theorem pay_norm (x : FVec Ideal S32x2048 .f32) (g : FVec Ideal S1x2048 .f32) (r : Fin 32) (k : Fin 2048) :
    k0_pay3 (F := Ideal) x g (ix2 r k) = normed (fun k => x (ix2 r k)) (fun k => g (ix2 0 k)) k := by
  pointwise [k0_pay3]
  rfl

/-- The second result's block: the new residual normalised with the last gain. -/
theorem pay_post (x : FVec Ideal S32x2048 .f32) (g : FVec Ideal S1x2048 .f32) (r : Fin 32) (k : Fin 2048) :
    k0_pay2 (F := Ideal) x g (ix2 r k) = normed (fun k => x (ix2 r k)) (fun k => g (ix2 0 k)) k := by
  pointwise [k0_pay2]
  rfl

/-- Every window's block index, at every grid point. -/
theorem idx : ∀ t : Fin cfg0.N, win0_0.index t = ![t.val / 11, 0] ∧ win0_1.index t = ![0, 0] ∧ win0_2.index t = ![0, t.val % 11]
    ∧ win0_3.index t = ![0, t.val % 11 + 11] ∧ win0_4.index t = ![t.val % 11, 0] ∧ win0_5.index t = ![0, 0]
    ∧ win0_6.index t = ![t.val / 11, 0] ∧ win0_7.index t = ![t.val / 11, 0] :=
  (by decide +kernel : ∀ t : Fin grid0.N, _)

/-- The row of the residual array that row `r` of the point's block is. -/
abbrev row (t : Fin cfg0.N) (r : Fin 32) : Fin 32 :=
  ⟨32 * (t.val / 11) + r.val, by have := lt_of_lt_of_eq t.isLt (show cfg0.N = 11 from N_0); omega⟩

theorem blk0 (c : Dev nD) (t : Fin cfg0.N) (r : Fin 32) (k : Fin 2048) :
    (iblk m c 0 t : FVec Ideal S32x2048 .f32) (ix2 r k) = aX m c (row t r) k := by
  unfold aX
  blk_ext [iblk, V, idx t]

theorem blk1 (c : Dev nD) (t : Fin cfg0.N) (k : Fin 2048) :
    (iblk m c 1 t : FVec Ideal S1x2048 .f32) (ix2 0 k) = aG m c k := by
  unfold aG
  blk_point [iblk, V, idx t]

theorem blk2 (c : Dev nD) (t : Fin cfg0.N) (k : Fin 2048) (j : Fin 512) :
    (iblk m c 2 t : FVec Ideal S2048x512 .bf16) (ix2 k j) = aW m c k ⟨512 * (t.val % 11) + j.val, by omega⟩ := by
  unfold aW
  blk_point [iblk, V, idx t]

theorem blk3 (c : Dev nD) (t : Fin cfg0.N) (k : Fin 2048) (j : Fin 512) :
    (iblk m c 3 t : FVec Ideal S2048x512 .bf16) (ix2 k j) = aW m c k ⟨5632 + (512 * (t.val % 11) + j.val), by omega⟩ := by
  unfold aW
  blk_point [iblk, V, idx t]

theorem blk4 (c : Dev nD) (t : Fin cfg0.N) (d : Fin 2048) (j : Fin 512) :
    (iblk m c 4 t : FVec Ideal S512x2048 .bf16) (ix2 j d) = aD m c ⟨512 * (t.val % 11) + j.val, by omega⟩ d := by
  unfold aD
  blk_point [iblk, V, idx t]

theorem blk5 (c : Dev nD) (t : Fin cfg0.N) (k : Fin 2048) :
    (iblk m c 5 t : FVec Ideal S1x2048 .f32) (ix2 0 k) = aP m c k := by
  unfold aP
  blk_point [iblk, V, idx t]

/-- One step of the accumulation over the point's blocks is `step` of the layer's mathematics, given that the carried
    block holds the normalised rows. -/
theorem step_eq (c : Dev nD) (t : Fin cfg0.N) (xn : FVec Ideal S32x2048 .bf16) (acc : FVec Ideal S32x2048 .f32) (r : Fin 32) (d : Fin 2048)
    (hx : ∀ k, xn (ix2 r k) = normed (aX m c (row t r)) (aG m c) k) :
    k0_pay1 (F := Ideal)
      (k0_pay4 xn (View.ld (iblk m c 2 t) (Rect.unit ![0, 256] ![2048, 256] inb_S2048x512_S2048x256_0_256)))
      (k0_pay5 xn (View.ld (iblk m c 3 t) (Rect.unit ![0, 256] ![2048, 256] inb_S2048x512_S2048x256_0_256)))
      (k0_pay6 xn
        (View.ld (iblk m c 2 t) (Rect.unit ![0, 0] ![2048, 256] inb_S2048x512_S2048x256_0_0))
        (View.ld (iblk m c 3 t) (Rect.unit ![0, 0] ![2048, 256] inb_S2048x512_S2048x256_0_0))
        (View.ld (iblk m c 4 t) (Rect.unit ![0, 0] ![256, 2048] inb_S512x2048_S256x2048_0_0)))
      (k0_pay7 xn (View.ld (iblk m c 2 t) (Rect.unit ![0, 256] ![2048, 256] inb_S2048x512_S2048x256_0_256)))
      (View.ld (iblk m c 4 t) (Rect.unit ![256, 0] ![256, 2048] inb_S512x2048_S256x2048_256_0)) acc (ix2 r d)
      = acc (ix2 r d) + step (aX m c (row t r)) (aG m c) (aW m c) (aD m c) d ⟨t.val % 11, by omega⟩ := by
  rw [pay_acc]
  pointwise
  simp only [hx]
  refine congrArg (acc (ix2 r d) + ·) (congrArg₂ (· + ·) (Finset.sum_congr rfl fun j _ => ?_) (Finset.sum_congr rfl fun j _ => ?_))
  · have eg : ∀ k, _ := fun k => blk2 m c t k ⟨j.val, by omega⟩
    have eu : ∀ k, _ := fun k => blk3 m c t k ⟨j.val, by omega⟩
    have ed := blk4 m c t d ⟨j.val, by omega⟩
    unfold lane proj
    exact congrArg₂ (· * ·) (congrArg₂ (fun a b : EReal => half * (a * Ideal.div 1 (1 + Ideal.exp (0 - a))) * b)
      (Finset.sum_congr rfl fun k _ => congrArg (_ * ·) (eg k)) (Finset.sum_congr rfl fun k _ => congrArg (_ * ·) (eu k))) ed
  · have eg : ∀ k, _ := fun k => blk2 m c t k ⟨256 + j.val, by omega⟩
    have eu : ∀ k, _ := fun k => blk3 m c t k ⟨256 + j.val, by omega⟩
    have ed := blk4 m c t d ⟨256 + j.val, by omega⟩
    unfold lane proj
    exact congrArg₂ (· * ·) (congrArg₂ (fun a b : EReal => half * (a * Ideal.div 1 (1 + Ideal.exp (0 - a))) * b)
      (Finset.sum_congr rfl fun k _ => congrArg (_ * ·) (eg k)) (Finset.sum_congr rfl fun k _ => congrArg (_ * ·) (eu k))) ed

/-- The normalised block of a run's first point is the argument's rows normalised. -/
theorem norm_eq (c : Dev nD) (t : Fin cfg0.N) (r : Fin 32) (k : Fin 2048) :
    k0_pay3 (F := Ideal) (iblk m c 0 t) (iblk m c 1 t) (ix2 r k) = normed (aX m c (row t r)) (aG m c) k := by
  rw [pay_norm]
  exact congrArg₂ (fun a b => normed a b k) (funext fun k => blk0 m c t r k) (funext fun k => blk1 m c t k)

/-- What a point of the first case leaves in the carried block. -/
theorem scr_A (c : Dev nD) (t : Fin cfg0.N) (h0 : t.val % 11 = 0) (h1 : ¬t.val % 11 = 10) (r : Fin 32) (k : Fin 2048) :
    (outsAt0 m c t.val t.isLt).2.2 (ix2 r k) = normed (aX m c (row t r)) (aG m c) k := by
  refine Eq.trans ?_ (norm_eq m c t r k)
  rw [outsAt0_A m c t h0 h1]
  frame_out

/-- A later point of a run leaves the carried block as the point before did. -/
theorem scr_hold (c : Dev nD) (t : Fin cfg0.N) (h0 : ¬t.val % 11 = 0) :
    (outsAt0 m c t.val t.isLt).2.2 = (outsAt0 m c (t.val - 1) (Nat.lt_of_le_of_lt (Nat.sub_le _ _) t.isLt)).2.2 := by
  by_cases h1 : t.val % 11 = 10
  · rw [outsAt0_C m c t h0 h1]
    unfold sout0_C_0
    rfl
  · rw [outsAt0_B m c t h0 h1]
    unfold sout0_B_0
    rfl

/-- At every point the carried block holds the normalised rows of the point's block of the residual. -/
theorem scr_eq (c : Dev nD) : ∀ (n : ℕ) (hn : n < cfg0.N) (r : Fin 32) (k : Fin 2048),
    (outsAt0 m c n hn).2.2 (ix2 r k) = normed (aX m c (row ⟨n, hn⟩ r)) (aG m c) k
  | 0, hn, r, k => scr_A m c ⟨0, hn⟩ (Nat.zero_mod _) (by dsimp only; omega) r k
  | n + 1, hn, r, k => by
    by_cases h0 : (n + 1) % 11 = 0
    · exact scr_A m c ⟨n + 1, hn⟩ h0 (by dsimp only; omega) r k
    · have e := congrFun (scr_hold m c ⟨n + 1, hn⟩ h0) (ix2 r k)
      refine e.trans ((scr_eq c n (by omega) r k).trans ?_)
      have hr : row ⟨n, by omega⟩ r = row ⟨n + 1, hn⟩ r := by
        apply Fin.ext; show 32 * (n / 11) + r.val = 32 * ((n + 1) / 11) + r.val; omega
      rw [hr]

/-- The steps of a run up to step `k`, added to the residual. -/
def part (c : Dev nD) (R : Fin 32) (d : Fin 2048) (k : ℕ) : EReal :=
  aX m c R d + ∑ f ∈ Finset.range (k + 1), if h : f < 11 then step (aX m c R) (aG m c) (aW m c) (aD m c) d ⟨f, h⟩ else 0

theorem part_zero (c : Dev nD) (R : Fin 32) (d : Fin 2048) :
    part m c R d 0 = aX m c R d + step (aX m c R) (aG m c) (aW m c) (aD m c) d ⟨0, by omega⟩ := by
  unfold part; simp

theorem part_succ (c : Dev nD) (R : Fin 32) (d : Fin 2048) (k : ℕ) (hk : k + 1 < 11) :
    part m c R d (k + 1) = part m c R d k + step (aX m c R) (aG m c) (aW m c) (aD m c) d ⟨k + 1, hk⟩ := by
  unfold part
  rw [Finset.sum_range_succ _ (k + 1), ← add_assoc, dif_pos hk]

theorem part_last (c : Dev nD) (R : Fin 32) (d : Fin 2048) :
    part m c R d 10 = hidden (aX m c R) (aG m c) (aW m c) (aD m c) d := by
  rw [← steps_eq, part, Finset.sum_range]
  refine congrArg (_ + ·) (Finset.sum_congr rfl fun f _ => ?_)
  rw [dif_pos f.isLt]

/-- A run's first point: the residual and the first step. -/
theorem acc_A (c : Dev nD) (t : Fin cfg0.N) (h0 : t.val % 11 = 0) (h1 : ¬t.val % 11 = 10) (r : Fin 32) (d : Fin 2048) :
    (outsAt0 m c t.val t.isLt).1 (ix2 r d) = part m c (row t r) d (t.val % 11) := by
  have e : (⟨t.val % 11, by omega⟩ : Fin 11) = ⟨0, by omega⟩ := Fin.ext h0
  have key := step_eq m c t (k0_pay3 (F := Ideal) (iblk m c 0 t) (iblk m c 1 t)) (iblk m c 0 t) r d (norm_eq m c t r)
  rw [e] at key
  rw [h0, part_zero, ← blk0 m c t r d]
  refine Eq.trans ?_ key
  rw [outsAt0_A m c t h0 h1]
  frame_out
  rfl

/-- A later point of a run adds its step to what the point before left. -/
theorem acc_BC (c : Dev nD) (t : Fin cfg0.N) (h0 : ¬t.val % 11 = 0) (r : Fin 32) (d : Fin 2048) :
    (outsAt0 m c t.val t.isLt).1 (ix2 r d)
      = (outsAt0 m c (t.val - 1) (Nat.lt_of_le_of_lt (Nat.sub_le _ _) t.isLt)).1 (ix2 r d)
        + step (aX m c (row t r)) (aG m c) (aW m c) (aD m c) d ⟨t.val % 11, by omega⟩ := by
  have hs := scr_hold m c t h0
  have key := step_eq m c t (outsAt0 m c (t.val - 1) (Nat.lt_of_le_of_lt (Nat.sub_le _ _) t.isLt)).2.2
    (outsAt0 m c (t.val - 1) (Nat.lt_of_le_of_lt (Nat.sub_le _ _) t.isLt)).1 r d
    (fun k => (congrFun hs (ix2 r k)).symm.trans (scr_eq m c t.val t.isLt r k))
  refine Eq.trans ?_ key
  by_cases h1 : t.val % 11 = 10
  · rw [outsAt0_C m c t h0 h1]
    frame_out
    simp only [read_unread_whole]
    rfl
  · rw [outsAt0_B m c t h0 h1]
    frame_out
    simp only [read_unread_whole]
    rfl

/-- After each point the first result's block holds the residual and the run's steps so far. -/
theorem acc_eq (c : Dev nD) : ∀ (n : ℕ) (hn : n < cfg0.N) (r : Fin 32) (d : Fin 2048),
    (outsAt0 m c n hn).1 (ix2 r d) = part m c (row ⟨n, hn⟩ r) d (n % 11)
  | 0, hn, r, d => acc_A m c ⟨0, hn⟩ (Nat.zero_mod _) (by dsimp only; omega) r d
  | n + 1, hn, r, d => by
    by_cases h0 : (n + 1) % 11 = 0
    · exact acc_A m c ⟨n + 1, hn⟩ h0 (by dsimp only; omega) r d
    · refine (acc_BC m c ⟨n + 1, hn⟩ h0 r d).trans ?_
      have hr : row ⟨n, by omega⟩ r = row ⟨n + 1, hn⟩ r := by
        apply Fin.ext; show 32 * (n / 11) + r.val = 32 * ((n + 1) / 11) + r.val; omega
      have ih := acc_eq c n (by omega) r d
      rw [hr] at ih
      have hk : (n + 1) % 11 = n % 11 + 1 := by omega
      have e : (⟨(n + 1) % 11, by omega⟩ : Fin 11) = ⟨n % 11 + 1, by omega⟩ := Fin.ext hk
      refine Eq.trans ?_ (congrArg (part m c (row ⟨n + 1, hn⟩ r) d) hk).symm
      rw [part_succ m c _ d _ (by omega)]
      exact congrArg₂ (· + ·) ih (congrArg (step (aX m c (row ⟨n + 1, hn⟩ r)) (aG m c) (aW m c) (aD m c) d) e)

/-- After a run's last point the first result's block holds the layer's new residual. -/
theorem acc_last (c : Dev nD) (t : Fin cfg0.N) (h1 : t.val % 11 = 10) (r : Fin 32) (d : Fin 2048) :
    (outsAt0 m c t.val t.isLt).1 (ix2 r d) = hidden (aX m c (row t r)) (aG m c) (aW m c) (aD m c) d := by
  refine (acc_eq m c t.val t.isLt r d).trans ?_
  rw [h1]
  exact part_last m c (row t r) d

/-- After a run's last point the second result's block holds the new residual normalised. -/
theorem post_last (c : Dev nD) (t : Fin cfg0.N) (h1 : t.val % 11 = 10) (r : Fin 32) (d : Fin 2048) :
    (outsAt0 m c t.val t.isLt).2.1 (ix2 r d)
      = normed (hidden (aX m c (row t r)) (aG m c) (aW m c) (aD m c)) (aP m c) d := by
  have h0 : ¬t.val % 11 = 0 := by omega
  have e : (outsAt0 m c t.val t.isLt).2.1 (ix2 r d) = k0_pay2 (F := Ideal) (outsAt0 m c t.val t.isLt).1 (iblk m c 5 t) (ix2 r d) := by
    rw [outsAt0_C m c t h0 h1]
    frame_out
  refine e.trans ((pay_post _ _ r d).trans ?_)
  exact congrArg₂ (fun a b => normed a b d) (funext fun k => acc_last m c t h1 r k) (funext fun k => blk5 m c t k)

end Cert.Kernel8Ideal.Fs
-- ==== Proof.FsArr.lean ====
/-
  The feed-forward kernel of the sample batch's two result arrays after the run, at every index.
-/
module

public import proofs.«01_k».proof.Proof.FsOpen
public import proofs.«01_k».proof.Proof.Gen.Kernel8Ideal.Value

@[expose] public section

set_option maxRecDepth 16384

noncomputable section

open Idealize.ShloMosaic Idealize.ShloMosaic.TcCoe Idealize.SL.Sem
open Idealize.ShloMosaic.Pipeline (Dat)

namespace Cert.Kernel8Ideal.Fs

open Cert.Kernel8Ideal Cert.Kernel8Ideal.Gen Cert.FfnSpec

variable (m : (ℓ : Loc nD τ sig) → Buf (Elt Ideal) ℓ)

/-- The new residual, as an array. -/
def outH (c : Dev nD) : FVec Ideal S32x2048 .f32 := fun i =>
  hidden (aX m c ⟨(i 0).val, (i 0).isLt⟩) (aG m c) (aW m c) (aD m c) ⟨(i 1).val, (i 1).isLt⟩

/-- The new residual normalised with the last gain, as an array. -/
def outY (c : Dev nD) : FVec Ideal S32x2048 .f32 := fun i =>
  normed (hidden (aX m c ⟨(i 0).val, (i 0).isLt⟩) (aG m c) (aW m c) (aD m c)) (aP m c) ⟨(i 1).val, (i 1).isLt⟩

/-- The place in the first result array of the point's block at row `r`, column `d`. -/
theorem emb6 (t : Fin cfg0.N) (r : Fin 32) (d : Fin 2048) : ((cfg0.win 6).blk t).view.emb (ix2 r d) = ix2 (row t r) d := by
  funext a
  match a with
  | ⟨0, _⟩ => apply Fin.ext; blk_simp [idx t]; show t.val / 11 * 32 + r.val = 32 * (t.val / 11) + r.val; omega
  | ⟨1, _⟩ => apply Fin.ext; blk_simp [idx t]

/-- The place in the second result array of the point's block at row `r`, column `d`. -/
theorem emb7 (t : Fin cfg0.N) (r : Fin 32) (d : Fin 2048) : ((cfg0.win 7).blk t).view.emb (ix2 r d) = ix2 (row t r) d := by
  funext a
  match a with
  | ⟨0, _⟩ => apply Fin.ext; blk_simp [idx t]; show t.val / 11 * 32 + r.val = 32 * (t.val / 11) + r.val; omega
  | ⟨1, _⟩ => apply Fin.ext; blk_simp [idx t]

/-- After the run the first result array is the new residual. -/
theorem final6 (c : Dev nD) : (dats m 0 c).arrAt 6 cfg0.N = outH m c := by
  refine (dats m 0 c).arrAt_eq_of_covers 6 _ (by decide +kernel) fun t hf y => ?_
  have h1 : t.val % 11 = 10 := (flush0_6 t).mp hf
  blk_simp
  rw [after0_6]
  idx_vars y
  exact (acc_last m c t h1 y0 y1).trans (congrArg (outH m c) (emb6 t y0 y1).symm)

/-- After the run the second result array is the new residual normalised. -/
theorem final7 (c : Dev nD) : (dats m 0 c).arrAt 7 cfg0.N = outY m c := by
  refine (dats m 0 c).arrAt_eq_of_covers 7 _ (by decide +kernel) fun t hf y => ?_
  have h1 : t.val % 11 = 10 := (flush0_7 t).mp hf
  blk_simp
  rw [after0_7]
  idx_vars y
  exact (post_last m c t h1 y0 y1).trans (congrArg (outY m c) (emb7 t y0 y1).symm)

end Cert.Kernel8Ideal.Fs
-- ==== Proof.FsRef.lean ====
/-
  The feed-forward reference of the sample batch read at an index: its two results are the layer's mathematics.
-/
module

public import proofs.«01_k».proof.Proof.FfnSpec
public import proofs.«01_k».proof.Proof.Gen.Reference8Ideal.Read
public import Idealize.ShloMosaic.Lib.Pipeline.ValueKit

@[expose] public section

set_option maxRecDepth 16384

noncomputable section

open Idealize.ShloMosaic Idealize.ShloMosaic.TcCoe Idealize.SL.Sem

namespace Cert.Reference8Ideal.Fs

open Cert.Reference8Ideal Cert.Reference8Ideal.Read Cert.FfnSpec

variable (x : FVec Ideal S32x2048 .f32) (g : FVec Ideal S2048 .f32) (W : FVec Ideal S2048x11264 .f32) (D : FVec Ideal S5632x2048 .f32) (p : FVec Ideal S2048 .f32)

/-- The normalised row. -/
theorem v12 (R : Fin 32) (k : Fin 2048) :
    val_main_v12 (F := Ideal) x g (ix2 R k) = normed (fun k => x (ix2 R k)) (fun k => g (ix1 k)) k := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- The projection on every gate and up column. -/
theorem v13 (R : Fin 32) (n : Fin 11264) :
    val_main_v13 (F := Ideal) x g W (ix2 R n) = proj (fun k => x (ix2 R k)) (fun k => g (ix1 k)) (fun k n => W (ix2 k n)) n := by
  pointwise [val_main_v13]
  simp only [v12]
  rfl

/-- The gated lane. -/
theorem v17 (R : Fin 32) (j : Fin 5632) :
    val_main_v17 (F := Ideal) x g W (ix2 R j) = gated (fun k => x (ix2 R k)) (fun k => g (ix1 k)) (fun k n => W (ix2 k n)) j := by
  pointwise [val_main_v17, val_main_v16, val_main_v15, val_main_v14, val_main_call0_v0, val_main_call0_v1, val_main_call0_v2, val_main_call0_v3, val_main_call0_v4, val_main_call0_v5, val_main_call0_cst, val_main_call0_cst_0]
  simp only [v13]
  rfl

/-- The new residual. -/
theorem v21 (R : Fin 32) (d : Fin 2048) :
    val_main_v21 (F := Ideal) x g W D (ix2 R d) = hidden (fun k => x (ix2 R k)) (fun k => g (ix1 k)) (fun k n => W (ix2 k n)) (fun j d => D (ix2 j d)) d := by
  pointwise [val_main_v21, val_main_v20, val_main_v19, val_main_v18, val_main_cst_2]
  simp only [v17]
  rfl

/-- The new residual normalised. -/
theorem v34 (R : Fin 32) (d : Fin 2048) :
    val_main_v34 (F := Ideal) x g W D p (ix2 R d) = normed (hidden (fun k => x (ix2 R k)) (fun k => g (ix1 k)) (fun k n => W (ix2 k n)) (fun j d => D (ix2 j d))) (fun k => p (ix1 k)) d := by
  pointwise [val_main_v34, val_main_v33, val_main_v32, val_main_v31, val_main_v30, val_main_v29, val_main_v28, val_main_v27, val_main_v26, val_main_v25, val_main_v24, val_main_v23, val_main_v22, val_main_cst_3, val_main_cst_4, val_main_cst_5]
  simp only [v21]
  rfl

end Cert.Reference8Ideal.Fs
-- ==== Proof.FsClaim.lean ====
/-
  The feed-forward layer's claims on the sample batch: the kernel's two result arrays are the reference's, and the reference's run.
-/
module

public import proofs.«01_k».proof.Defs
public import proofs.«01_k».proof.Proof.FsArr
public import proofs.«01_k».proof.Proof.FsRef
public import proofs.«01_k».proof.Proof.Gen.Reference8Ideal.Run
public import Idealize.ShloMosaic.Lib.Claim

@[expose] public section

set_option maxRecDepth 16384

noncomputable section

open Idealize.ShloMosaic Idealize.ShloMosaic.TcCoe Idealize.SL.Sem

namespace Cert.Proof.FsClaim

/-- The reference leaves its arguments as launched and every counter at zero. -/
theorem frame_ref : Cert.quiescent_Reference8Ideal := fun m ρ _ =>
  (θ_run Cert.Reference8Ideal.defs _ _).mono (fun r h => ⟨fun c => (h c).2.2, sem_eq_zero_of_no_sems (by decide) r.2⟩)
    (Cert.Reference8Ideal.Value.run (F := Ideal) m ρ)

/-- The kernel and the reference end with the same two arrays. -/
theorem algebraic : Cert.algebraic_Kernel8Ideal_Reference8Ideal := by
  pair_intro
  · run_from Cert.Kernel8Ideal.Value.run_blocks m g
  · run_from Cert.Reference8Ideal.Value.run m' g'
    · rw [Cert.Kernel8Ideal.Fs.final6 m c, Cert.Reference8Ideal.Read.val_main_v21_eq]
      funext i
      idx_vars i
      exact Cert.Reference8Ideal.Fs.v21 _ _ _ _ i0 i1
    · obtain ⟨e0, e1, e2, e3, e4⟩ := hagree c
      rw [Cert.Kernel8Ideal.Fs.final7 m c, Cert.Reference8Ideal.Read.val_main_v34_eq, e0, e1, e2, e3, e4]
      funext i
      idx_vars i
      exact Cert.Reference8Ideal.Fs.v34 _ _ _ _ _ i0 i1

end Cert.Proof.FsClaim
-- ==== Proof.SsdPay.lean ====
/-
  The single-token state-space step's kernel: its expressions at an index.
-/
module

public import proofs.«01_k».proof.Proof.Gen.Kernel9Ideal.Value
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel9Ideal.Ssd

open Cert.Kernel9Ideal Cert.Kernel9Ideal.Gen

/-- The row numbers and the column numbers of a square. -/
abbrev I0 : IVec S64x64 32 := iota Kind.tc S64x64 32 [0] iota_S64x64_d0_w32
abbrev I1 : IVec S64x64 32 := iota Kind.tc S64x64 32 [1] iota_S64x64_d1_w32

/-- An array that is zero outside its first row. -/
def One (D : FVec Ideal S64x128 .f32) : Prop := ∀ i : Fin 64, i ≠ 0 → ∀ n : Fin 128, D (ix2 i n) = 0

theorem sel_half (q : Fin 128) (a b : EReal) :
    Scalar.select (IntOp.cmpi .slt (BitVec.ofNat 32 q.val) 64#32) a b = if q.val < 64 then a else b := by
  have hq := q.isLt
  rw [WordCmp.cmpi_slt_ofNat (by omega) (by omega)]
  by_cases h : q.val < 64
  · rw [if_pos h, decide_eq_true h]
    rfl
  · rw [if_neg h, decide_eq_false h]
    rfl

/-- The running sum of a column that is zero after its first row is that row's entry. -/
theorem csum (f : Fin 64 → EReal) (hf : ∀ i, i ≠ 0 → f i = 0) (i : Fin 64) :
    ∑ x : Fin 64, Scalar.select (IntOp.cmpi CmpIPredicate.sle (BitVec.ofNat 32 x.val) (BitVec.ofNat 32 i.val))
      (∑ y : Fin 64, Scalar.select (IntOp.cmpi CmpIPredicate.eq (BitVec.ofNat 32 y.val) (BitVec.ofNat 32 x.val)) (f y) 0) (0 : EReal)
      = f 0 := by
  have hi := i.isLt
  have inner : ∀ x : Fin 64, (∑ y : Fin 64, Scalar.select (IntOp.cmpi CmpIPredicate.eq (BitVec.ofNat 32 y.val) (BitVec.ofNat 32 x.val)) (f y) (0 : EReal)) = f x := by
    intro x
    have hx := x.isLt
    rw [Fintype.sum_eq_single x]
    · rw [WordCmp.cmpi_eq_ofNat (by omega) (by omega), decide_eq_true rfl]
      rfl
    · intro y hy
      have hy' := y.isLt
      rw [WordCmp.cmpi_eq_ofNat (by omega) (by omega), decide_eq_false (fun h => hy (Fin.ext h))]
      rfl
  rw [Fintype.sum_eq_single (0 : Fin 64)]
  · rw [inner, WordCmp.cmpi_sle_ofNat (by decide) (by omega), decide_eq_true (show (0 : Fin 64).val ≤ i.val from Nat.zero_le _)]
    rfl
  · intro x hx
    rw [inner, hf x hx]
    unfold Scalar.select
    split <;> rfl

theorem cs0 (D : FVec Ideal S64x128 .f32) (hD : One D) (i : Fin 64) (z : Fin 1) :
    k0_pay31 (F := Ideal) I0 I1 D (ix2 i z) = D (ix2 0 8) := by
  pointwise [k0_pay31, k0_pay30, I0, I1]
  exact csum (fun k => D (ix2 k 8)) (fun k hk => hD k hk 8) i

theorem cs1 (D : FVec Ideal S64x128 .f32) (hD : One D) (i : Fin 64) (z : Fin 1) :
    k0_pay37 (F := Ideal) I0 I1 D (ix2 i z) = D (ix2 0 9) := by
  pointwise [k0_pay37, k0_pay36, I0, I1]
  exact csum (fun k => D (ix2 k 9)) (fun k hk => hD k hk 9) i

theorem cs2 (D : FVec Ideal S64x128 .f32) (hD : One D) (i : Fin 64) (z : Fin 1) :
    k0_pay42 (F := Ideal) (k0_pay41 I0 I1 D) (ix2 i z) = D (ix2 0 10) := by
  pointwise [k0_pay42, k0_pay41, k0_pay40, I0, I1]
  exact csum (fun k => D (ix2 k 10)) (fun k hk => hD k hk 10) i

theorem cs3 (D : FVec Ideal S64x128 .f32) (hD : One D) (i : Fin 64) (z : Fin 1) :
    k0_pay46 (F := Ideal) I0 I1 D (ix2 i z) = D (ix2 0 11) := by
  pointwise [k0_pay46, k0_pay45, I0, I1]
  exact csum (fun k => D (ix2 k 11)) (fun k hk => hD k hk 11) i

theorem cs4 (D : FVec Ideal S64x128 .f32) (hD : One D) (i : Fin 64) (z : Fin 1) :
    k0_pay52 (F := Ideal) I0 I1 (k0_pay50 I0 I1) (FloatOps.ofBits FTy.f32 0#32) (k0_pay51 D) (ix2 i z) = D (ix2 0 12) := by
  pointwise [k0_pay52, k0_pay51, k0_pay50, k0_pay49, I0, I1]
  exact csum (fun k => D (ix2 k 12)) (fun k hk => hD k hk 12) i

theorem cs5 (D : FVec Ideal S64x128 .f32) (hD : One D) (i : Fin 64) (z : Fin 1) :
    k0_pay56 (F := Ideal) I0 I1 D (ix2 i z) = D (ix2 0 13) := by
  pointwise [k0_pay56, k0_pay55, I0, I1]
  exact csum (fun k => D (ix2 k 13)) (fun k hk => hD k hk 13) i

theorem cs6 (D : FVec Ideal S64x128 .f32) (hD : One D) (i : Fin 64) (z : Fin 1) :
    k0_pay62 (F := Ideal) I0 I1 D (ix2 i z) = D (ix2 0 14) := by
  pointwise [k0_pay62, k0_pay61, I0, I1]
  exact csum (fun k => D (ix2 k 14)) (fun k hk => hD k hk 14) i

theorem cs7 (D : FVec Ideal S64x128 .f32) (hD : One D) (i : Fin 64) (z : Fin 1) :
    k0_pay67 (F := Ideal) (k0_pay66 I0 I1 D) (ix2 i z) = D (ix2 0 15) := by
  pointwise [k0_pay67, k0_pay66, k0_pay65, I0, I1]
  exact csum (fun k => D (ix2 k 15)) (fun k hk => hD k hk 15) i

theorem cs4' (D : FVec Ideal S64x128 .f32) (hD : One D) (i : Fin 64) (z : Fin 1) :
    k0_pay52 (F := Ideal) I0 I1 (k0_pay50 I0 I1) (0 : EReal) (k0_pay51 D) (ix2 i z) = D (ix2 0 12) := by
  pointwise [k0_pay52, k0_pay51, k0_pay50, k0_pay49, I0, I1]
  exact csum (fun k => D (ix2 k 12)) (fun k hk => hD k hk 12) i

/-- The lane of the step size of row `q` of pair `p`. -/
def lane (p : Fin 4) (q : Fin 128) : Fin 128 := ⟨8 + 2 * p.val + q.val / 64, by omega⟩

/-- One entry of the state after the step: the old entry `h` decayed and the token's `x · B` added. -/
def stepv (h a x d b : EReal) : EReal := h * Ideal.exp a + x * d * Ideal.exp (a - a) * b

theorem lane_lo (p : Fin 4) (q : Fin 128) (hq : q.val < 64) (l : Fin 128) (hl : l.val = 8 + 2 * p.val) : lane p q = l :=
  Fin.ext (by show 8 + 2 * p.val + q.val / 64 = l.val; omega)
theorem lane_hi (p : Fin 4) (q : Fin 128) (hq : ¬ q.val < 64) (l : Fin 128) (hl : l.val = 9 + 2 * p.val) : lane p q = l :=
  Fin.ext (by have := q.isLt; show 8 + 2 * p.val + q.val / 64 = l.val; omega)

/-- The decayed state and the sum over the chunk's rows, of which only the first is not zero. -/
theorem gather (h : EReal) (x B DT DTA : FVec Ideal S64x128 .f32) (hDT : One DT) (p : Fin 4) (q s : Fin 128) (l0 l1 : Fin 128)
    (h0 : l0.val = 8 + 2 * p.val) (h1 : l1.val = 9 + 2 * p.val) :
    h * (if q.val < 64 then Ideal.exp (DTA (ix2 0 l0)) else Ideal.exp (DTA (ix2 0 l1)))
      + ∑ i : Fin 64, x (ix2 i q) * (if q.val < 64 then DT (ix2 i l0) else DT (ix2 i l1))
        * (if q.val < 64 then Ideal.exp (DTA (ix2 0 l0) - DTA (ix2 0 l0)) else Ideal.exp (DTA (ix2 0 l1) - DTA (ix2 0 l1))) * B (ix2 i s)
      = stepv h (DTA (ix2 0 (lane p q))) (x (ix2 0 q)) (DT (ix2 0 (lane p q))) (B (ix2 0 s)) := by
  unfold stepv
  by_cases hq : q.val < 64
  · simp only [if_pos hq]
    rw [lane_lo p q hq l0 h0, Fintype.sum_eq_single (0 : Fin 64)]
    intro i hi
    rw [hDT i hi, mul_zero, zero_mul, zero_mul]
  · simp only [if_neg hq]
    rw [lane_hi p q hq l1 h1, Fintype.sum_eq_single (0 : Fin 64)]
    intro i hi
    rw [hDT i hi, mul_zero, zero_mul, zero_mul]

/-- Pair 0 of the state after the step. -/
theorem piece0 (h : FVec Ideal S1x1x128x128 .f32) (x B DT DTA : FVec Ideal S64x128 .f32) (hDT : One DT) (hDTA : One DTA) (z z' : Fin 1) (q s : Fin 128) :
    k0_pay104 (F := Ideal) (k0_pay103 (k0_pay21 h) (k0_pay74 k0_pay5 (k0_pay31 I0 I1 DTA) (k0_pay37 I0 I1 DTA)) (k0_pay92 (k0_pay11 B) (k0_pay72 k0_pay4 (k0_pay17 x) (k0_pay29 DT) (k0_pay31 I0 I1 DTA) (k0_pay35 DT) (k0_pay37 I0 I1 DTA)))) (ix4 z z' q s)
      = stepv (h (ix4 0 0 q s)) (DTA (ix2 0 (lane 0 q))) (x (ix2 0 q)) (DT (ix2 0 (lane 0 q))) (B (ix2 0 s)) := by
  pointwise [k0_pay104, k0_pay103, k0_pay21, k0_pay74, k0_pay5, k0_pay92, k0_pay11, k0_pay72, k0_pay4, k0_pay17, k0_pay29, k0_pay35, k0_pay69, k0_pay70, k0_pay71]
  simp only [cs0 DTA hDTA, cs1 DTA hDTA, sel_half]
  exact gather _ x B DT DTA hDT 0 q s 8 9 rfl rfl

/-- Pair 1 of the state after the step. -/
theorem piece1 (h : FVec Ideal S1x1x128x128 .f32) (x B DT DTA : FVec Ideal S64x128 .f32) (hDT : One DT) (hDTA : One DTA) (z z' : Fin 1) (q s : Fin 128) :
    k0_pay106 (F := Ideal) (k0_pay22 h) (k0_pay80 k0_pay5 (k0_pay75 (k0_pay42 (k0_pay41 I0 I1 DTA))) (k0_pay76 (k0_pay46 I0 I1 DTA))) (k0_pay93 (k0_pay11 B) (k0_pay78 k0_pay4 (k0_pay42 (k0_pay41 I0 I1 DTA)) (k0_pay46 I0 I1 DTA) (k0_pay75 (k0_pay42 (k0_pay41 I0 I1 DTA))) (k0_pay76 (k0_pay46 I0 I1 DTA)) (k0_pay77 k0_pay4 (k0_pay18 x) (k0_pay39 DT) (k0_pay44 DT)))) (ix4 z z' q s)
      = stepv (h (ix4 0 0 q s)) (DTA (ix2 0 (lane 1 q))) (x (ix2 0 q)) (DT (ix2 0 (lane 1 q))) (B (ix2 0 s)) := by
  pointwise [k0_pay106, k0_pay22, k0_pay80, k0_pay5, k0_pay75, k0_pay76, k0_pay93, k0_pay11, k0_pay78, k0_pay4, k0_pay77, k0_pay18, k0_pay39, k0_pay44]
  simp only [cs2 DTA hDTA, cs3 DTA hDTA, sel_half]
  exact gather _ x B DT DTA hDT 1 q s 10 11 rfl rfl

/-- Pair 2 of the state after the step. -/
theorem piece2 (h : FVec Ideal S1x1x128x128 .f32) (x B DT DTA : FVec Ideal S64x128 .f32) (hDT : One DT) (hDTA : One DTA) (z z' : Fin 1) (q s : Fin 128) :
    k0_pay112 (F := Ideal) (k0_pay23 h) (k0_pay86 k0_pay5 (k0_pay52 I0 I1 (k0_pay50 I0 I1) (FloatOps.ofBits FTy.f32 0#32) (k0_pay51 DTA)) (k0_pay56 I0 I1 DTA)) (k0_pay94 (k0_pay12 B) (k0_pay84 k0_pay4 (k0_pay19 x) (k0_pay48 DT) (k0_pay52 I0 I1 (k0_pay50 I0 I1) (FloatOps.ofBits FTy.f32 0#32) (k0_pay51 DTA)) (k0_pay54 DT) (k0_pay56 I0 I1 DTA))) (ix4 z z' q s)
      = stepv (h (ix4 0 0 q s)) (DTA (ix2 0 (lane 2 q))) (x (ix2 0 q)) (DT (ix2 0 (lane 2 q))) (B (ix2 0 s)) := by
  pointwise [k0_pay112, k0_pay23, k0_pay86, k0_pay5, k0_pay94, k0_pay12, k0_pay84, k0_pay4, k0_pay19, k0_pay48, k0_pay54, k0_pay81, k0_pay82, k0_pay83]
  simp only [cs4 DTA hDTA, cs5 DTA hDTA, cs4' DTA hDTA, sel_half]
  exact gather _ x B DT DTA hDT 2 q s 12 13 rfl rfl

/-- Pair 3 of the state after the step. -/
theorem piece3 (h : FVec Ideal S1x1x128x128 .f32) (x B DT DTA : FVec Ideal S64x128 .f32) (hDT : One DT) (hDTA : One DTA) (z z' : Fin 1) (q s : Fin 128) :
    k0_pay114 (F := Ideal) (k0_pay24 h) (k0_pay91 k0_pay5 (k0_pay62 I0 I1 DTA) (k0_pay67 (k0_pay66 I0 I1 DTA))) (k0_pay95 k0_pay4 (k0_pay12 B) (k0_pay20 x) (k0_pay60 DT) (k0_pay62 I0 I1 DTA) (k0_pay64 DT) (k0_pay67 (k0_pay66 I0 I1 DTA))) (ix4 z z' q s)
      = stepv (h (ix4 0 0 q s)) (DTA (ix2 0 (lane 3 q))) (x (ix2 0 q)) (DT (ix2 0 (lane 3 q))) (B (ix2 0 s)) := by
  pointwise [k0_pay114, k0_pay24, k0_pay91, k0_pay5, k0_pay95, k0_pay12, k0_pay4, k0_pay20, k0_pay60, k0_pay64, k0_pay87, k0_pay88, k0_pay89]
  simp only [cs6 DTA hDTA, cs7 DTA hDTA, sel_half]
  exact gather _ x B DT DTA hDT 3 q s 14 15 rfl rfl

/-- The step size: the softplus of the projection's entry and the bias. -/
def soft (a : EReal) : EReal := max a 0 + Ideal.log (1 + Ideal.exp (0 - FloatOps.absf (F := Ideal) (φ := .f32) a))

theorem dt_at (a : FVec Ideal S64x128 .f32) (b : FVec Ideal S1x128 .f32) (i : Fin 64) (n : Fin 128) :
    k0_pay9 (F := Ideal) 0#32 (k0_pay7 a b) (k0_pay8 a b) (ix2 i n) = if i = 0 then soft (a (ix2 i n) + b (ix2 0 n)) else 0 := by
  have hi := i.isLt
  pointwise [k0_pay9, k0_pay7, k0_pay8, k0_pay6]
  rw [show IntOp.addi (BitVec.ofNat 32 i.val) 0#32 = BitVec.ofNat 32 i.val from BitVec.add_zero _,
    WordCmp.cmpi_slt_ofNat (by omega) (by omega)]
  by_cases h : i = 0
  · rw [if_pos h, decide_eq_true (by rw [h]; decide)]
    rfl
  · rw [if_neg h, decide_eq_false (fun g => h (Fin.ext (by show i.val = 0; omega)))]
    rfl

theorem dta_at (v w : FVec Ideal S64x128 .f32) (e : FVec Ideal S1x128 .f32) (i : Fin 64) (n : Fin 128) :
    k0_pay10 (F := Ideal) (k0_pay3 e) 0#32 v w (ix2 i n) = k0_pay9 (F := Ideal) 0#32 v w (ix2 i n) * (0 - Ideal.exp (e (ix2 0 n))) := by
  pointwise [k0_pay10, k0_pay3]

theorem one_dt (a : FVec Ideal S64x128 .f32) (b : FVec Ideal S1x128 .f32) : One (k0_pay9 (F := Ideal) 0#32 (k0_pay7 a b) (k0_pay8 a b)) :=
  fun i hi n => by rw [dt_at, if_neg hi]

theorem one_dta (a : FVec Ideal S64x128 .f32) (b e : FVec Ideal S1x128 .f32) :
    One (k0_pay10 (F := Ideal) (k0_pay3 e) 0#32 (k0_pay7 a b) (k0_pay8 a b)) :=
  fun i hi n => by rw [dta_at, dt_at, if_neg hi, zero_mul]

end Cert.Kernel9Ideal.Ssd
-- ==== Proof.SsdHost.lean ====
/-
  The single-token state-space step's operands at a grid point: the padded rows, the vectors in lanes, the state.
-/
module

public import proofs.«01_k».proof.Proof.Gen.Kernel9Ideal.Value
public import Idealize.ShloMosaic.Lib.Pipeline.ValueKit
public import Idealize.ShloMosaic.Lib.Pipeline.ValueKit.Held
public import Idealize.ShloMosaic.Lib.Pipeline.ReadBack
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.Kernel9Ideal.Ssd

open Cert.Kernel9Ideal Cert.Kernel9Ideal.Gen

section
variable {τ : Topo} {sig : RefSig} {Val : EltTy → Type} {x a b y : Ref sig .tc}

/-- What an operation of three listed operands leaves in its result, each operand named. -/
theorem nary3
    (f : ((k : Fin 3) → ((![x, a, b] : Fin 3 → Ref sig .tc) k).ty.Contents Val) → y.ty.Contents Val) (hxs hy)
    (F : Valuation τ sig Val) :
    (StableHlo.nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [StableHlo.nary_result]; congr 1; funext k; fin_cases k <;> rfl
end

variable (m : (ℓ : Loc nD τ sig) → Buf (Elt Ideal) ℓ)

/-- The argument arrays as plain functions: the convolution's row, the projection's row, the state, the two vectors. -/
def aX (c : Dev nD) (b : Fin 32) (n : Fin 2560) : EReal := (m ((c : Thread nD τ).loc main_arg0) : FVec Ideal S32x2560 .f32) (ix2 b n)
def aP (c : Dev nD) (b : Fin 32) (n : Fin 7168) : EReal := (m ((c : Thread nD τ).loc main_arg1) : FVec Ideal S32x7168 .f32) (ix2 b n)
def aH (c : Dev nD) (b : Fin 32) (h : Fin 8) (d : Fin 64) (s : Fin 128) : EReal :=
  (m ((c : Thread nD τ).loc main_arg2) : FVec Ideal S32x8x64x128 .f32) (ix4 b h d s)
def aA (c : Dev nD) (h : Fin 8) : EReal := (m ((c : Thread nD τ).loc main_arg3) : FVec Ideal S8 .f32) (ix1 h)
def aB (c : Dev nD) (h : Fin 8) : EReal := (m ((c : Thread nD τ).loc main_arg4) : FVec Ideal S8 .f32) (ix1 h)

/-- Every window's block index. -/
theorem idx : ∀ t : Fin cfg0.N, win0_0.index t = ![t.val, 3] ∧ win0_1.index t = ![t.val, 4] ∧ win0_3.index t = ![t.val, 8]
    ∧ win0_4.index t = ![0, 0] ∧ win0_5.index t = ![0, 0] ∧ win0_8.index t = ![t.val, 0, 0, 0] ∧ win0_10.index t = ![t.val, 0, 0, 0] :=
  (by decide +kernel : ∀ t : Fin grid0.N, _)

theorem lt32 (t : Fin cfg0.N) : t.val < 32 := lt_of_lt_of_eq t.isLt (show cfg0.N = 32 from N_0)

/-- The point's sequence. -/
def bat (t : Fin cfg0.N) : Fin 32 := ⟨t.val, lt32 t⟩

/-- The first row of a sequence's padded rows is the sequence's row. -/
theorem pad2 (x : FVec Ideal S32x1x2560 .f32) (z : FVec Ideal S_ .f32) (b : Fin 32) (k : Fin 64) (hk : k.val = 0) (n : Fin 2560) :
    pad S32x64x2560 ![0, 0, 0] ![0, 63, 0] ![0, 0, 0] x z pads_S32x1x2560_S32x64x2560_000_0630_000 h_S_ (ix3 b k n) = x (ix3 b 0 n) := by
  obtain rfl : k = 0 := Fin.ext hk
  pointwise

theorem pad6 (x : FVec Ideal S32x1x1536 .f32) (z : FVec Ideal S_ .f32) (b : Fin 32) (k : Fin 64) (hk : k.val = 0) (n : Fin 1536) :
    pad S32x64x1536 ![0, 0, 0] ![0, 63, 0] ![0, 0, 0] x z pads_S32x1x1536_S32x64x1536_000_0630_000 h_S_ (ix3 b k n) = x (ix3 b 0 n) := by
  obtain rfl : k = 0 := Fin.ext hk
  pointwise

theorem V2 (c : Dev nD) (b : Fin 32) (n : Fin 2560) :
    (V m c main_v2 : FVec Ideal S2048x2560 .f32) (ix2 ⟨b.val * 64, by omega⟩ n) = aX m c b n := by
  have hb := b.isLt
  have hn := n.isLt
  dsimp only [V]
  simp (disch := decide) only [StableHlo.readAfter, StableHlo.readUpto, StableHlo.nullary_result', StableHlo.unary_result', StableHlo.binary_result',
    StableHlo.ternary_result', StableHlo.reshape_result', nary3]
  pointwise
  refine (pad2 (broadcastInDim S32x1x2560 ![0, 2] bcast_S32x2560_S32x1x2560_0_2 (m (c, Proc.tc.devRef main_arg0))) _ b ⟨b.val * 64 % 64, Nat.mod_lt _ (by decide)⟩ (Nat.mul_mod_left _ _) n).trans ?_
  pointwise
  rfl

theorem V6 (c : Dev nD) (b : Fin 32) (n : Fin 1536) :
    (V m c main_v6 : FVec Ideal S2048x1536 .f32) (ix2 ⟨b.val * 64, by omega⟩ n) = aP m c b ⟨5632 + n.val, by omega⟩ := by
  have hb := b.isLt
  have hn := n.isLt
  dsimp only [V]
  simp (disch := decide) only [StableHlo.readAfter, StableHlo.readUpto, StableHlo.nullary_result', StableHlo.unary_result', StableHlo.binary_result',
    StableHlo.ternary_result', StableHlo.reshape_result', nary3]
  pointwise
  refine (pad6 (broadcastInDim S32x1x1536 ![0, 2] bcast_S32x1536_S32x1x1536_0_2 (extractStridedSlice S32x1536 ![0, 5632]
    (m (c, Proc.tc.devRef main_arg1) : FVec Ideal S32x7168 .f32) slices_S32x7168_S32x1536_0_5632)) _ b ⟨b.val * 64 % 64, Nat.mod_lt _ (by decide)⟩ (Nat.mul_mod_left _ _) n).trans ?_
  pointwise
  rfl

theorem V17 (c : Dev nD) (b : Fin 32) (p : Fin 4) (q s : Fin 128) :
    (V m c main_v17 : FVec Ideal S32x4x128x128 .f32) (ix4 b p q s) = aH m c b ⟨2 * p.val + q.val / 64, by omega⟩ ⟨q.val % 64, by omega⟩ s := by
  have hb := b.isLt
  have hp := p.isLt
  have hq := q.isLt
  have hs := s.isLt
  dsimp only [V]
  simp (disch := decide) only [StableHlo.readAfter, StableHlo.readUpto, StableHlo.nullary_result', StableHlo.unary_result', StableHlo.binary_result',
    StableHlo.ternary_result', StableHlo.reshape_result', nary3]
  pointwise
  exact congrArg (fun h => aH m c b h ⟨q.val % 64, by omega⟩ s) (Fin.ext (show p.val * 2 + q.val / 64 = 2 * p.val + q.val / 64 by omega))

theorem V10 (c : Dev nD) (h : Fin 8) : (V m c main_v10 : FVec Ideal S1x128 .f32) (ix2 0 ⟨8 + h.val, by omega⟩) = aA m c h := by
  have hh := h.isLt
  have e1 : (StableHlo.upto [hostOps0, hostOps0_1, hostOps0_2, hostOps0_3, hostOps0_4].flatten (fun b => m (c, b)) 15 (Proc.tc.devRef main_arg3) : FVec Ideal S8 .f32) (ix1 h)
      = aA m c h := by
    simp (disch := decide) only [StableHlo.readAfter, StableHlo.readUpto]
    rfl
  dsimp only [V]
  simp (disch := decide) only [StableHlo.readAfter, StableHlo.readUpto, StableHlo.nullary_result', StableHlo.unary_result', StableHlo.binary_result',
    StableHlo.ternary_result', StableHlo.reshape_result', nary3]
  revert e1
  generalize StableHlo.upto [hostOps0, hostOps0_1, hostOps0_2, hostOps0_3, hostOps0_4].flatten (fun b => m (c, b)) 15 (Proc.tc.devRef main_v7) = q0
  generalize StableHlo.upto [hostOps0, hostOps0_1, hostOps0_2, hostOps0_3, hostOps0_4].flatten (fun b => m (c, b)) 15 (Proc.tc.devRef main_arg3) = q1
  generalize StableHlo.upto [hostOps0, hostOps0_1, hostOps0_2, hostOps0_3, hostOps0_4].flatten (fun b => m (c, b)) 15 (Proc.tc.devRef main_v8) = q2
  intro e1
  pointwise
  exact e1

theorem V12 (c : Dev nD) (h : Fin 8) : (V m c main_v12 : FVec Ideal S1x128 .f32) (ix2 0 ⟨8 + h.val, by omega⟩) = aB m c h := by
  have hh := h.isLt
  have e1 : (StableHlo.upto [hostOps0, hostOps0_1, hostOps0_2, hostOps0_3, hostOps0_4].flatten (fun b => m (c, b)) 17 (Proc.tc.devRef main_arg4) : FVec Ideal S8 .f32) (ix1 h)
      = aB m c h := by
    simp (disch := decide) only [StableHlo.readAfter, StableHlo.readUpto]
    rfl
  dsimp only [V]
  simp (disch := decide) only [StableHlo.readAfter, StableHlo.readUpto, StableHlo.nullary_result', StableHlo.unary_result', StableHlo.binary_result',
    StableHlo.ternary_result', StableHlo.reshape_result', nary3]
  revert e1
  generalize StableHlo.upto [hostOps0, hostOps0_1, hostOps0_2, hostOps0_3, hostOps0_4].flatten (fun b => m (c, b)) 17 (Proc.tc.devRef main_v7) = q0
  generalize StableHlo.upto [hostOps0, hostOps0_1, hostOps0_2, hostOps0_3, hostOps0_4].flatten (fun b => m (c, b)) 17 (Proc.tc.devRef main_arg4) = q1
  generalize StableHlo.upto [hostOps0, hostOps0_1, hostOps0_2, hostOps0_3, hostOps0_4].flatten (fun b => m (c, b)) 17 (Proc.tc.devRef main_v8) = q2
  intro e1
  pointwise
  exact e1

theorem blk0 (c : Dev nD) (t : Fin cfg0.N) (n : Fin 512) :
    (iblk m c 0 t : FVec Ideal S64x512 .f32) (ix2 0 n) = aX m c (bat t) ⟨1536 + n.val, by omega⟩ := by
  refine Eq.trans ?_ (V2 m c (bat t) ⟨1536 + n.val, by omega⟩)
  blk_ext [iblk, idx t, bat]

theorem blk1 (c : Dev nD) (t : Fin cfg0.N) (n : Fin 512) :
    (iblk m c 1 t : FVec Ideal S64x512 .f32) (ix2 0 n) = aX m c (bat t) ⟨2048 + n.val, by omega⟩ := by
  refine Eq.trans ?_ (V2 m c (bat t) ⟨2048 + n.val, by omega⟩)
  blk_ext [iblk, idx t, bat]

theorem blk3 (c : Dev nD) (t : Fin cfg0.N) (n : Fin 128) :
    (iblk m c 3 t : FVec Ideal S64x128 .f32) (ix2 0 n) = aP m c (bat t) ⟨6656 + n.val, by omega⟩ := by
  refine Eq.trans ?_ (Eq.trans (V6 m c (bat t) ⟨1024 + n.val, by omega⟩) (congrArg (aP m c (bat t)) (Fin.ext (show 5632 + (1024 + n.val) = 6656 + n.val by omega))))
  blk_ext [iblk, idx t, bat]

theorem blk4 (c : Dev nD) (t : Fin cfg0.N) (h : Fin 8) : (iblk m c 4 t : FVec Ideal S1x128 .f32) (ix2 0 ⟨8 + h.val, by omega⟩) = aA m c h := by
  refine Eq.trans ?_ (V10 m c h)
  blk_ext [iblk, idx t]

theorem blk5 (c : Dev nD) (t : Fin cfg0.N) (h : Fin 8) : (iblk m c 5 t : FVec Ideal S1x128 .f32) (ix2 0 ⟨8 + h.val, by omega⟩) = aB m c h := by
  refine Eq.trans ?_ (V12 m c h)
  blk_ext [iblk, idx t]

theorem blk8 (c : Dev nD) (t : Fin cfg0.N) (z : Fin 1) (p : Fin 4) (q s : Fin 128) :
    (iblk m c 8 t : FVec Ideal S1x4x128x128 .f32) (ix4 z p q s) = aH m c (bat t) ⟨2 * p.val + q.val / 64, by omega⟩ ⟨q.val % 64, by omega⟩ s := by
  refine Eq.trans ?_ (V17 m c (bat t) p q s)
  blk_ext [iblk, idx t, bat]

end Cert.Kernel9Ideal.Ssd
-- ==== Proof.SsdArr.lean ====
/-
  The single-token state-space step's kernel: a point's block of the new state, and the state array after the run.
-/
module

public import proofs.«01_k».proof.Proof.SsdPay
public import proofs.«01_k».proof.Proof.SsdHost
public import Idealize.ShloMosaic.Lib.Pipeline.ValueKit
public import Idealize.ShloMosaic.Lib.Pipeline.ValueKit.Held
public import Idealize.ShloMosaic.Lib.Pipeline.ReadBack
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.Kernel9Ideal.Ssd

open Cert.Kernel9Ideal Cert.Kernel9Ideal.Gen

variable (m : (ℓ : Loc nD τ sig) → Buf (Elt Ideal) ℓ)

theorem emb_pair (k : ℕ) (inb : ∀ a, (![0, k, 0, 0] : Fin 4 → ℕ) a + (![1, 1, 128, 128] : Fin 4 → ℕ) a ≤ S1x4x128x128.size a) (p : Fin 4) (hp : p.val = k) (q s : Fin 128) :
    (Rect.unit (s := S1x4x128x128) ![0, k, 0, 0] ![1, 1, 128, 128] inb).emb (ix4 (0 : Fin 1) (0 : Fin 1) q s) = (ix4 (0 : Fin 1) p q s : S1x4x128x128.Idx) := by
  funext a
  apply Fin.ext
  rw [Rect.emb_apply]
  match a with
  | ⟨0, _⟩ => rfl
  | ⟨1, _⟩ => show k + 1 * 0 = p.val; omega
  | ⟨2, _⟩ => show 0 + 1 * q.val = q.val; omega
  | ⟨3, _⟩ => show 0 + 1 * s.val = s.val; omega

/-- A store of one pair, read in that pair. -/
theorem hit (k : ℕ) (inb : ∀ a, (![0, k, 0, 0] : Fin 4 → ℕ) a + (![1, 1, 128, 128] : Fin 4 → ℕ) a ≤ S1x4x128x128.size a) (X : Vec Ideal S1x1x128x128 .f32)
    (L : List (View.Piece (Elt Ideal) S1x4x128x128 .f32)) (p : Fin 4) (hp : p.val = k) (q s : Fin 128) :
    View.canon ((⟨Rect.unit ![0, k, 0, 0] ![1, 1, 128, 128] inb, X⟩ : View.Piece (Elt Ideal) S1x4x128x128 .f32) :: L) (ix4 (0 : Fin 1) p q s) = X (ix4 (0 : Fin 1) (0 : Fin 1) q s) := by
  rw [← emb_pair k inb p hp q s]
  exact View.canon_cons_emb (Rect.unit (s := S1x4x128x128) ![0, k, 0, 0] ![1, 1, 128, 128] inb) X L _

/-- A store of one pair, read in another. -/
theorem miss (k : ℕ) (inb : ∀ a, (![0, k, 0, 0] : Fin 4 → ℕ) a + (![1, 1, 128, 128] : Fin 4 → ℕ) a ≤ S1x4x128x128.size a) (X : Vec Ideal S1x1x128x128 .f32)
    (L : List (View.Piece (Elt Ideal) S1x4x128x128 .f32)) (p : Fin 4) (hp : p.val ≠ k) (q s : Fin 128) :
    View.canon ((⟨Rect.unit ![0, k, 0, 0] ![1, 1, 128, 128] inb, X⟩ : View.Piece (Elt Ideal) S1x4x128x128 .f32) :: L) (ix4 (0 : Fin 1) p q s) = View.canon L (ix4 (0 : Fin 1) p q s) := by
  refine View.canon_cons_of_not_mem _ L ?_
  rw [Rect.mem_set_unit]
  intro h
  have h1 : k ≤ p.val ∧ p.val < k + 1 := h 1
  omega

/-- A pair read back from a store of the whole block. -/
theorem rdw (t : Fin cfg0.N) (W : Vec Ideal S1x4x128x128 .f32) (k : ℕ) (inb : ∀ a, (![0, k, 0, 0] : Fin 4 → ℕ) a + (![1, 1, 128, 128] : Fin 4 → ℕ) a ≤ S1x4x128x128.size a)
    (p : Fin 4) (hp : p.val = k) (q s : Fin 128) :
    ((ms0_10 t).view.readCov (Val := Elt Ideal)
      [⟨Rect.unit ![0, 0, 0, 0] ![1, 4, 128, 128] inb_S1x4x128x128_S1x4x128x128_0_0_0_0, W⟩]
      (Rect.unit (s := S1x4x128x128) ![0, k, 0, 0] ![1, 1, 128, 128] inb).toLoadRect : FVec Ideal S1x1x128x128 .f32) (ix4 0 0 q s) = W (ix4 0 p q s) := by
  rw [View.readCov_eq_canon']
  refine (congrFun (View.canon_cons_unit_lit (Val := Elt Ideal) (e := .f32) (S := S1x4x128x128) (off := ![0, 0, 0, 0]) inb_S1x4x128x128_S1x4x128x128_0_0_0_0 W [] (by decide)) _).trans ?_
  refine congrArg W ?_
  funext a
  apply Fin.ext
  match a with
  | ⟨0, _⟩ => rfl
  | ⟨1, _⟩ => show k + 1 * 0 = p.val; omega
  | ⟨2, _⟩ => show 0 + 1 * q.val = q.val; omega
  | ⟨3, _⟩ => show 0 + 1 * s.val = s.val; omega

theorem pay1 (W : FVec Ideal S1x4x128x128 .f32) (z : Fin 1) (p : Fin 4) (q s : Fin 128) : k0_pay1 (F := Ideal) W (ix4 z p q s) = W (ix4 z p q s) := by
  pointwise [k0_pay1]

/-- One tile of 128 columns of a block of 512, in its first row. -/
theorem tile (X : Vec Ideal S64x512 .f32) (off : Fin 2 → ℕ) (inb) (k : ℕ) (hk : off = ![0, k]) (q : Fin 128) (hq : k + q.val < 512) :
    (View.ld X (Rect.unit off ![64, 128] inb) : FVec Ideal S64x128 .f32) (ix2 0 q) = X (ix2 0 ⟨k + q.val, hq⟩) := by
  subst hk
  refine View.ld_unit_apply_of X _ _ inb _ _ ?_
  intro a
  match a with
  | ⟨0, _⟩ => rfl
  | ⟨1, _⟩ => rfl

/-- The head of row `q` of pair `p`. -/
def head (p : Fin 4) (q : Fin 128) : Fin 8 := ⟨2 * p.val + q.val / 64, by omega⟩

theorem lane_head (p : Fin 4) (q : Fin 128) : lane p q = ⟨8 + (head p q).val, by have := (head p q).isLt; omega⟩ :=
  Fin.ext (by show 8 + 2 * p.val + q.val / 64 = 8 + (2 * p.val + q.val / 64); omega)

/-- The step size of one head of one sequence, and its logarithmic decay. -/
def dts (c : Dev nD) (b : Fin 32) (h : Fin 8) : EReal := soft (aP m c b ⟨6664 + h.val, by omega⟩ + aB m c h)
def dec (c : Dev nD) (b : Fin 32) (h : Fin 8) : EReal := dts m c b h * (0 - Ideal.exp (aA m c h))

theorem dt_lane (c : Dev nD) (t : Fin cfg0.N) (p : Fin 4) (q : Fin 128) :
    k0_pay9 (F := Ideal) 0#32 (k0_pay7 (iblk m c 3 t) (iblk m c 5 t)) (k0_pay8 (iblk m c 3 t) (iblk m c 5 t)) (ix2 0 (lane p q)) = dts m c (bat t) (head p q) := by
  rw [dt_at, if_pos rfl, lane_head, blk3 m c t, blk5 m c t]
  unfold dts
  exact congrArg (fun k => soft (aP m c (bat t) k + aB m c (head p q))) (Fin.ext (show 6656 + (8 + (head p q).val) = 6664 + (head p q).val by omega))

theorem dta_lane (c : Dev nD) (t : Fin cfg0.N) (p : Fin 4) (q : Fin 128) :
    k0_pay10 (F := Ideal) (k0_pay3 (iblk m c 4 t)) 0#32 (k0_pay7 (iblk m c 3 t) (iblk m c 5 t)) (k0_pay8 (iblk m c 3 t) (iblk m c 5 t)) (ix2 0 (lane p q))
      = dec m c (bat t) (head p q) := by
  rw [dta_at, dt_lane, lane_head, blk4 m c t]
  rfl

/-- One entry of the new state. -/
def newv (c : Dev nD) (b : Fin 32) (p : Fin 4) (q s : Fin 128) : EReal :=
  stepv (aH m c b (head p q) ⟨q.val % 64, Nat.mod_lt _ (by decide)⟩ s) (dec m c b (head p q)) (aX m c b ⟨1536 + (128 * p.val + q.val), by omega⟩)
    (dts m c b (head p q)) (aX m c b ⟨2048 + (128 * (p.val / 2) + s.val), by omega⟩)

theorem point10 (c : Dev nD) (t : Fin cfg0.N) (z : Fin 1) (p : Fin 4) (q s : Fin 128) :
    (outsAt0 m c t).2 (ix4 z p q s) = newv m c (bat t) p q s := by
  obtain rfl : z = 0 := Subsingleton.elim _ _
  dsimp only [outsAt0]
  frame_out
  have hq := q.isLt
  have hs := s.isLt
  by_cases g0 : p.val = 0
  · obtain rfl : p = 0 := Fin.ext g0
    refine (miss 3 _ _ _ 0 (by decide) q s).trans ?_; refine (miss 2 _ _ _ 0 (by decide) q s).trans ?_; refine (miss 1 _ _ _ 0 (by decide) q s).trans ?_
    refine (hit 0 _ _ _ 0 rfl q s).trans ?_
    refine (piece0 _ _ _ _ _ (one_dt _ _) (one_dta _ _ _) 0 0 q s).trans ?_
    have eh := (rdw t (k0_pay1 (iblk m c 8 t)) 0 inb_S1x4x128x128_S1x1x128x128_0_0_0_0 0 rfl q s).trans ((pay1 _ 0 0 q s).trans (blk8 m c t 0 0 q s))
    have ex := (tile (iblk m c 0 t) k0_off2 k0_off2_inb 0 rfl q (by omega)).trans (blk0 m c t ⟨0 + q.val, by omega⟩)
    have eb := (tile (iblk m c 1 t) k0_off2 k0_off2_inb 0 rfl s (by omega)).trans (blk1 m c t ⟨0 + s.val, by omega⟩)
    rw [eh, ex, eb, dta_lane m c t 0 q, dt_lane m c t 0 q]
    exact congrArg₂ (fun k l => stepv _ _ (aX m c (bat t) k) _ (aX m c (bat t) l)) (Fin.ext (by show 1536 + (0 + q.val) = 1536 + (128 * 0 + q.val); omega))
      (Fin.ext (by show 2048 + (0 + s.val) = 2048 + (128 * (0 / 2) + s.val); omega))
  by_cases g1 : p.val = 1
  · obtain rfl : p = 1 := Fin.ext g1
    refine (miss 3 _ _ _ 1 (by decide) q s).trans ?_; refine (miss 2 _ _ _ 1 (by decide) q s).trans ?_
    refine (hit 1 _ _ _ 1 rfl q s).trans ?_
    refine (piece1 _ _ _ _ _ (one_dt _ _) (one_dta _ _ _) 0 0 q s).trans ?_
    have eh := (rdw t (k0_pay1 (iblk m c 8 t)) 1 inb_S1x4x128x128_S1x1x128x128_0_1_0_0 1 rfl q s).trans ((pay1 _ 0 1 q s).trans (blk8 m c t 0 1 q s))
    have ex := (tile (iblk m c 0 t) k0_off3 k0_off3_inb 128 rfl q (by omega)).trans (blk0 m c t ⟨128 + q.val, by omega⟩)
    have eb := (tile (iblk m c 1 t) k0_off2 k0_off2_inb 0 rfl s (by omega)).trans (blk1 m c t ⟨0 + s.val, by omega⟩)
    rw [eh, ex, eb, dta_lane m c t 1 q, dt_lane m c t 1 q]
    exact congrArg₂ (fun k l => stepv _ _ (aX m c (bat t) k) _ (aX m c (bat t) l)) (Fin.ext (by show 1536 + (128 + q.val) = 1536 + (128 * 1 + q.val); omega))
      (Fin.ext (by show 2048 + (0 + s.val) = 2048 + (128 * (1 / 2) + s.val); omega))
  by_cases g2 : p.val = 2
  · obtain rfl : p = 2 := Fin.ext g2
    refine (miss 3 _ _ _ 2 (by decide) q s).trans ?_
    refine (hit 2 _ _ _ 2 rfl q s).trans ?_
    refine (piece2 _ _ _ _ _ (one_dt _ _) (one_dta _ _ _) 0 0 q s).trans ?_
    have eh := (rdw t (k0_pay1 (iblk m c 8 t)) 2 inb_S1x4x128x128_S1x1x128x128_0_2_0_0 2 rfl q s).trans ((pay1 _ 0 2 q s).trans (blk8 m c t 0 2 q s))
    have ex := (tile (iblk m c 0 t) k0_off4 k0_off4_inb 256 rfl q (by omega)).trans (blk0 m c t ⟨256 + q.val, by omega⟩)
    have eb := (tile (iblk m c 1 t) k0_off3 k0_off3_inb 128 rfl s (by omega)).trans (blk1 m c t ⟨128 + s.val, by omega⟩)
    rw [eh, ex, eb, dta_lane m c t 2 q, dt_lane m c t 2 q]
    exact congrArg₂ (fun k l => stepv _ _ (aX m c (bat t) k) _ (aX m c (bat t) l)) (Fin.ext (by show 1536 + (256 + q.val) = 1536 + (128 * 2 + q.val); omega))
      (Fin.ext (by show 2048 + (128 + s.val) = 2048 + (128 * (2 / 2) + s.val); omega))
  by_cases g3 : p.val = 3
  · obtain rfl : p = 3 := Fin.ext g3
    refine (hit 3 _ _ _ 3 rfl q s).trans ?_
    refine (piece3 _ _ _ _ _ (one_dt _ _) (one_dta _ _ _) 0 0 q s).trans ?_
    have eh := (rdw t (k0_pay1 (iblk m c 8 t)) 3 inb_S1x4x128x128_S1x1x128x128_0_3_0_0 3 rfl q s).trans ((pay1 _ 0 3 q s).trans (blk8 m c t 0 3 q s))
    have ex := (tile (iblk m c 0 t) k0_off5 k0_off5_inb 384 rfl q (by omega)).trans (blk0 m c t ⟨384 + q.val, by omega⟩)
    have eb := (tile (iblk m c 1 t) k0_off3 k0_off3_inb 128 rfl s (by omega)).trans (blk1 m c t ⟨128 + s.val, by omega⟩)
    rw [eh, ex, eb, dta_lane m c t 3 q, dt_lane m c t 3 q]
    exact congrArg₂ (fun k l => stepv _ _ (aX m c (bat t) k) _ (aX m c (bat t) l)) (Fin.ext (by show 1536 + (384 + q.val) = 1536 + (128 * 3 + q.val); omega))
      (Fin.ext (by show 2048 + (128 + s.val) = 2048 + (128 * (3 / 2) + s.val); omega))
  exact absurd p.isLt (by omega)

/-- The new state, as an array. -/
def new (c : Dev nD) : FVec Ideal S32x4x128x128 .f32 := fun i =>
  newv m c ⟨(i 0).val, (i 0).isLt⟩ ⟨(i 1).val, (i 1).isLt⟩ ⟨(i 2).val, (i 2).isLt⟩ ⟨(i 3).val, (i 3).isLt⟩

theorem new_at (c : Dev nD) (b : Fin 32) (p : Fin 4) (q s : Fin 128) : new m c (ix4 b p q s) = newv m c b p q s := rfl

theorem emb10 (t : Fin cfg0.N) (z : Fin 1) (p : Fin 4) (q s : Fin 128) : ((cfg0.win 10).blk t).view.emb (ix4 z p q s) = ix4 (bat t) p q s := by
  have hz := z.isLt
  funext a
  match a with
  | ⟨0, _⟩ => apply Fin.ext; blk_simp [idx t]; rfl
  | ⟨1, _⟩ => apply Fin.ext; blk_simp [idx t]
  | ⟨2, _⟩ => apply Fin.ext; blk_simp [idx t]
  | ⟨3, _⟩ => apply Fin.ext; blk_simp [idx t]

/-- After the run the second result array is the new state. -/
theorem final10 (c : Dev nD) : (dats m 0 c).arrAt 10 cfg0.N = new m c := by
  refine (dats m 0 c).arrAt_eq_of_covers 10 _ (by decide +kernel) fun t hf y => ?_
  blk_simp
  rw [after0_10]
  idx_vars y
  refine Eq.trans ?_ (congrArg (new m c) (emb10 t y0 y1 y2 y3).symm)
  exact point10 m c t y0 y1 y2 y3

end Cert.Kernel9Ideal.Ssd
-- ==== Proof.SsdRef.lean ====
/-
  The single-token state-space step's reference read at an index.
-/
module

public import proofs.«01_k».proof.Proof.Gen.Reference9Ideal.Run
public import proofs.«01_k».proof.Proof.Gen.Reference9Ideal.Read
public import proofs.«01_k».proof.Proof.SsdPay

@[expose] public section

set_option maxRecDepth 16384

noncomputable section

open Idealize.ShloMosaic Idealize.ShloMosaic.TcCoe Idealize.SL.Sem
open Idealize.ShloMosaic.Pipeline (Dat)

namespace Cert.Reference9Ideal.Ssd

open Cert.Reference9Ideal Cert.Reference9Ideal.Read Cert.Kernel9Ideal.Ssd

variable (x0 : FVec Ideal S32x2560 .f32) (x1 : FVec Ideal S32x7168 .f32) (x2 : FVec Ideal S32x8x64x128 .f32) (x3 x4 : FVec Ideal S8 .f32)

theorem v10_at (b : Fin 32) (h : Fin 8) : val_main_v10 (F := Ideal) x1 x4 (ix2 b h) = soft (x1 (ix2 b ⟨6664 + h.val, by omega⟩) + x4 (ix1 h)) := by
  pointwise [val_main_v10, val_main_call0_v11, val_main_call0_v10, val_main_call0_v9, val_main_call0_v8, val_main_call0_v7, val_main_call0_v6, val_main_call0_v5, val_main_call0_v4, val_main_call0_v3, val_main_call0_v2, val_main_call0_v1, val_main_call0_v0, val_main_call0_cst, val_main_v9, val_main_v8, val_main_v7, val_main_v6]
  unfold soft
  rw [if_neg (fun e => e rfl), zero_sub]
  rfl

theorem v15_at (b : Fin 32) (h : Fin 8) : val_main_v15 (F := Ideal) x1 x3 x4 (ix2 b h)
    = soft (x1 (ix2 b ⟨6664 + h.val, by omega⟩) + x4 (ix1 h)) * (0 - Ideal.exp (x3 (ix1 h))) := by
  pointwise [val_main_v15, val_main_v14, val_main_v13, val_main_v12, val_main_v11]
  rw [v10_at, zero_sub]

theorem v5_at (b : Fin 32) (h : Fin 8) (s : Fin 128) : val_main_v5 (F := Ideal) x0 (ix3 b h s)
    = x0 (ix2 b ⟨2048 + (128 * (h.val / 4) + s.val), by omega⟩) := by
  have hb := b.isLt
  have hh := h.isLt
  have hs := s.isLt
  pointwise [val_main_v5, val_main_v4, val_main_v3, val_main_v2]
  exact congrArg (fun k => x0 (ix2 b k)) (Fin.ext (by show 2048 + (h.val / 4 * 128 + s.val) = 2048 + (128 * (h.val / 4) + s.val); omega))

theorem v1_at (b : Fin 32) (h : Fin 8) (d : Fin 64) : val_main_v1 (F := Ideal) x0 (ix3 b h d)
    = x0 (ix2 b ⟨1536 + (64 * h.val + d.val), by omega⟩) := by
  have hb := b.isLt
  have hh := h.isLt
  have hs := d.isLt
  pointwise [val_main_v1, val_main_v0]
  exact congrArg (fun k => x0 (ix2 b k)) (Fin.ext (by show 1536 + (h.val * 64 + d.val) = 1536 + (64 * h.val + d.val); omega))

theorem v33_at (b : Fin 32) (h : Fin 8) (d : Fin 64) (s : Fin 128) : val_main_v33 (F := Ideal) x0 x1 x2 x3 x4 (ix4 b h d s)
    = stepv (x2 (ix4 b h d s)) (soft (x1 (ix2 b ⟨6664 + h.val, by omega⟩) + x4 (ix1 h)) * (0 - Ideal.exp (x3 (ix1 h))))
      (x0 (ix2 b ⟨1536 + (64 * h.val + d.val), by omega⟩)) (soft (x1 (ix2 b ⟨6664 + h.val, by omega⟩) + x4 (ix1 h)))
      (x0 (ix2 b ⟨2048 + (128 * (h.val / 4) + s.val), by omega⟩)) := by
  pointwise [val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16]
  rw [v15_at, v10_at, v5_at, v1_at]
  rfl

theorem v34_at (b : Fin 32) (p : Fin 4) (q s : Fin 128) : val_main_v34 (F := Ideal) x0 x1 x2 x3 x4 (ix4 b p q s)
    = val_main_v33 (F := Ideal) x0 x1 x2 x3 x4 (ix4 b ⟨2 * p.val + q.val / 64, by omega⟩ ⟨q.val % 64, Nat.mod_lt _ (by decide)⟩ s) := by
  have hb := b.isLt
  have hp := p.isLt
  have hq := q.isLt
  have hs := s.isLt
  pointwise [val_main_v34]
  exact congrArg (fun k => val_main_v33 (F := Ideal) x0 x1 x2 x3 x4 (ix4 b k ⟨q.val % 64, Nat.mod_lt _ (by decide)⟩ s)) (Fin.ext (by show p.val * 2 + q.val / 64 = 2 * p.val + q.val / 64; omega))

end Cert.Reference9Ideal.Ssd
-- ==== Proof.SsdClaim.lean ====
/-
  The single-token state-space step's claims: the reference's run, and the two programs' equal states.
-/
module

public import proofs.«01_k».proof.Defs
public import proofs.«01_k».proof.Proof.SsdArr
public import proofs.«01_k».proof.Proof.SsdRef
public import Idealize.ShloMosaic.Lib.Claim

@[expose] public section

set_option maxRecDepth 16384

noncomputable section

open Idealize.ShloMosaic Idealize.ShloMosaic.TcCoe Idealize.SL.Sem

namespace Cert.Proof.SsdClaim

/-- The reference leaves its arguments as launched and every counter at zero. -/
theorem frame_ref : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- The kernel and the reference end with the same state. -/
theorem algebraic : Cert.algebraic_Kernel9Ideal_Reference9Ideal := by
  pair_intro
  · run_from Cert.Kernel9Ideal.Value.run_blocks m g
  · run_from Cert.Reference9Ideal.Value.run m' g'
    · obtain ⟨e0, e1, e2, e3, e4, e5, e6⟩ := hagree c
      rw [Cert.Kernel9Ideal.Ssd.final10 m c, Cert.Reference9Ideal.Read.val_main_v34_eq, e0, e1, e2, e3, e4]
      funext i
      idx_vars i
      rw [Cert.Reference9Ideal.Ssd.v34_at, Cert.Reference9Ideal.Ssd.v33_at, Cert.Kernel9Ideal.Ssd.new_at]
      have ex : (⟨1536 + (64 * (2 * i1.val + i2.val / 64) + i2.val % 64), by omega⟩ : Fin 2560)
          = ⟨1536 + (128 * i1.val + i2.val), by omega⟩ :=
        Fin.ext (show 1536 + (64 * (2 * i1.val + i2.val / 64) + i2.val % 64) = 1536 + (128 * i1.val + i2.val) by omega)
      have eb : (⟨2048 + (128 * ((2 * i1.val + i2.val / 64) / 4) + i3.val), by omega⟩ : Fin 2560)
          = ⟨2048 + (128 * (i1.val / 2) + i3.val), by omega⟩ :=
        Fin.ext (show 2048 + (128 * ((2 * i1.val + i2.val / 64) / 4) + i3.val) = 2048 + (128 * (i1.val / 2) + i3.val) by omega)
      unfold Cert.Kernel9Ideal.Ssd.newv
      rw [← ex, ← eb]
      rfl

end Cert.Proof.SsdClaim
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.KernelIdeal.Value
public import proofs.«01_k».proof.Proof.Gen.Kernel2Ideal.Value
public import proofs.«01_k».proof.Proof.Gen.ReferenceIdeal.Run
public import proofs.«01_k».proof.Proof.Gen.ReferenceIdeal.Read
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.FfnClaim
public import proofs.«01_k».proof.Proof.AttnClaim
public import proofs.«01_k».proof.Proof.MergeClaim
public import proofs.«01_k».proof.Proof.OutpClaim
public import proofs.«01_k».proof.Proof.InpClaim
public import proofs.«01_k».proof.Proof.ConvClaim
public import proofs.«01_k».proof.Proof.CpClaim
public import proofs.«01_k».proof.Proof.FsClaim
public import proofs.«01_k».proof.Proof.SsdClaim
public import Idealize.ShloMosaic.Adequacy
public import Idealize.ShloMosaic.Init

@[expose] public section

noncomputable section

namespace Cert.Proof

open Idealize.ShloMosaic Idealize.SL.Sem Cert.Kernel

/-- The attention kernel leaves its arguments as launched and every counter at zero. -/
theorem frame_kernel : Cert.quiescent_Kernel := fun m ρ _ => Cert.Kernel.Gen.frame (F := Bits) m ρ
/-- The same of the idealized attention kernel. -/
theorem frame_kernelIdeal : Cert.quiescent_KernelIdeal := fun m ρ _ => Cert.KernelIdeal.Gen.frame (F := Ideal) m ρ
/-- The feed-forward kernel leaves its arguments as launched and every counter at zero. -/
theorem frame_kernel2 : Cert.quiescent_Kernel2 := fun m ρ _ => Cert.Kernel2.Gen.frame (F := Bits) m ρ
/-- The same of the idealized feed-forward kernel. -/
theorem frame_kernel2Ideal : Cert.quiescent_Kernel2Ideal := fun m ρ _ => Cert.Kernel2Ideal.Gen.frame (F := Ideal) m ρ

/-- The merge's kernel leaves its arguments as launched and every counter at zero. -/
theorem frame_kernel3 : Cert.quiescent_Kernel3 := fun m ρ _ => Cert.Kernel3.Gen.frame (F := Bits) m ρ
/-- The same of the idealized merge kernel. -/
theorem frame_kernel3Ideal : Cert.quiescent_Kernel3Ideal := fun m ρ _ => Cert.Kernel3Ideal.Gen.frame (F := Ideal) m ρ
/-- The output projection's kernel leaves its arguments as launched and every counter at zero. -/
theorem frame_kernel4 : Cert.quiescent_Kernel4 := fun m ρ _ => Cert.Kernel4.Gen.frame (F := Bits) m ρ
/-- The same of the idealized output projection's kernel. -/
theorem frame_kernel4Ideal : Cert.quiescent_Kernel4Ideal := fun m ρ _ => Cert.Kernel4Ideal.Gen.frame (F := Ideal) m ρ
/-- The input projection's kernel leaves its arguments as launched and every counter at zero. -/
theorem frame_kernel5 : Cert.quiescent_Kernel5 := fun m ρ _ => Cert.Kernel5.Gen.frame (F := Bits) m ρ
/-- The same of the idealized input projection's kernel. -/
theorem frame_kernel5Ideal : Cert.quiescent_Kernel5Ideal := fun m ρ _ => Cert.Kernel5Ideal.Gen.frame (F := Ideal) m ρ
/-- The convolution's kernel leaves its arguments as launched and every counter at zero. -/
theorem frame_kernel6 : Cert.quiescent_Kernel6 := fun m ρ _ => Cert.Kernel6.Gen.frame (F := Bits) m ρ
/-- The same of the idealized convolution's kernel. -/
theorem frame_kernel6Ideal : Cert.quiescent_Kernel6Ideal := fun m ρ _ => Cert.Kernel6Ideal.Gen.frame (F := Ideal) m ρ
/-- The prompt convolution's kernel leaves its arguments as launched and every counter at zero. -/
theorem frame_kernel7 : Cert.quiescent_Kernel7 := fun m ρ _ => Cert.Kernel7.Gen.frame (F := Bits) m ρ
/-- The same of the idealized prompt convolution's kernel. -/
theorem frame_kernel7Ideal : Cert.quiescent_Kernel7Ideal := fun m ρ _ => Cert.Kernel7Ideal.Gen.frame (F := Ideal) m ρ
/-- The sample batch's feed-forward kernel leaves its arguments as launched and every counter at zero. -/
theorem frame_kernel8 : Cert.quiescent_Kernel8 := fun m ρ _ => Cert.Kernel8.Gen.frame (F := Bits) m ρ
/-- The same of the idealized kernel. -/
theorem frame_kernel8Ideal : Cert.quiescent_Kernel8Ideal := fun m ρ _ => Cert.Kernel8Ideal.Gen.frame (F := Ideal) m ρ
/-- The single-token state-space kernel leaves its arguments as launched and every counter at zero. -/
theorem frame_kernel9 : Cert.quiescent_Kernel9 := fun m ρ _ => Cert.Kernel9.Gen.frame (F := Bits) m ρ
/-- The same of the idealized kernel. -/
theorem frame_kernel9Ideal : Cert.quiescent_Kernel9Ideal := fun m ρ _ => Cert.Kernel9Ideal.Gen.frame (F := Ideal) m ρ

/-- Everything claimed. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts, Cert.Kernel6.Gen.facts, Cert.Kernel6Ideal.Gen.facts, Cert.Reference6Ideal.Gen.facts,
    Cert.Kernel7.Gen.facts, Cert.Kernel7Ideal.Gen.facts, Cert.Reference7Ideal.Gen.facts, Cert.Kernel8.Gen.facts, Cert.Kernel8Ideal.Gen.facts, Cert.Reference8Ideal.Gen.facts,
    Cert.Kernel9.Gen.facts, Cert.Kernel9Ideal.Gen.facts, Cert.Reference9Ideal.Gen.facts,
    AttnClaim.pre_facts,
    frame_kernel, frame_kernelIdeal, fun m ρ _ => frame_kernelIdeal m ρ trivial, AttnClaim.frame_ref, fun m ρ _ => AttnClaim.frame_ref m ρ trivial, frame_kernel2, frame_kernel2Ideal, FfnClaim.frame_ref,
    frame_kernel3, frame_kernel3Ideal, MergeClaim.frame_ref, frame_kernel4, frame_kernel4Ideal, OutpClaim.frame_ref,
    frame_kernel5, frame_kernel5Ideal, InpClaim.frame_ref, frame_kernel6, frame_kernel6Ideal, ConvClaim.frame_ref, frame_kernel7, frame_kernel7Ideal, CpClaim.frame_ref,
    frame_kernel8, frame_kernel8Ideal, FsClaim.frame_ref,
    frame_kernel9, frame_kernel9Ideal, SsdClaim.frame_ref,
    trivial, AttnClaim.algebraic, trivial, FfnClaim.algebraic, trivial, MergeClaim.algebraic, trivial, OutpClaim.algebraic,
    trivial, InpClaim.algebraic, trivial, ConvClaim.algebraic,
    trivial, CpClaim.algebraic, trivial, FsClaim.algebraic,
    trivial, SsdClaim.algebraic⟩

end Cert.Proof

end
